-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  IdealRules.named_const.Statement Cert.Kernel3Ideal.κ "mask" .f32 0xF149F2CA#32 ⊥

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v69) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v15_0)) (v1 : (c : Dev Cert.Kernel4Ideal.nD) → Buf (Elt Ideal) ((c.tc : Thread Cert.Kernel4Ideal.nD Cert.Kernel4Ideal.τ).loc Cert.Kernel4Ideal.main_v15_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v15_0) = v0 c
          ∧ r.2.mem ((c.tc : Thread Cert.Kernel4Ideal.nD Cert.Kernel4Ideal.τ).loc Cert.Kernel4Ideal.main_v15_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_v26) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal) (hPre_in_range := hPre_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_in_range.lean ====
abbrev S42 : Shape := ⟨1, ![42]⟩
abbrev S43008x1024 : Shape := ⟨2, ![43008, 1024]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S42 : S_.BroadcastsInDim S42 (![] : Fin 0 → Fin S42.rank)
  reducesTo_S42_S_d0 : S42.ReducesTo [0] S_
  h_S_ : 0 < S_.numel

variable [Facts]

def fn {F : FTy → Type} [FloatOps F] (main_arg0 : IVec S42 32) (main_arg1 : IVec S42 32) (main_arg2 : FVec F S43008x1024 .f32) (main_arg3 : FVec F S8x1024x3584 .f32) (main_arg4 : FVec F S8x1024x3584 .f32) (main_arg5 : FVec F S8x3584x1024 .f32) : IVec S_ 1 :=
  let main_c : IVec S_ 32 := constantI S_ 32 0#32
  let main_v0 : IVec S42 32 := broadcastInDim S42 ![] bcast_S_S42 main_c
  let main_v1 : IVec S42 1 := cmpi .sge main_arg0 main_v0
  let main_c_0 : IVec S_ 1 := constantI S_ 1 1#1
  let main_v2 : IVec S_ 1 := (fun x v => Host.reduce IntOp.andi x v reducesTo_S42_S_d0 h_S_) main_v1 main_c_0
  let main_c_1 : IVec S_ 32 := constantI S_ 32 8#32
  let main_v3 : IVec S42 32 := broadcastInDim S42 ![] bcast_S_S42 main_c_1
  let main_v4 : IVec S42 1 := cmpi .slt main_arg0 main_v3
  let main_c_2 : IVec S_ 1 := constantI S_ 1 1#1
  let main_v5 : IVec S_ 1 := (fun x v => Host.reduce IntOp.andi x v reducesTo_S42_S_d0 h_S_) main_v4 main_c_2
  let main_v6 : IVec S_ 1 := andi main_v2 main_v5
  let main_c_3 : IVec S_ 32 := constantI S_ 32 1024#32
  let main_v7 : IVec S42 32 := broadcastInDim S42 ![] bcast_S_S42 main_c_3
  let main_v8 : IVec S42 1 := cmpi .sle main_arg1 main_v7
  let main_c_4 : IVec S_ 1 := constantI S_ 1 1#1
  let main_v9 : IVec S_ 1 := (fun x v => Host.reduce IntOp.andi x v reducesTo_S42_S_d0 h_S_) main_v8 main_c_4
  let main_v10 : IVec S_ 1 := andi main_v6 main_v9
  main_v10
-- ==== Kernel.lean ====
abbrev S42 : Shape := ⟨1, ![42]⟩
abbrev S43008x1024 : Shape := ⟨2, ![43008, 1024]⟩
abbrev S8x1024x3584 : Shape := ⟨3, ![8, 1024, 3584]⟩
abbrev S8x3584x1024 : Shape := ⟨3, ![8, 3584, 1024]⟩
abbrev S1024x1024 : Shape := ⟨2, ![1024, 1024]⟩
abbrev S1 : Shape := ⟨1, ![1]⟩
abbrev S1x1024x512 : Shape := ⟨3, ![1, 1024, 512]⟩
abbrev S1x512x1024 : Shape := ⟨3, ![1, 512, 1024]⟩
abbrev S1024x1 : Shape := ⟨2, ![1024, 1]⟩
abbrev S1024x512 : Shape := ⟨2, ![1024, 512]⟩
abbrev S512x1024 : Shape := ⟨2, ![512, 1024]⟩
abbrev S256x1024 : Shape := ⟨2, ![256, 1024]⟩
abbrev S256x512 : Shape := ⟨2, ![256, 512]⟩

abbrev nBuf : Space → Nat
  | .hbm => 5
  | .vmem => 11
  | .smem => 2
  | _ => 0

abbrev bufTy : (tb : Table) → Fin (tcTables nBuf tb) → BufTy
  | .hbm, ⟨0, _⟩ => ⟨S43008x1024, .f32⟩
  | .hbm, ⟨1, _⟩ => ⟨S8x1024x3584, .f32⟩
  | .hbm, ⟨2, _⟩ => ⟨S8x1024x3584, .f32⟩
  | .hbm, ⟨3, _⟩ => ⟨S8x3584x1024, .f32⟩
  | .hbm, ⟨4, _⟩ => ⟨S43008x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .smem, ⟨0, _⟩ => ⟨S42, .i32⟩
  | .local _ .smem, ⟨1, _⟩ => ⟨S42, .i32⟩
  | _, _ => ⟨S43008x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![42, 7], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop (v1 : BitVec 32) : Scf.Loop 32 :=
  let c0_i32_8 : BitVec 32 := 0#32
  let c256_i32 : BitVec 32 := 256#32
  let v16 : BitVec 32 := Scalar.addi v1 c256_i32
  let c1_i32 : BitVec 32 := 1#32
  let v17 : BitVec 32 := Scalar.subi v16 c1_i32
  let c8_i32 : BitVec 32 := 8#32
  let v18 : BitVec 32 := Scalar.shrsi v17 c8_i32
  let v19 : BitVec 32 := Scalar.subi v18 c0_i32_8
  let c1_i32_9 : BitVec 32 := 1#32
  let v21 : BitVec 32 := Scalar.divsi v19 c1_i32_9
  let v22 : BitVec 32 := Scalar.muli v21 c1_i32_9
  let v23 : BitVec 32 := Scalar.addi c0_i32_8 v22
  let c1_i32_10 : BitVec 32 := 1#32
  ⟨c0_i32_8, v23, c1_i32_10⟩
def k0_cond5 (v1 : BitVec 32) : BitVec 1 :=
  let c1024_i32_3 : BitVec 32 := 1024#32
  let v10 : BitVec 1 := Scalar.cmpi .slt v1 c1024_i32_3
  let v11 : BitVec 32 := Scalar.extui v10
  let c0_i32_4 : BitVec 32 := 0#32
  let v12 : BitVec 1 := Scalar.cmpi .ne v11 c0_i32_4
  v12

def k0_mult1 (v1 : BitVec 32) (k0_t1 : Fin (k0_t1_loop v1).trips) : BitVec 32 :=
  let c0_i32_8 : BitVec 32 := 0#32
  let c1_i32_10 : BitVec 32 := 1#32
  let arg10 : BitVec 32 := Scf.iv c0_i32_8 c1_i32_10 k0_t1
  let c256_i32_12 : BitVec 32 := 256#32
  let v24 : BitVec 32 := Scalar.muli arg10 c256_i32_12
  v24
def k0_off2 (v1 : BitVec 32) (k0_t1 : Fin (k0_t1_loop v1).trips) : Fin 2 → Nat :=
  let c0_i32_8 : BitVec 32 := 0#32
  let c1_i32_10 : BitVec 32 := 1#32
  let arg10 : BitVec 32 := Scf.iv c0_i32_8 c1_i32_10 k0_t1
  let c256_i32_12 : BitVec 32 := 256#32
  let v24 : BitVec 32 := Scalar.muli arg10 c256_i32_12
  let v25 : BitVec 32 := v24
  let v26 : Index := Scalar.indexCast v25
  let c0 : Index := 0#32
  ![v26.toNat, 0]
@[reducible] def k0_t2_loop (v1 : BitVec 32) : Scf.Loop 32 :=
  let c0_i32_8 : BitVec 32 := 0#32
  let c256_i32 : BitVec 32 := 256#32
  let v16 : BitVec 32 := Scalar.addi v1 c256_i32
  let c1_i32 : BitVec 32 := 1#32
  let v17 : BitVec 32 := Scalar.subi v16 c1_i32
  let c8_i32 : BitVec 32 := 8#32
  let v18 : BitVec 32 := Scalar.shrsi v17 c8_i32
  let v19 : BitVec 32 := Scalar.subi v18 c0_i32_8
  let c1_i32_9 : BitVec 32 := 1#32
  let v21 : BitVec 32 := Scalar.divsi v19 c1_i32_9
  let v22 : BitVec 32 := Scalar.muli v21 c1_i32_9
  let v23 : BitVec 32 := Scalar.addi c0_i32_8 v22
  let v20 : BitVec 32 := Scalar.addi c0_i32_8 v19
  let c1_i32_11 : BitVec 32 := 1#32
  ⟨v23, v20, c1_i32_11⟩
def k0_mult2 (v1 : BitVec 32) (k0_t2 : Fin (k0_t2_loop v1).trips) : BitVec 32 :=
  let c0_i32_8 : BitVec 32 := 0#32
  let c256_i32 : BitVec 32 := 256#32
  let v16 : BitVec 32 := Scalar.addi v1 c256_i32
  let c1_i32 : BitVec 32 := 1#32
  let v17 : BitVec 32 := Scalar.subi v16 c1_i32
  let c8_i32 : BitVec 32 := 8#32
  let v18 : BitVec 32 := Scalar.shrsi v17 c8_i32
  let v19 : BitVec 32 := Scalar.subi v18 c0_i32_8
  let c1_i32_9 : BitVec 32 := 1#32
  let v21 : BitVec 32 := Scalar.divsi v19 c1_i32_9
  let v22 : BitVec 32 := Scalar.muli v21 c1_i32_9
  let v23 : BitVec 32 := Scalar.addi c0_i32_8 v22
  let c1_i32_11 : BitVec 32 := 1#32
  let arg10 : BitVec 32 := Scf.iv v23 c1_i32_11 k0_t2
  let c256_i32_12 : BitVec 32 := 256#32
  let v24 : BitVec 32 := Scalar.muli arg10 c256_i32_12
  v24
def k0_off3 (v1 : BitVec 32) (k0_t2 : Fin (k0_t2_loop v1).trips) : Fin 2 → Nat :=
  let c0_i32_8 : BitVec 32 := 0#32
  let c256_i32 : BitVec 32 := 256#32
  let v16 : BitVec 32 := Scalar.addi v1 c256_i32
  let c1_i32 : BitVec 32 := 1#32
  let v17 : BitVec 32 := Scalar.subi v16 c1_i32
  let c8_i32 : BitVec 32 := 8#32
  let v18 : BitVec 32 := Scalar.shrsi v17 c8_i32
  let v19 : BitVec 32 := Scalar.subi v18 c0_i32_8
  let c1_i32_9 : BitVec 32 := 1#32
  let v21 : BitVec 32 := Scalar.divsi v19 c1_i32_9
  let v22 : BitVec 32 := Scalar.muli v21 c1_i32_9
  let v23 : BitVec 32 := Scalar.addi c0_i32_8 v22
  let c1_i32_11 : BitVec 32 := 1#32
  let arg10 : BitVec 32 := Scf.iv v23 c1_i32_11 k0_t2
  let c256_i32_12 : BitVec 32 := 256#32
  let v24 : BitVec 32 := Scalar.muli arg10 c256_i32_12
  let v25 : BitVec 32 := v24
  let v26 : Index := Scalar.indexCast v25
  let c0 : Index := 0#32
  ![v26.toNat, 0]

def k0_chk1 (v1 : BitVec 32) : Prop :=
  (∀ (k0_h5 : k0_cond5 v1 = 1#1), (k0_t1_loop v1).OK) ∧
  (∀ k0_t1 : Fin (k0_t1_loop v1).trips, ∀ (k0_h5 : k0_cond5 v1 = 1#1), 256 ∣ (k0_mult1 v1 k0_t1).toNat) ∧
  (∀ k0_t1 : Fin (k0_t1_loop v1).trips, ∀ (k0_h5 : k0_cond5 v1 = 1#1), ∀ a, (k0_off2 v1 k0_t1) a + S256x1024.size a ≤ S1024x1024.size a) ∧
  (∀ (k0_h5 : k0_cond5 v1 = 1#1), (k0_t2_loop v1).OK) ∧
  (∀ k0_t2 : Fin (k0_t2_loop v1).trips, ∀ (k0_h5 : k0_cond5 v1 = 1#1), 256 ∣ (k0_mult2 v1 k0_t2).toNat) ∧
  (∀ k0_t2 : Fin (k0_t2_loop v1).trips, ∀ (k0_h5 : k0_cond5 v1 = 1#1), ∀ a, (k0_off3 v1 k0_t2) a + S256x1024.size a ≤ S1024x1024.size a)
theorem k0_t1_ok : ∀ (v1 : BitVec 32) (k0_hw1 : k0_chk1 v1), ∀ (k0_h5 : k0_cond5 v1 = 1#1), (k0_t1_loop v1).OK := fun v1 k0_hw1 k0_h5 => k0_hw1.1 k0_h5
theorem k0_mult1_dvd : ∀ (v1 : BitVec 32) (k0_hw1 : k0_chk1 v1) (k0_t1 : Fin (k0_t1_loop v1).trips), ∀ (k0_h5 : k0_cond5 v1 = 1#1), 256 ∣ (k0_mult1 v1 k0_t1).toNat := fun v1 k0_hw1 k0_t1 k0_h5 => k0_hw1.2.1 k0_t1 k0_h5
theorem k0_off2_inb : ∀ (v1 : BitVec 32) (k0_hw1 : k0_chk1 v1) (k0_t1 : Fin (k0_t1_loop v1).trips), ∀ (k0_h5 : k0_cond5 v1 = 1#1), ∀ a, (k0_off2 v1 k0_t1) a + S256x1024.size a ≤ S1024x1024.size a := fun v1 k0_hw1 k0_t1 k0_h5 => k0_hw1.2.2.1 k0_t1 k0_h5
theorem k0_t2_ok : ∀ (v1 : BitVec 32) (k0_hw1 : k0_chk1 v1), ∀ (k0_h5 : k0_cond5 v1 = 1#1), (k0_t2_loop v1).OK := fun v1 k0_hw1 k0_h5 => k0_hw1.2.2.2.1 k0_h5
theorem k0_mult2_dvd : ∀ (v1 : BitVec 32) (k0_hw1 : k0_chk1 v1) (k0_t2 : Fin (k0_t2_loop v1).trips), ∀ (k0_h5 : k0_cond5 v1 = 1#1), 256 ∣ (k0_mult2 v1 k0_t2).toNat := fun v1 k0_hw1 k0_t2 k0_h5 => k0_hw1.2.2.2.2.1 k0_t2 k0_h5
theorem k0_off3_inb : ∀ (v1 : BitVec 32) (k0_hw1 : k0_chk1 v1) (k0_t2 : Fin (k0_t2_loop v1).trips), ∀ (k0_h5 : k0_cond5 v1 = 1#1), ∀ a, (k0_off3 v1 k0_t2) a + S256x1024.size a ≤ S1024x1024.size a := fun v1 k0_hw1 k0_t2 k0_h5 => k0_hw1.2.2.2.2.2 k0_t2 k0_h5

def k0_cond2 (v1 : BitVec 32) : BitVec 1 :=
  let c1024_i32 : BitVec 32 := 1024#32
  let v7 : BitVec 1 := Scalar.cmpi .eq v1 c1024_i32
  let v8 : BitVec 32 := Scalar.extui v7
  let c0_i32_2 : BitVec 32 := 0#32
  let v9 : BitVec 1 := Scalar.cmpi .ne v8 c0_i32_2
  v9

def k0_cond3 (i : grid0.Coords) : BitVec 1 :=
  let arg1 : BitVec 32 := BitVec.ofNat 32 (i 1).val
  let c0_i32_20 : BitVec 32 := 0#32
  let v36 : BitVec 1 := Scalar.cmpi .eq arg1 c0_i32_20
  let v37 : BitVec 32 := Scalar.extui v36
  let c0_i32_21 : BitVec 32 := 0#32
  let v38 : BitVec 1 := Scalar.cmpi .ne v37 c0_i32_21
  v38

def k0_cond4 (i : grid0.Coords) : BitVec 1 :=
  let arg1 : BitVec 32 := BitVec.ofNat 32 (i 1).val
  let c0_i32_22 : BitVec 32 := 0#32
  let v39 : BitVec 1 := Scalar.cmpi .ne arg1 c0_i32_22
  let v40 : BitVec 32 := Scalar.extui v39
  let c0_i32_23 : BitVec 32 := 0#32
  let v41 : BitVec 1 := Scalar.cmpi .ne v40 c0_i32_23
  v41

def k0_cond6 (i : grid0.Coords) : BitVec 1 :=
  let arg1 : BitVec 32 := BitVec.ofNat 32 (i 1).val
  let c0_i32_5 : BitVec 32 := 0#32
  let v13 : BitVec 1 := Scalar.cmpi .eq arg1 c0_i32_5
  let v14 : BitVec 32 := Scalar.extui v13
  let c0_i32_6 : BitVec 32 := 0#32
  let v15 : BitVec 1 := Scalar.cmpi .ne v14 c0_i32_6
  v15

def cc0_transform_0 (k0_off1_inb : ∀ i : grid0.Coords, ∀ a, (k0_off1 i) a + S1.size a ≤ S42.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S42) ![v0.toNat] S1.size (k0_off1_inb i)) numel1_S1
  let c0_i32 : BitVec 32 := 0#32
  let v2 : BitVec 1 := Scalar.cmpi .sgt v1 c0_i32
  let c0_i32_0 : BitVec 32 := 0#32
  let v3 : BitVec 32 := Scalar.select v2 arg0 c0_i32_0
  let c0_i32_1 : BitVec 32 := 0#32
  let c0_i32_2 : BitVec 32 := 0#32
  ![v3.toNat, c0_i32_1.toNat]

def cc0_transform_1 (k0_off1_inb : ∀ i : grid0.Coords, ∀ a, (k0_off1 i) a + S1.size a ≤ S42.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S42) ![v0.toNat] S1.size (k0_off1_inb i)) numel1_S1
  let v2 : Index := Scalar.indexCast arg0
  let v3 : BitVec 32 := pf.at 1 (Rect.unit (s := S42) ![v2.toNat] S1.size (k0_off1_inb i)) numel1_S1
  let c0_i32 : BitVec 32 := 0#32
  let v4 : BitVec 1 := Scalar.cmpi .sgt v3 c0_i32
  let v5 : BitVec 32 := Scalar.extui v4
  let v6 : BitVec 32 := Scalar.muli arg1 v5
  let c1_i32 : BitVec 32 := 1#32
  let v7 : BitVec 32 := Scalar.subi c1_i32 v5
  let c6_i32 : BitVec 32 := 6#32
  let v8 : BitVec 32 := Scalar.muli c6_i32 v7
  let v9 : BitVec 32 := Scalar.addi v6 v8
  let c0_i32_0 : BitVec 32 := 0#32
  let c0_i32_1 : BitVec 32 := 0#32
  ![v1.toNat, c0_i32_0.toNat, v9.toNat]

def cc0_transform_2 (k0_off1_inb : ∀ i : grid0.Coords, ∀ a, (k0_off1 i) a + S1.size a ≤ S42.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S42) ![v0.toNat] S1.size (k0_off1_inb i)) numel1_S1
  let v2 : Index := Scalar.indexCast arg0
  let v3 : BitVec 32 := pf.at 1 (Rect.unit (s := S42) ![v2.toNat] S1.size (k0_off1_inb i)) numel1_S1
  let c0_i32 : BitVec 32 := 0#32
  let v4 : BitVec 1 := Scalar.cmpi .sgt v3 c0_i32
  let v5 : BitVec 32 := Scalar.extui v4
  let v6 : BitVec 32 := Scalar.muli arg1 v5
  let c1_i32 : BitVec 32 := 1#32
  let v7 : BitVec 32 := Scalar.subi c1_i32 v5
  let c6_i32 : BitVec 32 := 6#32
  let v8 : BitVec 32 := Scalar.muli c6_i32 v7
  let v9 : BitVec 32 := Scalar.addi v6 v8
  let c0_i32_0 : BitVec 32 := 0#32
  let c0_i32_1 : BitVec 32 := 0#32
  ![v1.toNat, c0_i32_0.toNat, v9.toNat]

def cc0_transform_3 (k0_off1_inb : ∀ i : grid0.Coords, ∀ a, (k0_off1 i) a + S1.size a ≤ S42.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S42) ![v0.toNat] S1.size (k0_off1_inb i)) numel1_S1
  let v2 : Index := Scalar.indexCast arg0
  let v3 : BitVec 32 := pf.at 1 (Rect.unit (s := S42) ![v2.toNat] S1.size (k0_off1_inb i)) numel1_S1
  let c0_i32 : BitVec 32 := 0#32
  let v4 : BitVec 1 := Scalar.cmpi .sgt v3 c0_i32
  let v5 : BitVec 32 := Scalar.extui v4
  let v6 : BitVec 32 := Scalar.muli arg1 v5
  let c1_i32 : BitVec 32 := 1#32
  let v7 : BitVec 32 := Scalar.subi c1_i32 v5
  let c6_i32 : BitVec 32 := 6#32
  let v8 : BitVec 32 := Scalar.muli c6_i32 v7
  let v9 : BitVec 32 := Scalar.addi v6 v8
  let c0_i32_0 : BitVec 32 := 0#32
  let c0_i32_1 : BitVec 32 := 0#32
  ![v1.toNat, v9.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S42 : Shape := ⟨1, ![42]⟩
abbrev S43008x1024 : Shape := ⟨2, ![43008, 1024]⟩
abbrev S8x1024x3584 : Shape := ⟨3, ![8, 1024, 3584]⟩
abbrev S8x3584x1024 : Shape := ⟨3, ![8, 3584, 1024]⟩
abbrev S42x1024 : Shape := ⟨2, ![42, 1024]⟩
abbrev S42x1 : Shape := ⟨2, ![42, 1]⟩
abbrev S_ : Shape := ⟨0, ![]⟩
abbrev S43008x1 : Shape := ⟨2, ![43008, 1]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S43008x3584 : Shape := ⟨2, ![43008, 3584]⟩

abbrev nBuf : Space → Nat
  | .hbm => 292
  | .vmem => 0
  | .smem => 0
  | _ => 0

abbrev hbmTy0_0 (i : Nat) : BufTy := match i % 128 with
  | 0 => ⟨S42, .i32⟩
  | 1 => ⟨S42, .i32⟩
  | 2 => ⟨S43008x1024, .f32⟩
  | 3 => ⟨S8x1024x3584, .f32⟩
  | 4 => ⟨S8x1024x3584, .f32⟩
  | 5 => ⟨S8x3584x1024, .f32⟩
  | 6 => ⟨S42x1024, .i32⟩
  | 7 => ⟨S42x1, .i32⟩
  | 8 => ⟨S42x1024, .i32⟩
  | 9 => ⟨S42x1024, .i1⟩
  | 10 => ⟨S_, .f32⟩
  | 11 => ⟨S43008x1024, .f32⟩
  | 12 => ⟨S42x1, .i32⟩
  | 13 => ⟨S_, .i32⟩
  | 14 => ⟨S42x1, .i32⟩
  | 15 => ⟨S42x1, .i1⟩
  | 16 => ⟨S42x1024, .i1⟩
  | 17 => ⟨S42x1024, .i1⟩
  | 18 => ⟨S_, .f32⟩
  | 19 => ⟨S_, .f32⟩
  | 20 => ⟨S42x1024, .f32⟩
  | 21 => ⟨S42x1024, .f32⟩
  | 22 => ⟨S42x1024, .f32⟩
  | 23 => ⟨S43008x1, .f32⟩
  | 24 => ⟨S1x1024x3584, .f32⟩
  | 25 => ⟨S1024x3584, .f32⟩
  | 26 => ⟨S1x1024x3584, .f32⟩
  | 27 => ⟨S1024x3584, .f32⟩
  | 28 => ⟨S1x3584x1024, .f32⟩
  | 29 => ⟨S3584x1024, .f32⟩
  | 30 => ⟨S43008x3584, .f32⟩
  | 31 => ⟨S43008x3584, .f32⟩
  | 32 => ⟨S43008x3584, .f32⟩
  | 33 => ⟨S_, .f32⟩
  | 34 => ⟨S43008x3584, .f32⟩
  | 35 => ⟨S43008x3584, .f32⟩
  | 36 => ⟨S_, .f32⟩
  | 37 => ⟨S43008x3584, .f32⟩
  | 38 => ⟨S43008x3584, .f32⟩
  | 39 => ⟨S43008x3584, .f32⟩
  | 40 => ⟨S43008x3584, .f32⟩
  | 41 => ⟨S43008x3584, .f32⟩
  | 42 => ⟨S43008x1024, .f32⟩
  | 43 => ⟨S43008x1, .f32⟩
  | 44 => ⟨S43008x1024, .f32⟩
  | 45 => ⟨S43008x1024, .f32⟩
  | 46 => ⟨S43008x1024, .f32⟩
  | 47 => ⟨S42x1, .i32⟩
  | 48 => ⟨S_, .i32⟩
  | 49 => ⟨S42x1, .i32⟩
  | 50 => ⟨S42x1, .i1⟩
  | 51 => ⟨S42x1024, .i1⟩
  | 52 => ⟨S42x1024, .i1⟩
  | 53 => ⟨S_, .f32⟩
  | 54 => ⟨S_, .f32⟩
  | 55 => ⟨S42x1024, .f32⟩
  | 56 => ⟨S42x1024, .f32⟩
  | 57 => ⟨S42x1024, .f32⟩
  | 58 => ⟨S43008x1, .f32⟩
  | 59 => ⟨S1x1024x3584, .f32⟩
  | 60 => ⟨S1024x3584, .f32⟩
  | 61 => ⟨S1x1024x3584, .f32⟩
  | 62 => ⟨S1024x3584, .f32⟩
  | 63 => ⟨S1x3584x1024, .f32⟩
  | 64 => ⟨S3584x1024, .f32⟩
  | 65 => ⟨S43008x3584, .f32⟩
  | 66 => ⟨S43008x3584, .f32⟩
  | 67 => ⟨S43008x3584, .f32⟩
  | 68 => ⟨S_, .f32⟩
  | 69 => ⟨S43008x3584, .f32⟩
  | 70 => ⟨S43008x3584, .f32⟩
  | 71 => ⟨S_, .f32⟩
  | 72 => ⟨S43008x3584, .f32⟩
  | 73 => ⟨S43008x3584, .f32⟩
  | 74 => ⟨S43008x3584, .f32⟩
  | 75 => ⟨S43008x3584, .f32⟩
  | 76 => ⟨S43008x3584, .f32⟩
  | 77 => ⟨S43008x1024, .f32⟩
  | 78 => ⟨S43008x1, .f32⟩
  | 79 => ⟨S43008x1024, .f32⟩
  | 80 => ⟨S43008x1024, .f32⟩
  | 81 => ⟨S43008x1024, .f32⟩
  | 82 => ⟨S42x1, .i32⟩
  | 83 => ⟨S_, .i32⟩
  | 84 => ⟨S42x1, .i32⟩
  | 85 => ⟨S42x1, .i1⟩
  | 86 => ⟨S42x1024, .i1⟩
  | 87 => ⟨S42x1024, .i1⟩
  | 88 => ⟨S_, .f32⟩
  | 89 => ⟨S_, .f32⟩
  | 90 => ⟨S42x1024, .f32⟩
  | 91 => ⟨S42x1024, .f32⟩
  | 92 => ⟨S42x1024, .f32⟩
  | 93 => ⟨S43008x1, .f32⟩
  | 94 => ⟨S1x1024x3584, .f32⟩
  | 95 => ⟨S1024x3584, .f32⟩
  | 96 => ⟨S1x1024x3584, .f32⟩
  | 97 => ⟨S1024x3584, .f32⟩
  | 98 => ⟨S1x3584x1024, .f32⟩
  | 99 => ⟨S3584x1024, .f32⟩
  | 100 => ⟨S43008x3584, .f32⟩
  | 101 => ⟨S43008x3584, .f32⟩
  | 102 => ⟨S43008x3584, .f32⟩
  | 103 => ⟨S_, .f32⟩
  | 104 => ⟨S43008x3584, .f32⟩
  | 105 => ⟨S43008x3584, .f32⟩
  | 106 => ⟨S_, .f32⟩
  | 107 => ⟨S43008x3584, .f32⟩
  | 108 => ⟨S43008x3584, .f32⟩
  | 109 => ⟨S43008x3584, .f32⟩
  | 110 => ⟨S43008x3584, .f32⟩
  | 111 => ⟨S43008x3584, .f32⟩
  | 112 => ⟨S43008x1024, .f32⟩
  | 113 => ⟨S43008x1, .f32⟩
  | 114 => ⟨S43008x1024, .f32⟩
  | 115 => ⟨S43008x1024, .f32⟩
  | 116 => ⟨S43008x1024, .f32⟩
  | 117 => ⟨S42x1, .i32⟩
  | 118 => ⟨S_, .i32⟩
  | 119 => ⟨S42x1, .i32⟩
  | 120 => ⟨S42x1, .i1⟩
  | 121 => ⟨S42x1024, .i1⟩
  | 122 => ⟨S42x1024, .i1⟩
  | 123 => ⟨S_, .f32⟩
  | 124 => ⟨S_, .f32⟩
  | 125 => ⟨S42x1024, .f32⟩
  | 126 => ⟨S42x1024, .f32⟩
  | 127 => ⟨S42x1024, .f32⟩
  | _ => ⟨S42, .i32⟩

abbrev hbmTy0_1 (i : Nat) : BufTy := match i % 128 with
  | 0 => ⟨S43008x1, .f32⟩
  | 1 => ⟨S1x1024x3584, .f32⟩
  | 2 => ⟨S1024x3584, .f32⟩
  | 3 => ⟨S1x1024x3584, .f32⟩
  | 4 => ⟨S1024x3584, .f32⟩
  | 5 => ⟨S1x3584x1024, .f32⟩
  | 6 => ⟨S3584x1024, .f32⟩
  | 7 => ⟨S43008x3584, .f32⟩
  | 8 => ⟨S43008x3584, .f32⟩
  | 9 => ⟨S43008x3584, .f32⟩
  | 10 => ⟨S_, .f32⟩
  | 11 => ⟨S43008x3584, .f32⟩
  | 12 => ⟨S43008x3584, .f32⟩
  | 13 => ⟨S_, .f32⟩
  | 14 => ⟨S43008x3584, .f32⟩
  | 15 => ⟨S43008x3584, .f32⟩
  | 16 => ⟨S43008x3584, .f32⟩
  | 17 => ⟨S43008x3584, .f32⟩
  | 18 => ⟨S43008x3584, .f32⟩
  | 19 => ⟨S43008x1024, .f32⟩
  | 20 => ⟨S43008x1, .f32⟩
  | 21 => ⟨S43008x1024, .f32⟩
  | 22 => ⟨S43008x1024, .f32⟩
  | 23 => ⟨S43008x1024, .f32⟩
  | 24 => ⟨S42x1, .i32⟩
  | 25 => ⟨S_, .i32⟩
  | 26 => ⟨S42x1, .i32⟩
  | 27 => ⟨S42x1, .i1⟩
  | 28 => ⟨S42x1024, .i1⟩
  | 29 => ⟨S42x1024, .i1⟩
  | 30 => ⟨S_, .f32⟩
  | 31 => ⟨S_, .f32⟩
  | 32 => ⟨S42x1024, .f32⟩
  | 33 => ⟨S42x1024, .f32⟩
  | 34 => ⟨S42x1024, .f32⟩
  | 35 => ⟨S43008x1, .f32⟩
  | 36 => ⟨S1x1024x3584, .f32⟩
  | 37 => ⟨S1024x3584, .f32⟩
  | 38 => ⟨S1x1024x3584, .f32⟩
  | 39 => ⟨S1024x3584, .f32⟩
  | 40 => ⟨S1x3584x1024, .f32⟩
  | 41 => ⟨S3584x1024, .f32⟩
  | 42 => ⟨S43008x3584, .f32⟩
  | 43 => ⟨S43008x3584, .f32⟩
  | 44 => ⟨S43008x3584, .f32⟩
  | 45 => ⟨S_, .f32⟩
  | 46 => ⟨S43008x3584, .f32⟩
  | 47 => ⟨S43008x3584, .f32⟩
  | 48 => ⟨S_, .f32⟩
  | 49 => ⟨S43008x3584, .f32⟩
  | 50 => ⟨S43008x3584, .f32⟩
  | 51 => ⟨S43008x3584, .f32⟩
  | 52 => ⟨S43008x3584, .f32⟩
  | 53 => ⟨S43008x3584, .f32⟩
  | 54 => ⟨S43008x1024, .f32⟩
  | 55 => ⟨S43008x1, .f32⟩
  | 56 => ⟨S43008x1024, .f32⟩
  | 57 => ⟨S43008x1024, .f32⟩
  | 58 => ⟨S43008x1024, .f32⟩
  | 59 => ⟨S42x1, .i32⟩
  | 60 => ⟨S_, .i32⟩
  | 61 => ⟨S42x1, .i32⟩
  | 62 => ⟨S42x1, .i1⟩
  | 63 => ⟨S42x1024, .i1⟩
  | 64 => ⟨S42x1024, .i1⟩
  | 65 => ⟨S_, .f32⟩
  | 66 => ⟨S_, .f32⟩
  | 67 => ⟨S42x1024, .f32⟩
  | 68 => ⟨S42x1024, .f32⟩
  | 69 => ⟨S42x1024, .f32⟩
  | 70 => ⟨S43008x1, .f32⟩
  | 71 => ⟨S1x1024x3584, .f32⟩
  | 72 => ⟨S1024x3584, .f32⟩
  | 73 => ⟨S1x1024x3584, .f32⟩
  | 74 => ⟨S1024x3584, .f32⟩
  | 75 => ⟨S1x3584x1024, .f32⟩
  | 76 => ⟨S3584x1024, .f32⟩
  | 77 => ⟨S43008x3584, .f32⟩
  | 78 => ⟨S43008x3584, .f32⟩
  | 79 => ⟨S43008x3584, .f32⟩
  | 80 => ⟨S_, .f32⟩
  | 81 => ⟨S43008x3584, .f32⟩
  | 82 => ⟨S43008x3584, .f32⟩
  | 83 => ⟨S_, .f32⟩
  | 84 => ⟨S43008x3584, .f32⟩
  | 85 => ⟨S43008x3584, .f32⟩
  | 86 => ⟨S43008x3584, .f32⟩
  | 87 => ⟨S43008x3584, .f32⟩
  | 88 => ⟨S43008x3584, .f32⟩
  | 89 => ⟨S43008x1024, .f32⟩
  | 90 => ⟨S43008x1, .f32⟩
  | 91 => ⟨S43008x1024, .f32⟩
  | 92 => ⟨S43008x1024, .f32⟩
  | 93 => ⟨S43008x1024, .f32⟩
  | 94 => ⟨S42x1, .i32⟩
  | 95 => ⟨S_, .i32⟩
  | 96 => ⟨S42x1, .i32⟩
  | 97 => ⟨S42x1, .i1⟩
  | 98 => ⟨S42x1024, .i1⟩
  | 99 => ⟨S42x1024, .i1⟩
  | 100 => ⟨S_, .f32⟩
  | 101 => ⟨S_, .f32⟩
  | 102 => ⟨S42x1024, .f32⟩
  | 103 => ⟨S42x1024, .f32⟩
  | 104 => ⟨S42x1024, .f32⟩
  | 105 => ⟨S43008x1, .f32⟩
  | 106 => ⟨S1x1024x3584, .f32⟩
  | 107 => ⟨S1024x3584, .f32⟩
  | 108 => ⟨S1x1024x3584, .f32⟩
  | 109 => ⟨S1024x3584, .f32⟩
  | 110 => ⟨S1x3584x1024, .f32⟩
  | 111 => ⟨S3584x1024, .f32⟩
  | 112 => ⟨S43008x3584, .f32⟩
  | 113 => ⟨S43008x3584, .f32⟩
  | 114 => ⟨S43008x3584, .f32⟩
  | 115 => ⟨S_, .f32⟩
  | 116 => ⟨S43008x3584, .f32⟩
  | 117 => ⟨S43008x3584, .f32⟩
  | 118 => ⟨S_, .f32⟩
  | 119 => ⟨S43008x3584, .f32⟩
  | 120 => ⟨S43008x3584, .f32⟩
  | 121 => ⟨S43008x3584, .f32⟩
  | 122 => ⟨S43008x3584, .f32⟩
  | 123 => ⟨S43008x3584, .f32⟩
  | 124 => ⟨S43008x1024, .f32⟩
  | 125 => ⟨S43008x1, .f32⟩
  | 126 => ⟨S43008x1024, .f32⟩
  | 127 => ⟨S43008x1024, .f32⟩
  | _ => ⟨S42, .i32⟩

abbrev hbmTy0_2 (i : Nat) : BufTy := match i % 128 with
  | 0 => ⟨S43008x1024, .f32⟩
  | 1 => ⟨S42x1, .i32⟩
  | 2 => ⟨S_, .i32⟩
  | 3 => ⟨S42x1, .i32⟩
  | 4 => ⟨S42x1, .i1⟩
  | 5 => ⟨S42x1024, .i1⟩
  | 6 => ⟨S42x1024, .i1⟩
  | 7 => ⟨S_, .f32⟩
  | 8 => ⟨S_, .f32⟩
  | 9 => ⟨S42x1024, .f32⟩
  | 10 => ⟨S42x1024, .f32⟩
  | 11 => ⟨S42x1024, .f32⟩
  | 12 => ⟨S43008x1, .f32⟩
  | 13 => ⟨S1x1024x3584, .f32⟩
  | 14 => ⟨S1024x3584, .f32⟩
  | 15 => ⟨S1x1024x3584, .f32⟩
  | 16 => ⟨S1024x3584, .f32⟩
  | 17 => ⟨S1x3584x1024, .f32⟩
  | 18 => ⟨S3584x1024, .f32⟩
  | 19 => ⟨S43008x3584, .f32⟩
  | 20 => ⟨S43008x3584, .f32⟩
  | 21 => ⟨S43008x3584, .f32⟩
  | 22 => ⟨S_, .f32⟩
  | 23 => ⟨S43008x3584, .f32⟩
  | 24 => ⟨S43008x3584, .f32⟩
  | 25 => ⟨S_, .f32⟩
  | 26 => ⟨S43008x3584, .f32⟩
  | 27 => ⟨S43008x3584, .f32⟩
  | 28 => ⟨S43008x3584, .f32⟩
  | 29 => ⟨S43008x3584, .f32⟩
  | 30 => ⟨S43008x3584, .f32⟩
  | 31 => ⟨S43008x1024, .f32⟩
  | 32 => ⟨S43008x1, .f32⟩
  | 33 => ⟨S43008x1024, .f32⟩
  | 34 => ⟨S43008x1024, .f32⟩
  | 35 => ⟨S43008x1024, .f32⟩
  | _ => ⟨S42, .i32⟩

abbrev hbmTy (i : Nat) : BufTy := match i / 128 with
  | 0 => hbmTy0_0 i
  | 1 => hbmTy0_1 i
  | 2 => hbmTy0_2 i
  | _ => ⟨S42, .i32⟩

abbrev bufTy : (tb : Table) → Fin (tcTables nBuf tb) → BufTy
  | .hbm, ⟨i, _⟩ => hbmTy i
  | _, _ => ⟨S42, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call1_v0 : Ref sig .tc := ⟨.hbm, 31, rfl⟩
abbrev main_call1_v1 : Ref sig .tc := ⟨.hbm, 32, rfl⟩
abbrev main_call1_cst : Ref sig .tc := ⟨.hbm, 33, rfl⟩
abbrev main_call1_v2 : Ref sig .tc := ⟨.hbm, 34, rfl⟩
abbrev main_call1_v3 : Ref sig .tc := ⟨.hbm, 35, rfl⟩
abbrev main_call1_cst_0 : Ref sig .tc := ⟨.hbm, 36, rfl⟩
abbrev main_call1_v4 : Ref sig .tc := ⟨.hbm, 37, rfl⟩
abbrev main_call1_v5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_2 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_cst_4 : Ref sig .tc := ⟨.hbm, 54, rfl⟩
abbrev main_call2_v0 : Ref sig .tc := ⟨.hbm, 55, rfl⟩
abbrev main_call2_v1 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_call3_v0 : Ref sig .tc := ⟨.hbm, 66, rfl⟩
abbrev main_call3_v1 : Ref sig .tc := ⟨.hbm, 67, rfl⟩
abbrev main_call3_cst : Ref sig .tc := ⟨.hbm, 68, rfl⟩
abbrev main_call3_v2 : Ref sig .tc := ⟨.hbm, 69, rfl⟩
abbrev main_call3_v3 : Ref sig .tc := ⟨.hbm, 70, rfl⟩
abbrev main_call3_cst_0 : Ref sig .tc := ⟨.hbm, 71, rfl⟩
abbrev main_call3_v4 : Ref sig .tc := ⟨.hbm, 72, rfl⟩
abbrev main_call3_v5 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_c_5 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_6 : Ref sig .tc := ⟨.hbm, 88, rfl⟩
abbrev main_cst_7 : Ref sig .tc := ⟨.hbm, 89, rfl⟩
abbrev main_call4_v0 : Ref sig .tc := ⟨.hbm, 90, rfl⟩
abbrev main_call4_v1 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_call5_v0 : Ref sig .tc := ⟨.hbm, 101, rfl⟩
abbrev main_call5_v1 : Ref sig .tc := ⟨.hbm, 102, rfl⟩
abbrev main_call5_cst : Ref sig .tc := ⟨.hbm, 103, rfl⟩
abbrev main_call5_v2 : Ref sig .tc := ⟨.hbm, 104, rfl⟩
abbrev main_call5_v3 : Ref sig .tc := ⟨.hbm, 105, rfl⟩
abbrev main_call5_cst_0 : Ref sig .tc := ⟨.hbm, 106, rfl⟩
abbrev main_call5_v4 : Ref sig .tc := ⟨.hbm, 107, rfl⟩
abbrev main_call5_v5 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_c_8 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_cst_9 : Ref sig .tc := ⟨.hbm, 123, rfl⟩
abbrev main_cst_10 : Ref sig .tc := ⟨.hbm, 124, rfl⟩
abbrev main_call6_v0 : Ref sig .tc := ⟨.hbm, 125, rfl⟩
abbrev main_call6_v1 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_call7_v0 : Ref sig .tc := ⟨.hbm, 136, rfl⟩
abbrev main_call7_v1 : Ref sig .tc := ⟨.hbm, 137, rfl⟩
abbrev main_call7_cst : Ref sig .tc := ⟨.hbm, 138, rfl⟩
abbrev main_call7_v2 : Ref sig .tc := ⟨.hbm, 139, rfl⟩
abbrev main_call7_v3 : Ref sig .tc := ⟨.hbm, 140, rfl⟩
abbrev main_call7_cst_0 : Ref sig .tc := ⟨.hbm, 141, rfl⟩
abbrev main_call7_v4 : Ref sig .tc := ⟨.hbm, 142, rfl⟩
abbrev main_call7_v5 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_c_11 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_cst_12 : Ref sig .tc := ⟨.hbm, 158, rfl⟩
abbrev main_cst_13 : Ref sig .tc := ⟨.hbm, 159, rfl⟩
abbrev main_call8_v0 : Ref sig .tc := ⟨.hbm, 160, rfl⟩
abbrev main_call8_v1 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_call9_v0 : Ref sig .tc := ⟨.hbm, 171, rfl⟩
abbrev main_call9_v1 : Ref sig .tc := ⟨.hbm, 172, rfl⟩
abbrev main_call9_cst : Ref sig .tc := ⟨.hbm, 173, rfl⟩
abbrev main_call9_v2 : Ref sig .tc := ⟨.hbm, 174, rfl⟩
abbrev main_call9_v3 : Ref sig .tc := ⟨.hbm, 175, rfl⟩
abbrev main_call9_cst_0 : Ref sig .tc := ⟨.hbm, 176, rfl⟩
abbrev main_call9_v4 : Ref sig .tc := ⟨.hbm, 177, rfl⟩
abbrev main_call9_v5 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_c_14 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_cst_15 : Ref sig .tc := ⟨.hbm, 193, rfl⟩
abbrev main_cst_16 : Ref sig .tc := ⟨.hbm, 194, rfl⟩
abbrev main_call10_v0 : Ref sig .tc := ⟨.hbm, 195, rfl⟩
abbrev main_call10_v1 : Ref sig .tc := ⟨.hbm, 196, rfl⟩
abbrev main_v120 : Ref sig .tc := ⟨.hbm, 197, rfl⟩
abbrev main_v121 : Ref sig .tc := ⟨.hbm, 198, rfl⟩
abbrev main_v122 : Ref sig .tc := ⟨.hbm, 199, rfl⟩
abbrev main_v123 : Ref sig .tc := ⟨.hbm, 200, rfl⟩
abbrev main_v124 : Ref sig .tc := ⟨.hbm, 201, rfl⟩
abbrev main_v125 : Ref sig .tc := ⟨.hbm, 202, rfl⟩
abbrev main_v126 : Ref sig .tc := ⟨.hbm, 203, rfl⟩
abbrev main_v127 : Ref sig .tc := ⟨.hbm, 204, rfl⟩
abbrev main_v128 : Ref sig .tc := ⟨.hbm, 205, rfl⟩
abbrev main_call11_v0 : Ref sig .tc := ⟨.hbm, 206, rfl⟩
abbrev main_call11_v1 : Ref sig .tc := ⟨.hbm, 207, rfl⟩
abbrev main_call11_cst : Ref sig .tc := ⟨.hbm, 208, rfl⟩
abbrev main_call11_v2 : Ref sig .tc := ⟨.hbm, 209, rfl⟩
abbrev main_call11_v3 : Ref sig .tc := ⟨.hbm, 210, rfl⟩
abbrev main_call11_cst_0 : Ref sig .tc := ⟨.hbm, 211, rfl⟩
abbrev main_call11_v4 : Ref sig .tc := ⟨.hbm, 212, rfl⟩
abbrev main_call11_v5 : Ref sig .tc := ⟨.hbm, 213, rfl⟩
abbrev main_v129 : Ref sig .tc := ⟨.hbm, 214, rfl⟩
abbrev main_v130 : Ref sig .tc := ⟨.hbm, 215, rfl⟩
abbrev main_v131 : Ref sig .tc := ⟨.hbm, 216, rfl⟩
abbrev main_v132 : Ref sig .tc := ⟨.hbm, 217, rfl⟩
abbrev main_v133 : Ref sig .tc := ⟨.hbm, 218, rfl⟩
abbrev main_v134 : Ref sig .tc := ⟨.hbm, 219, rfl⟩
abbrev main_v135 : Ref sig .tc := ⟨.hbm, 220, rfl⟩
abbrev main_v136 : Ref sig .tc := ⟨.hbm, 221, rfl⟩
abbrev main_v137 : Ref sig .tc := ⟨.hbm, 222, rfl⟩
abbrev main_c_17 : Ref sig .tc := ⟨.hbm, 223, rfl⟩
abbrev main_v138 : Ref sig .tc := ⟨.hbm, 224, rfl⟩
abbrev main_v139 : Ref sig .tc := ⟨.hbm, 225, rfl⟩
abbrev main_v140 : Ref sig .tc := ⟨.hbm, 226, rfl⟩
abbrev main_v141 : Ref sig .tc := ⟨.hbm, 227, rfl⟩
abbrev main_cst_18 : Ref sig .tc := ⟨.hbm, 228, rfl⟩
abbrev main_cst_19 : Ref sig .tc := ⟨.hbm, 229, rfl⟩
abbrev main_call12_v0 : Ref sig .tc := ⟨.hbm, 230, rfl⟩
abbrev main_call12_v1 : Ref sig .tc := ⟨.hbm, 231, rfl⟩
abbrev main_v142 : Ref sig .tc := ⟨.hbm, 232, rfl⟩
abbrev main_v143 : Ref sig .tc := ⟨.hbm, 233, rfl⟩
abbrev main_v144 : Ref sig .tc := ⟨.hbm, 234, rfl⟩
abbrev main_v145 : Ref sig .tc := ⟨.hbm, 235, rfl⟩
abbrev main_v146 : Ref sig .tc := ⟨.hbm, 236, rfl⟩
abbrev main_v147 : Ref sig .tc := ⟨.hbm, 237, rfl⟩
abbrev main_v148 : Ref sig .tc := ⟨.hbm, 238, rfl⟩
abbrev main_v149 : Ref sig .tc := ⟨.hbm, 239, rfl⟩
abbrev main_v150 : Ref sig .tc := ⟨.hbm, 240, rfl⟩
abbrev main_call13_v0 : Ref sig .tc := ⟨.hbm, 241, rfl⟩
abbrev main_call13_v1 : Ref sig .tc := ⟨.hbm, 242, rfl⟩
abbrev main_call13_cst : Ref sig .tc := ⟨.hbm, 243, rfl⟩
abbrev main_call13_v2 : Ref sig .tc := ⟨.hbm, 244, rfl⟩
abbrev main_call13_v3 : Ref sig .tc := ⟨.hbm, 245, rfl⟩
abbrev main_call13_cst_0 : Ref sig .tc := ⟨.hbm, 246, rfl⟩
abbrev main_call13_v4 : Ref sig .tc := ⟨.hbm, 247, rfl⟩
abbrev main_call13_v5 : Ref sig .tc := ⟨.hbm, 248, rfl⟩
abbrev main_v151 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩
abbrev main_v155 : Ref sig .tc := ⟨.hbm, 253, rfl⟩
abbrev main_v156 : Ref sig .tc := ⟨.hbm, 254, rfl⟩
abbrev main_v157 : Ref sig .tc := ⟨.hbm, 255, rfl⟩
abbrev main_v158 : Ref sig .tc := ⟨.hbm, 256, rfl⟩
abbrev main_v159 : Ref sig .tc := ⟨.hbm, 257, rfl⟩
abbrev main_c_20 : Ref sig .tc := ⟨.hbm, 258, rfl⟩
abbrev main_v160 : Ref sig .tc := ⟨.hbm, 259, rfl⟩
abbrev main_v161 : Ref sig .tc := ⟨.hbm, 260, rfl⟩
abbrev main_v162 : Ref sig .tc := ⟨.hbm, 261, rfl⟩
abbrev main_v163 : Ref sig .tc := ⟨.hbm, 262, rfl⟩
abbrev main_cst_21 : Ref sig .tc := ⟨.hbm, 263, rfl⟩
abbrev main_cst_22 : Ref sig .tc := ⟨.hbm, 264, rfl⟩
abbrev main_call14_v0 : Ref sig .tc := ⟨.hbm, 265, rfl⟩
abbrev main_call14_v1 : Ref sig .tc := ⟨.hbm, 266, rfl⟩
abbrev main_v164 : Ref sig .tc := ⟨.hbm, 267, rfl⟩
abbrev main_v165 : Ref sig .tc := ⟨.hbm, 268, rfl⟩
abbrev main_v166 : Ref sig .tc := ⟨.hbm, 269, rfl⟩
abbrev main_v167 : Ref sig .tc := ⟨.hbm, 270, rfl⟩
abbrev main_v168 : Ref sig .tc := ⟨.hbm, 271, rfl⟩
abbrev main_v169 : Ref sig .tc := ⟨.hbm, 272, rfl⟩
abbrev main_v170 : Ref sig .tc := ⟨.hbm, 273, rfl⟩
abbrev main_v171 : Ref sig .tc := ⟨.hbm, 274, rfl⟩
abbrev main_v172 : Ref sig .tc := ⟨.hbm, 275, rfl⟩
abbrev main_call15_v0 : Ref sig .tc := ⟨.hbm, 276, rfl⟩
abbrev main_call15_v1 : Ref sig .tc := ⟨.hbm, 277, rfl⟩
abbrev main_call15_cst : Ref sig .tc := ⟨.hbm, 278, rfl⟩
abbrev main_call15_v2 : Ref sig .tc := ⟨.hbm, 279, rfl⟩
abbrev main_call15_v3 : Ref sig .tc := ⟨.hbm, 280, rfl⟩
abbrev main_call15_cst_0 : Ref sig .tc := ⟨.hbm, 281, rfl⟩
abbrev main_call15_v4 : Ref sig .tc := ⟨.hbm, 282, rfl⟩
abbrev main_call15_v5 : Ref sig .tc := ⟨.hbm, 283, rfl⟩
abbrev main_v173 : Ref sig .tc := ⟨.hbm, 284, rfl⟩
abbrev main_v174 : Ref sig .tc := ⟨.hbm, 285, rfl⟩
abbrev main_v175 : Ref sig .tc := ⟨.hbm, 286, rfl⟩
abbrev main_v176 : Ref sig .tc := ⟨.hbm, 287, rfl⟩
abbrev main_v177 : Ref sig .tc := ⟨.hbm, 288, rfl⟩
abbrev main_v178 : Ref sig .tc := ⟨.hbm, 289, rfl⟩
abbrev main_v179 : Ref sig .tc := ⟨.hbm, 290, rfl⟩
abbrev main_v180 : Ref sig .tc := ⟨.hbm, 291, rfl⟩

abbrev nD : Nat := 1
abbrev τ : Topo := Topo.v7x

variable {F : FTy → Type} [FloatOps F]
-- ==== Kernel2.lean ====
abbrev S16384x512 : Shape := ⟨2, ![16384, 512]⟩
abbrev S16384x1024 : Shape := ⟨2, ![16384, 1024]⟩
abbrev S1024x1024 : Shape := ⟨2, ![1024, 1024]⟩
abbrev S4x1x1024 : Shape := ⟨3, ![4, 1, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x512 : Shape := ⟨2, ![512, 512]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S512x2816 : Shape := ⟨2, ![512, 2816]⟩

abbrev nBuf : Space → Nat
  | .hbm => 18
  | .vmem => 21
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .f32⟩
  | .hbm, ⟨3, _⟩ => ⟨S1024x1024, .f32⟩
  | .hbm, ⟨4, _⟩ => ⟨S4x1x1024, .f32⟩
  | .hbm, ⟨5, _⟩ => ⟨S1024, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S1024x1024, .bf16⟩
  | .hbm, ⟨13, _⟩ => ⟨S1x1024, .f32⟩
  | .hbm, ⟨14, _⟩ => ⟨S1024x2816, .bf16⟩
  | .hbm, ⟨15, _⟩ => ⟨S1024x2816, .bf16⟩
  | .hbm, ⟨16, _⟩ => ⟨S2816x1024, .bf16⟩
  | .hbm, ⟨17, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1x1024, .f32⟩
  | .local _ .vmem, ⟨8, _⟩ => ⟨S1x1x1024, .f32⟩
  | .local _ .vmem, ⟨9, _⟩ => ⟨S1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1024x2816, .bf16⟩
  | .local _ .vmem, ⟨17, _⟩ => ⟨S1024x2816, .bf16⟩
  | .local _ .vmem, ⟨18, _⟩ => ⟨S2816x1024, .bf16⟩
  | .local _ .vmem, ⟨19, _⟩ => ⟨S512x1024, .f32⟩
  | .local _ .vmem, ⟨20, _⟩ => ⟨S512x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference2Ideal.lean ====
abbrev S16384x512 : Shape := ⟨2, ![16384, 512]⟩
abbrev S16384x1024 : Shape := ⟨2, ![16384, 1024]⟩
abbrev S1024x1024 : Shape := ⟨2, ![1024, 1024]⟩
abbrev S4x1x1024 : Shape := ⟨3, ![4, 1, 1024]⟩
abbrev S1024 : Shape := ⟨1, ![1024]⟩
abbrev S1024x2816 : Shape := ⟨2, ![1024, 2816]⟩
abbrev S2816x1024 : Shape := ⟨2, ![2816, 1024]⟩
abbrev S4x4096x1024 : Shape := ⟨3, ![4, 4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 62
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .f32⟩
  | .hbm, ⟨3, _⟩ => ⟨S1024x1024, .f32⟩
  | .hbm, ⟨4, _⟩ => ⟨S4x1x1024, .f32⟩
  | .hbm, ⟨5, _⟩ => ⟨S1024, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S16384x512, .f32⟩
  | .hbm, ⟨13, _⟩ => ⟨S16384x512, .f32⟩
  | .hbm, ⟨14, _⟩ => ⟨S16384x1024, .f32⟩
  | .hbm, ⟨15, _⟩ => ⟨S16384x1024, .f32⟩
  | .hbm, ⟨16, _⟩ => ⟨S4x4096x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x1024, .f32⟩
  | .hbm, ⟨32, _⟩ => ⟨S16384x1024, .f32⟩
  | .hbm, ⟨33, _⟩ => ⟨S1x1024, .f32⟩
  | .hbm, ⟨34, _⟩ => ⟨S16384x1024, .f32⟩
  | .hbm, ⟨35, _⟩ => ⟨S16384x1024, .f32⟩
  | .hbm, ⟨36, _⟩ => ⟨S4x4096x1024, .f32⟩
  | .hbm, ⟨37, _⟩ => ⟨S16384x1024, .f32⟩
  | .hbm, ⟨38, _⟩ => ⟨S_, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S4x4096x1024, .f32⟩
  | .hbm, ⟨43, _⟩ => ⟨S16384x1024, .f32⟩
  | .hbm, ⟨44, _⟩ => ⟨S16384x1024, .f32⟩
  | .hbm, ⟨45, _⟩ => ⟨S4x4096x1024, .f32⟩
  | .hbm, ⟨46, _⟩ => ⟨S16384x1024, .f32⟩
  | .hbm, ⟨47, _⟩ => ⟨S16384x2816, .f32⟩
  | .hbm, ⟨48, _⟩ => ⟨S16384x2816, .f32⟩
  | .hbm, ⟨49, _⟩ => ⟨S16384x2816, .f32⟩
  | .hbm, ⟨50, _⟩ => ⟨S_, .f32⟩
  | .hbm, ⟨51, _⟩ => ⟨S16384x2816, .f32⟩
  | .hbm, ⟨52, _⟩ => ⟨S16384x2816, .f32⟩
  | .hbm, ⟨53, _⟩ => ⟨S_, .f32⟩
  | .hbm, ⟨54, _⟩ => ⟨S16384x2816, .f32⟩
  | .hbm, ⟨55, _⟩ => ⟨S16384x2816, .f32⟩
  | .hbm, ⟨56, _⟩ => ⟨S16384x2816, .f32⟩
  | .hbm, ⟨57, _⟩ => ⟨S16384x2816, .f32⟩
  | .hbm, ⟨58, _⟩ => ⟨S16384x2816, .f32⟩
  | .hbm, ⟨59, _⟩ => ⟨S16384x1024, .f32⟩
  | .hbm, ⟨60, _⟩ => ⟨S16384x1024, .f32⟩
  | .hbm, ⟨61, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩

abbrev nD : Nat := 1
abbrev τ : Topo := Topo.v7x

variable {F : FTy → Type} [FloatOps F]
-- ==== Kernel3.lean ====
abbrev S16384x512 : Shape := ⟨2, ![16384, 512]⟩
abbrev S16384x256 : Shape := ⟨2, ![16384, 256]⟩
abbrev S4x256x256 : Shape := ⟨3, ![4, 256, 256]⟩
abbrev S8 : Shape := ⟨1, ![8]⟩
abbrev S256x512 : Shape := ⟨2, ![256, 512]⟩
abbrev S256x256 : Shape := ⟨2, ![256, 256]⟩
abbrev S128x256 : Shape := ⟨2, ![128, 256]⟩
abbrev S128x128 : Shape := ⟨2, ![128, 128]⟩
abbrev S256x1 : Shape := ⟨2, ![256, 1]⟩
abbrev S256x128 : Shape := ⟨2, ![256, 128]⟩
abbrev S1x256x256 : Shape := ⟨3, ![1, 256, 256]⟩
abbrev S1 : Shape := ⟨1, ![1]⟩
abbrev S256 : Shape := ⟨1, ![256]⟩
abbrev S128x512 : Shape := ⟨2, ![128, 512]⟩

abbrev nBuf : Space → Nat
  | .hbm => 6
  | .vmem => 11
  | .smem => 1
  | _ => 0

abbrev bufTy : (tb : Table) → Fin (tcTables nBuf tb) → BufTy
  | .hbm, ⟨0, _⟩ => ⟨S16384x512, .bf16⟩
  | .hbm, ⟨1, _⟩ => ⟨S16384x256, .bf16⟩
  | .hbm, ⟨2, _⟩ => ⟨S16384x256, .bf16⟩
  | .hbm, ⟨3, _⟩ => ⟨S4x256x256, .f32⟩
  | .hbm, ⟨4, _⟩ => ⟨S8, .f32⟩
  | .hbm, ⟨5, _⟩ => ⟨S16384x512, .bf16⟩
  | .local _ .vmem, ⟨0, _⟩ => ⟨S256x512, .bf16⟩
  | .local _ .vmem, ⟨1, _⟩ => ⟨S256x512, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S4x256x256, .f32⟩
  | .local _ .vmem, ⟨7, _⟩ => ⟨S256x512, .bf16⟩
  | .local _ .vmem, ⟨8, _⟩ => ⟨S256x512, .bf16⟩
  | .local _ .vmem, ⟨9, _⟩ => ⟨S128x256, .bf16⟩
  | .local _ .vmem, ⟨10, _⟩ => ⟨S128x256, .bf16⟩
  | .local _ .smem, ⟨0, _⟩ => ⟨S8, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel3Ideal.lean ====
variable {F : FTy → Type} [FloatOps F] [Named F]
def κ : String → Option EReal := fun
  | "mask" => some ⊥
  | _ => none
-- ==== Reference3Ideal.lean ====
abbrev S16384x512 : Shape := ⟨2, ![16384, 512]⟩
abbrev S16384x256 : Shape := ⟨2, ![16384, 256]⟩
abbrev S4x256x256 : Shape := ⟨3, ![4, 256, 256]⟩
abbrev S8 : Shape := ⟨1, ![8]⟩
abbrev S128x128x8x64 : Shape := ⟨4, ![128, 128, 8, 64]⟩
abbrev S16384x64 : Shape := ⟨2, ![16384, 64]⟩
abbrev S127x128x8x64 : Shape := ⟨4, ![127, 128, 8, 64]⟩
abbrev S_ : Shape := ⟨0, ![]⟩
abbrev S128x256x8x64 : Shape := ⟨4, ![128, 256, 8, 64]⟩
abbrev S128x8x128x256 : Shape := ⟨4, ![128, 8, 128, 256]⟩
abbrev S8x128x256 : Shape := ⟨3, ![8, 128, 256]⟩
abbrev S1x8x128x256 : Shape := ⟨4, ![1, 8, 128, 256]⟩
abbrev S8x1x1 : Shape := ⟨3, ![8, 1, 1]⟩
abbrev S128x8x128 : Shape := ⟨3, ![128, 8, 128]⟩
abbrev S128x8x128x1 : Shape := ⟨4, ![128, 8, 128, 1]⟩
abbrev S1x8x1x1 : Shape := ⟨4, ![1, 8, 1, 1]⟩
abbrev S128x8x128x64 : Shape := ⟨4, ![128, 8, 128, 64]⟩

abbrev nBuf : Space → Nat
  | .hbm => 109
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x256, .bf16⟩
  | .hbm, ⟨2, _⟩ => ⟨S16384x256, .bf16⟩
  | .hbm, ⟨3, _⟩ => ⟨S4x256x256, .f32⟩
  | .hbm, ⟨4, _⟩ => ⟨S8, .f32⟩
  | .hbm, ⟨5, _⟩ => ⟨S16384x512, .f32⟩
  | .hbm, ⟨6, _⟩ => ⟨S128x128x8x64, .f32⟩
  | .hbm, ⟨7, _⟩ => ⟨S16384x256, .f32⟩
  | .hbm, ⟨8, _⟩ => ⟨S16384x64, .f32⟩
  | .hbm, ⟨9, _⟩ => ⟨S16384x64, .f32⟩
  | .hbm, ⟨10, _⟩ => ⟨S16384x64, .f32⟩
  | .hbm, ⟨11, _⟩ => ⟨S16384x64, .f32⟩
  | .hbm, ⟨12, _⟩ => ⟨S16384x64, .f32⟩
  | .hbm, ⟨13, _⟩ => ⟨S16384x64, .f32⟩
  | .hbm, ⟨14, _⟩ => ⟨S16384x64, .f32⟩
  | .hbm, ⟨15, _⟩ => ⟨S16384x64, .f32⟩
  | .hbm, ⟨16, _⟩ => ⟨S16384x512, .f32⟩
  | .hbm, ⟨17, _⟩ => ⟨S128x128x8x64, .f32⟩
  | .hbm, ⟨18, _⟩ => ⟨S127x128x8x64, .f32⟩
  | .hbm, ⟨19, _⟩ => ⟨S_, .i32⟩
  | .hbm, ⟨20, _⟩ => ⟨S_, .f32⟩
  | .hbm, ⟨21, _⟩ => ⟨S128x128x8x64, .f32⟩
  | .hbm, ⟨22, _⟩ => ⟨S128x256x8x64, .f32⟩
  | .hbm, ⟨23, _⟩ => ⟨S16384x256, .f32⟩
  | .hbm, ⟨24, _⟩ => ⟨S16384x64, .f32⟩
  | .hbm, ⟨25, _⟩ => ⟨S16384x64, .f32⟩
  | .hbm, ⟨26, _⟩ => ⟨S16384x64, .f32⟩
  | .hbm, ⟨27, _⟩ => ⟨S16384x64, .f32⟩
  | .hbm, ⟨28, _⟩ => ⟨S16384x64, .f32⟩
  | .hbm, ⟨29, _⟩ => ⟨S16384x64, .f32⟩
  | .hbm, ⟨30, _⟩ => ⟨S16384x64, .f32⟩
  | .hbm, ⟨31, _⟩ => ⟨S16384x64, .f32⟩
  | .hbm, ⟨32, _⟩ => ⟨S16384x512, .f32⟩
  | .hbm, ⟨33, _⟩ => ⟨S128x128x8x64, .f32⟩
  | .hbm, ⟨34, _⟩ => ⟨S127x128x8x64, .f32⟩
  | .hbm, ⟨35, _⟩ => ⟨S_, .i32⟩
  | .hbm, ⟨36, _⟩ => ⟨S_, .f32⟩
  | .hbm, ⟨37, _⟩ => ⟨S128x128x8x64, .f32⟩
  | .hbm, ⟨38, _⟩ => ⟨S128x256x8x64, .f32⟩
  | .hbm, ⟨39, _⟩ => ⟨S128x8x128x256, .f32⟩
  | .hbm, ⟨40, _⟩ => ⟨S_, .f32⟩
  | .hbm, ⟨41, _⟩ => ⟨S128x8x128x256, .f32⟩
  | .hbm, ⟨42, _⟩ => ⟨S128x8x128x256, .f32⟩
  | .hbm, ⟨43, _⟩ => ⟨S128x8x128x256, .i32⟩
  | .hbm, ⟨44, _⟩ => ⟨S128x8x128x256, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i1⟩
  | .hbm, ⟨49, _⟩ => ⟨S_, .i32⟩
  | .hbm, ⟨50, _⟩ => ⟨S_, .i32⟩
  | .hbm, ⟨51, _⟩ => ⟨S128x8x128x256, .i32⟩
  | .hbm, ⟨52, _⟩ => ⟨S128x8x128x256, .i32⟩
  | .hbm, ⟨53, _⟩ => ⟨S_, .i32⟩
  | .hbm, ⟨54, _⟩ => ⟨S128x8x128x256, .i32⟩
  | .hbm, ⟨55, _⟩ => ⟨S128x8x128x256, .i1⟩
  | .hbm, ⟨56, _⟩ => ⟨S_, .i32⟩
  | .hbm, ⟨57, _⟩ => ⟨S128x8x128x256, .i32⟩
  | .hbm, ⟨58, _⟩ => ⟨S128x8x128x256, .i1⟩
  | .hbm, ⟨59, _⟩ => ⟨S_, .i32⟩
  | .hbm, ⟨60, _⟩ => ⟨S_, .i1⟩
  | .hbm, ⟨61, _⟩ => ⟨S128x8x128x256, .i1⟩
  | .hbm, ⟨62, _⟩ => ⟨S128x8x128x256, .i1⟩
  | .hbm, ⟨63, _⟩ => ⟨S128x8x128x256, .i1⟩
  | .hbm, ⟨64, _⟩ => ⟨S128x8x128x256, .i32⟩
  | .hbm, ⟨65, _⟩ => ⟨S128x8x128x256, .i32⟩
  | .hbm, ⟨66, _⟩ => ⟨S128x8x128x256, .i32⟩
  | .hbm, ⟨67, _⟩ => ⟨S_, .i32⟩
  | .hbm, ⟨68, _⟩ => ⟨S128x8x128x256, .i32⟩
  | .hbm, ⟨69, _⟩ => ⟨S128x8x128x256, .i32⟩
  | .hbm, ⟨70, _⟩ => ⟨S_, .i32⟩
  | .hbm, ⟨71, _⟩ => ⟨S128x8x128x256, .i32⟩
  | .hbm, ⟨72, _⟩ => ⟨S128x8x128x256, .i32⟩
  | .hbm, ⟨73, _⟩ => ⟨S128x8x128x256, .i32⟩
  | .hbm, ⟨74, _⟩ => ⟨S_, .i32⟩
  | .hbm, ⟨75, _⟩ => ⟨S128x8x128x256, .i32⟩
  | .hbm, ⟨76, _⟩ => ⟨S128x8x128x256, .i1⟩
  | .hbm, ⟨77, _⟩ => ⟨S8x128x256, .f32⟩
  | .hbm, ⟨78, _⟩ => ⟨S1x8x128x256, .f32⟩
  | .hbm, ⟨79, _⟩ => ⟨S128x8x128x256, .f32⟩
  | .hbm, ⟨80, _⟩ => ⟨S128x8x128x256, .f32⟩
  | .hbm, ⟨81, _⟩ => ⟨S_, .f32⟩
  | .hbm, ⟨82, _⟩ => ⟨S_, .f32⟩
  | .hbm, ⟨83, _⟩ => ⟨S128x8x128x256, .f32⟩
  | .hbm, ⟨84, _⟩ => ⟨S128x8x128x256, .f32⟩
  | .hbm, ⟨85, _⟩ => ⟨S8x1x1, .f32⟩
  | .hbm, ⟨86, _⟩ => ⟨S_, .f32⟩
  | .hbm, ⟨87, _⟩ => ⟨S128x8x128, .f32⟩
  | .hbm, ⟨88, _⟩ => ⟨S128x8x128x1, .f32⟩
  | .hbm, ⟨89, _⟩ => ⟨S1x8x1x1, .f32⟩
  | .hbm, ⟨90, _⟩ => ⟨S128x8x128x1, .f32⟩
  | .hbm, ⟨91, _⟩ => ⟨S128x8x128x1, .f32⟩
  | .hbm, ⟨92, _⟩ => ⟨S128x8x128x256, .f32⟩
  | .hbm, ⟨93, _⟩ => ⟨S128x8x128x256, .f32⟩
  | .hbm, ⟨94, _⟩ => ⟨S128x8x128x256, .f32⟩
  | .hbm, ⟨95, _⟩ => ⟨S_, .f32⟩
  | .hbm, ⟨96, _⟩ => ⟨S128x8x128, .f32⟩
  | .hbm, ⟨97, _⟩ => ⟨S128x8x128x1, .f32⟩
  | .hbm, ⟨98, _⟩ => ⟨S1x8x1x1, .f32⟩
  | .hbm, ⟨99, _⟩ => ⟨S128x8x128x1, .f32⟩
  | .hbm, ⟨100, _⟩ => ⟨S128x8x128x1, .f32⟩
  | .hbm, ⟨101, _⟩ => ⟨S128x8x128x1, .f32⟩
  | .hbm, ⟨102, _⟩ => ⟨S128x8x128x1, .f32⟩
  | .hbm, ⟨103, _⟩ => ⟨S128x8x128x64, .f32⟩
  | .hbm, ⟨104, _⟩ => ⟨S128x8x128x64, .f32⟩
  | .hbm, ⟨105, _⟩ => ⟨S128x8x128x64, .f32⟩
  | .hbm, ⟨106, _⟩ => ⟨S128x128x8x64, .f32⟩
  | .hbm, ⟨107, _⟩ => ⟨S16384x512, .f32⟩
  | .hbm, ⟨108, _⟩ => ⟨S16384x512, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_call0_v0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c_0 : Ref sig .tc := ⟨.hbm, 35, rfl⟩
abbrev main_call1_v0 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_1 : Ref sig .tc := ⟨.hbm, 45, rfl⟩
abbrev main_call2_v0 : Ref sig .tc := ⟨.hbm, 46, rfl⟩
abbrev main_call2_c : Ref sig .tc := ⟨.hbm, 47, rfl⟩
abbrev main_call2_v1 : Ref sig .tc := ⟨.hbm, 48, rfl⟩
abbrev main_call2_c_0 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_call2_c_1 : Ref sig .tc := ⟨.hbm, 53, rfl⟩
abbrev main_call2_v5 : Ref sig .tc := ⟨.hbm, 54, rfl⟩
abbrev main_call2_v6 : Ref sig .tc := ⟨.hbm, 55, rfl⟩
abbrev main_call2_c_2 : Ref sig .tc := ⟨.hbm, 56, rfl⟩
abbrev main_call2_v7 : Ref sig .tc := ⟨.hbm, 57, rfl⟩
abbrev main_call2_v8 : Ref sig .tc := ⟨.hbm, 58, rfl⟩
abbrev main_call2_c_3 : Ref sig .tc := ⟨.hbm, 59, rfl⟩
abbrev main_call2_v9 : Ref sig .tc := ⟨.hbm, 60, rfl⟩
abbrev main_call2_v10 : Ref sig .tc := ⟨.hbm, 61, rfl⟩
abbrev main_call2_v11 : Ref sig .tc := ⟨.hbm, 62, rfl⟩
abbrev main_call2_v12 : Ref sig .tc := ⟨.hbm, 63, rfl⟩
abbrev main_call2_v13 : Ref sig .tc := ⟨.hbm, 64, rfl⟩
abbrev main_call2_v14 : Ref sig .tc := ⟨.hbm, 65, rfl⟩
abbrev main_v35 : Ref sig .tc := ⟨.hbm, 66, rfl⟩
abbrev main_c_2 : Ref sig .tc := ⟨.hbm, 67, rfl⟩
abbrev main_v36 : Ref sig .tc := ⟨.hbm, 68, rfl⟩
abbrev main_v37 : Ref sig .tc := ⟨.hbm, 69, rfl⟩
abbrev main_c_3 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_c_4 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_cst_5 : Ref sig .tc := ⟨.hbm, 81, rfl⟩
abbrev main_call3_v0 : Ref sig .tc := ⟨.hbm, 82, rfl⟩
abbrev main_call3_v1 : Ref sig .tc := ⟨.hbm, 83, rfl⟩
abbrev main_v47 : Ref sig .tc := ⟨.hbm, 84, rfl⟩
abbrev main_v48 : Ref sig .tc := ⟨.hbm, 85, rfl⟩
abbrev main_cst_6 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_cst_7 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩

abbrev nD : Nat := 1
abbrev τ : Topo := Topo.v7x

variable {F : FTy → Type} [FloatOps F]
-- ==== Kernel4.lean ====
abbrev S16384x1536 : Shape := ⟨2, ![16384, 1536]⟩
abbrev S16384x1024 : Shape := ⟨2, ![16384, 1024]⟩
abbrev S1536x1024 : Shape := ⟨2, ![1536, 1024]⟩
abbrev S4x1x1024 : Shape := ⟨3, ![4, 1, 1024]⟩
abbrev S1024 : Shape := ⟨1, ![1024]⟩
abbrev S1024x8 : Shape := ⟨2, ![1024, 8]⟩
abbrev S8 : Shape := ⟨1, ![8]⟩
abbrev S_ : Shape := ⟨0, ![]⟩
abbrev S1024x128 : Shape := ⟨2, ![1024, 128]⟩
abbrev S1 : Shape := ⟨1, ![1]⟩
abbrev S1024x256 : Shape := ⟨2, ![1024, 256]⟩
abbrev S1x128 : Shape := ⟨2, ![1, 128]⟩
abbrev S2 : Shape := ⟨1, ![2]⟩
abbrev S1x1024 : Shape := ⟨2, ![1, 1024]⟩
abbrev S8x16384 : Shape := ⟨2, ![8, 16384]⟩
abbrev S16384x128 : Shape := ⟨2, ![16384, 128]⟩
abbrev S32x8x128 : Shape := ⟨3, ![32, 8, 128]⟩
abbrev S8x128 : Shape := ⟨2, ![8, 128]⟩
abbrev S512x1536 : Shape := ⟨2, ![512, 1536]⟩
abbrev S512x1024 : Shape := ⟨2, ![512, 1024]⟩
abbrev S1x1x1024 : Shape := ⟨3, ![1, 1, 1024]⟩
abbrev S8x512 : Shape := ⟨2, ![8, 512]⟩
abbrev S512x128 : Shape := ⟨2, ![512, 128]⟩
abbrev S1x8x128 : Shape := ⟨3, ![1, 8, 128]⟩
abbrev S512 : Shape := ⟨1, ![512]⟩
abbrev S512x1 : Shape := ⟨2, ![512, 1]⟩
abbrev S512x256 : Shape := ⟨2, ![512, 256]⟩
abbrev S512x512 : Shape := ⟨2, ![512, 512]⟩
abbrev S128x512 : Shape := ⟨2, ![128, 512]⟩

abbrev nBuf : Space → Nat
  | .hbm => 36
  | .vmem => 28
  | .smem => 0
  | _ => 0

abbrev bufTy : (tb : Table) → Fin (tcTables nBuf tb) → BufTy
  | .hbm, ⟨0, _⟩ => ⟨S16384x1536, .bf16⟩
  | .hbm, ⟨1, _⟩ => ⟨S16384x1024, .f32⟩
  | .hbm, ⟨2, _⟩ => ⟨S1536x1024, .f32⟩
  | .hbm, ⟨3, _⟩ => ⟨S4x1x1024, .f32⟩
  | .hbm, ⟨4, _⟩ => ⟨S1024, .f32⟩
  | .hbm, ⟨5, _⟩ => ⟨S4x1x1024, .f32⟩
  | .hbm, ⟨6, _⟩ => ⟨S4x1x1024, .f32⟩
  | .hbm, ⟨7, _⟩ => ⟨S1024x8, .f32⟩
  | .hbm, ⟨8, _⟩ => ⟨S8, .f32⟩
  | .hbm, ⟨9, _⟩ => ⟨S_, .f32⟩
  | .hbm, ⟨10, _⟩ => ⟨S1024x128, .f32⟩
  | .hbm, ⟨11, _⟩ => ⟨S_, .i32⟩
  | .hbm, ⟨12, _⟩ => ⟨S1, .i32⟩
  | .hbm, ⟨13, _⟩ => ⟨S1024x128, .f32⟩
  | .hbm, ⟨14, _⟩ => ⟨S1024x128, .bf16⟩
  | .hbm, ⟨15, _⟩ => ⟨S1024x128, .f32⟩
  | .hbm, ⟨16, _⟩ => ⟨S1024x128, .f32⟩
  | .hbm, ⟨17, _⟩ => ⟨S1024x128, .bf16⟩
  | .hbm, ⟨18, _⟩ => ⟨S1024x256, .bf16⟩
  | .hbm, ⟨19, _⟩ => ⟨S_, .f32⟩
  | .hbm, ⟨20, _⟩ => ⟨S1x128, .f32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S1x128, .f32⟩
  | .hbm, ⟨27, _⟩ => ⟨S1536x1024, .bf16⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S8x16384, .i32⟩
  | .hbm, ⟨32, _⟩ => ⟨S16384x128, .i32⟩
  | .hbm, ⟨33, _⟩ => ⟨S16384x128, .f32⟩
  | .hbm, ⟨34, _⟩ => ⟨S32x8x128, .i32⟩
  | .hbm, ⟨35, _⟩ => ⟨S8x128, .i32⟩
  | .local _ .vmem, ⟨0, _⟩ => ⟨S512x1536, .bf16⟩
  | .local _ .vmem, ⟨1, _⟩ => ⟨S512x1536, .bf16⟩
  | .local _ .vmem, ⟨2, _⟩ => ⟨S512x1024, .f32⟩
  | .local _ .vmem, ⟨3, _⟩ => ⟨S512x1024, .f32⟩
  | .local _ .vmem, ⟨4, _⟩ => ⟨S1536x1024, .bf16⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1024x256, .bf16⟩
  | .local _ .vmem, ⟨13, _⟩ => ⟨S1x128, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S8x512, .i32⟩
  | .local _ .vmem, ⟨19, _⟩ => ⟨S8x512, .i32⟩
  | .local _ .vmem, ⟨20, _⟩ => ⟨S512x128, .i32⟩
  | .local _ .vmem, ⟨21, _⟩ => ⟨S512x128, .i32⟩
  | .local _ .vmem, ⟨22, _⟩ => ⟨S512x128, .f32⟩
  | .local _ .vmem, ⟨23, _⟩ => ⟨S512x128, .f32⟩
  | .local _ .vmem, ⟨24, _⟩ => ⟨S1x8x128, .i32⟩
  | .local _ .vmem, ⟨25, _⟩ => ⟨S1x8x128, .i32⟩
  | .local _ .vmem, ⟨26, _⟩ => ⟨S8x128, .i32⟩
  | .local _ .vmem, ⟨27, _⟩ => ⟨S8x128, .f32⟩
  | _, _ => ⟨S16384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_c_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15_0 : Ref sig .tc := ⟨.hbm, 29, rfl⟩
abbrev main_v15_1 : Ref sig .tc := ⟨.hbm, 30, rfl⟩
abbrev main_v15_2 : Ref sig .tc := ⟨.hbm, 31, rfl⟩
abbrev main_v15_3 : Ref sig .tc := ⟨.hbm, 32, rfl⟩
abbrev main_v15_4 : Ref sig .tc := ⟨.hbm, 33, rfl⟩
abbrev main_v15_5 : Ref sig .tc := ⟨.hbm, 34, rfl⟩
abbrev main_v15_6 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x512 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x8x128 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x128 .i32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference4Ideal.lean ====
abbrev S16384x1536 : Shape := ⟨2, ![16384, 1536]⟩
abbrev S16384x1024 : Shape := ⟨2, ![16384, 1024]⟩
abbrev S1536x1024 : Shape := ⟨2, ![1536, 1024]⟩
abbrev S4x1x1024 : Shape := ⟨3, ![4, 1, 1024]⟩
abbrev S1024 : Shape := ⟨1, ![1024]⟩
abbrev S1024x8 : Shape := ⟨2, ![1024, 8]⟩
abbrev S8 : Shape := ⟨1, ![8]⟩
abbrev S4x4096x1024 : Shape := ⟨3, ![4, 4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S16384x1536, .bf16⟩
  | .hbm, ⟨1, _⟩ => ⟨S16384x1024, .f32⟩
  | .hbm, ⟨2, _⟩ => ⟨S1536x1024, .f32⟩
  | .hbm, ⟨3, _⟩ => ⟨S4x1x1024, .f32⟩
  | .hbm, ⟨4, _⟩ => ⟨S1024, .f32⟩
  | .hbm, ⟨5, _⟩ => ⟨S4x1x1024, .f32⟩
  | .hbm, ⟨6, _⟩ => ⟨S4x1x1024, .f32⟩
  | .hbm, ⟨7, _⟩ => ⟨S1024x8, .f32⟩
  | .hbm, ⟨8, _⟩ => ⟨S8, .f32⟩
  | .hbm, ⟨9, _⟩ => ⟨S4x4096x1024, .f32⟩
  | .hbm, ⟨10, _⟩ => ⟨S16384x1024, .f32⟩
  | .hbm, ⟨11, _⟩ => ⟨S16384x1536, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S4x4096x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S4x4096x1024, .f32⟩
  | .hbm, ⟨38, _⟩ => ⟨S16384x1024, .f32⟩
  | .hbm, ⟨39, _⟩ => ⟨S16384x1024, .f32⟩
  | _, _ => ⟨S16384x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Proof.Range.lean ====
/-
  What the precondition says: every expert index is below 8 and every count of live rows is at most 1024.
-/
module

public import proofs.«01_k».proof.Proof.Gen.Pre_in_range
public import Idealize.ShloMosaic.Lib.ReduceAll

@[expose] public section

noncomputable section

namespace Cert.Range

open Idealize.ShloMosaic Cert.Pre_in_range Cert.Pre_in_range.Gen

theorem and_eq_one {x y : BitVec 1} (h : x &&& y = 1#1) : x = 1#1 ∧ y = 1#1 := by revert x y; decide

theorem sle_of {x y : BitVec 32} (h : BitVec.ofBool (x.sle y) = 1#1) : x.toInt ≤ y.toInt := by
  rw [BitVec.sle_eq_decide] at h
  by_contra hc
  simp [hc] at h
theorem slt_of {x y : BitVec 32} (h : BitVec.ofBool (x.slt y) = 1#1) : x.toInt < y.toInt := by
  rw [BitVec.slt_eq_decide] at h
  by_contra hc
  simp [hc] at h

theorem toNat_lt {x : BitVec 32} (h0 : 0 ≤ x.toInt) (h8 : x.toInt < 8) : x.toNat < 8 := by
  rw [BitVec.toInt_eq_toNat_cond] at h0 h8
  have := x.isLt
  split at h0 <;> split at h8 <;> omega

instance : Subsingleton S_.Idx := ⟨fun a b => funext fun i => i.elim0⟩

theorem in_range {F : FTy → Type} [FloatOps F] (te hi : IVec S42 32) (x wg wu wd)
    (h : Cert.Pre_in_range.fn (F := F) te hi x wg wu wd = fun _ => 1#1) :
    (∀ j, (te j).toNat < 8) ∧ (∀ j, (hi j).toInt ≤ 1024) := by
  have e := congrFun h (Shape.Idx.first h_S_)
  unfold Cert.Pre_in_range.fn at e
  obtain ⟨e1, e2⟩ := and_eq_one e
  obtain ⟨e3, e4⟩ := and_eq_one e1
  refine ⟨fun j => ?_, fun j => ?_⟩
  · have h3 := sle_of (Host.reduce_andi_all _ _ _ _ _ e3 j)
    have h4 := slt_of (Host.reduce_andi_all _ _ _ _ _ e4 j)
    exact toNat_lt h3 h4
  · exact sle_of (Host.reduce_andi_all _ _ _ _ _ e2 j)

end Cert.Range
-- ==== Proof.Words.lean ====
/-
  The words that steer the expert kernel. A tile's number of live rows is one 32-bit word `v`, read signed and at most
  1024. The kernel walks the live rows in blocks of 256, so its loop makes `⌈v / 256⌉` trips (none for `v ≤ 0`) and trip
  `k` starts at row `256 k`.
-/
module

public import Idealize.ShloMosaic.Lib.LoopRemainder
public import Idealize.ShloMosaic.Lib.WordArith
public import Mathlib.Tactic.NormNum
public import Mathlib.Tactic.IntervalCases

@[expose] public section

namespace Cert.Words

open Idealize.ShloMosaic

/-- The number of blocks of 256 rows that hold a live row. -/
def blocks (v : BitVec 32) : ℕ := ((v.toInt + 255) / 256).toNat

/-- The word the kernel computes for it. -/
def blocksW (v : BitVec 32) : BitVec 32 := Scalar.shrsi (Scalar.subi (Scalar.addi v 256#32) 1#32) 8#32

theorem toInt_blocksW (v : BitVec 32) (h : v.toInt ≤ 1024) : (blocksW v).toInt = (v.toInt + 255) / 256 := by
  have hlo := BitVec.le_toInt v
  have e : (v + 256#32 - 1#32).toInt = v.toInt + 255 := by
    have e1 : v + 256#32 - 1#32 = v + 255#32 := by
      rw [BitVec.sub_eq_add_neg, BitVec.add_assoc]; rfl
    rw [e1, BitVec.toInt_add, show (255#32 : BitVec 32).toInt = 255 by decide]
    norm_num at hlo
    rw [Int.bmod_def]; omega
  unfold blocksW
  simp only [Scalar.shrsi, Scalar.subi, Scalar.addi, IntOp.shrsi, IntOp.subi, IntOp.addi]
  rw [if_pos (by decide), BitVec.sshiftRight', BitVec.toInt_sshiftRight, e, show (8#32 : BitVec 32).toNat = 8 from rfl, Int.shiftRight_eq_div_pow]
  norm_num

/-- The bound of the loop, as it is spelled. -/
theorem bound_eq (x : BitVec 32) :
    Scalar.addi 0#32 (Scalar.muli (Scalar.divsi (Scalar.subi x 0#32) 1#32) 1#32) = x := by
  rw [Scalar.muli_divsi_one]
  simp only [Scalar.addi, Scalar.subi, IntOp.addi, IntOp.subi, BitVec.sub_zero, BitVec.zero_add]

theorem trips_blocksW (v : BitVec 32) (h : v.toInt ≤ 1024) : Scf.trips 0#32 (blocksW v) 1#32 = blocks v := by
  unfold Scf.trips blocks
  rw [toInt_blocksW v h, show (0#32 : BitVec 32).toInt = 0 by decide, show (1#32 : BitVec 32).toInt = 1 by decide]
  congr 1; omega

theorem blocks_le (v : BitVec 32) (h : v.toInt ≤ 1024) : blocks v ≤ 4 := by unfold blocks; omega

theorem blocks_ok (v : BitVec 32) (h : v.toInt ≤ 1024) : Scf.OK 0#32 (blocksW v) 1#32 := by
  refine ⟨by decide, ?_⟩
  rw [trips_blocksW v h, show (0#32 : BitVec 32).toInt = 0 by decide, show (1#32 : BitVec 32).toInt = 1 by decide]
  have := blocks_le v h
  norm_num; omega

/-- Trip `k` starts at row `256 k`. -/
theorem row_eq (k : ℕ) (h : k < 4) : (Scalar.muli (Scf.iv 0#32 1#32 k) 256#32).toNat = 256 * k := by
  interval_cases k <;> decide

/-- A row of a live block below the number of blocks. -/
theorem lt_blocks (v : BitVec 32) (r : ℕ) (h : (r : ℤ) < v.toInt) : r < 256 * blocks v := by unfold blocks; omega

end Cert.Words
-- ==== Proof.KernelIdeal.Step.lean ====
/-
  What one grid point of the expert kernel computes, as a function of the blocks it reads. The word `v` is the tile's
  number of live rows. A full tile (`v = 1024`) takes all its rows in one product; a partial one walks its live rows in
  blocks of 256 and leaves the others alone; the first column block starts the accumulation.
-/
module

public import proofs.«01_k».proof.Proof.Gen.KernelIdeal.Skeleton
public import proofs.«01_k».proof.Proof.Words
public import Idealize.ShloMosaic.Lib.VecWindow
public import Mathlib.Tactic.FinCases

@[expose] public section

noncomputable section

namespace Cert.KernelIdeal.Moe

open Idealize.ShloMosaic Cert.KernelIdeal Cert.KernelIdeal.Gen Cert.Words

variable {F : FTy → Type} [FloatOps F]

theorem rows_inb (k : ℕ) (h : k < 4) : ∀ a, (![256 * k, 0] : Fin 2 → ℕ) a + S256x1024.size a ≤ S1024x1024.size a := by
  intro a; fin_cases a
  · show 256 * k + 256 ≤ 1024; omega
  · show 0 + 1024 ≤ 1024; omega

/-- One trip: the 256 rows from `256 k` get their part of the product added. -/
def rowStep (xb : Vec F S1024x1024 .bf16) (wg wu : Vec F S1x1024x512 .f32) (wd : Vec F S1x512x1024 .f32) (k : ℕ) (o : Vec F S1024x1024 .f32) : Vec F S1024x1024 .f32 :=
  if h : k < 4 then
    VecWindow.put (s := S1024x1024) o ![256 * k, 0] S256x1024.size
      (k0_pay5 (VecWindow.window (s := S1024x1024) o ![256 * k, 0] S256x1024.size (rows_inb k h))
        (VecWindow.window (s := S1024x1024) xb ![256 * k, 0] S256x1024.size (rows_inb k h)) wg wu wd)
  else o

/-- The first `k` trips. -/
def rowLoop (xb : Vec F S1024x1024 .bf16) (wg wu : Vec F S1x1024x512 .f32) (wd : Vec F S1x512x1024 .f32) (o : Vec F S1024x1024 .f32) : ℕ → Vec F S1024x1024 .f32
  | 0 => o
  | k + 1 => rowStep xb wg wu wd k (rowLoop xb wg wu wd o k)

/-- The rounded rows of the tile after a point: made at the tile's first point, if it has a live row. -/
def keepX (first : Bool) (v : BitVec 32) (x : Vec F S1024x1024 .f32) (xb : Vec F S1024x1024 .bf16) : Vec F S1024x1024 .bf16 :=
  if first = true ∧ 0 < v.toInt then k0_pay1 v x else xb

/-- The output block after a point. -/
def stepO (first : Bool) (v : BitVec 32) (xb : Vec F S1024x1024 .bf16) (wg wu : Vec F S1x1024x512 .f32) (wd : Vec F S1x512x1024 .f32) (o : Vec F S1024x1024 .f32) : Vec F S1024x1024 .f32 :=
  if v = 1024#32 then
    if first then k0_pay2 xb wg wu wd else k0_pay3 xb wg wu wd o
  else rowLoop xb wg wu wd (if first then k0_pay4 else o) (blocks v)

/-! The conditions of the body, read from the words. -/

theorem cond2_iff (v : BitVec 32) : k0_cond2 v = 1#1 ↔ v = 1024#32 := by
  show Scalar.cmpi .ne (Scalar.extui (BitVec.ofBool (v == 1024#32))) 0#32 = 1#1 ↔ _
  by_cases h : v = 1024#32
  · subst h; decide
  · simp only [h, iff_false]; rw [beq_eq_false_iff_ne.2 h]; decide

theorem cond5_iff (v : BitVec 32) : k0_cond5 v = 1#1 ↔ v.toInt < 1024 := by
  show Scalar.cmpi .ne (Scalar.extui (BitVec.ofBool (v.slt 1024#32))) 0#32 = 1#1 ↔ _
  have e : v.slt 1024#32 = decide (v.toInt < 1024) := rfl
  rw [e]
  by_cases h : v.toInt < 1024
  · simp only [h, decide_true, iff_true]; decide
  · simp only [h, decide_false, iff_false]; decide

theorem ofNat_zero_iff (n : ℕ) (h : n < 7) : BitVec.ofNat 32 n = 0#32 ↔ n = 0 := by interval_cases n <;> decide

theorem first_lt (i : grid0.Coords) : (i 1).val < 7 := (i 1).isLt

theorem cond3_iff (i : grid0.Coords) : k0_cond3 i = 1#1 ↔ (i 1).val = 0 := by
  show Scalar.cmpi .ne (Scalar.extui (BitVec.ofBool (BitVec.ofNat 32 (i 1).val == 0#32))) 0#32 = 1#1 ↔ _
  have h := first_lt i
  generalize (i 1).val = n at h
  interval_cases n <;> decide

theorem cond6_iff (i : grid0.Coords) : k0_cond6 i = 1#1 ↔ (i 1).val = 0 := cond3_iff i

theorem cond4_iff (i : grid0.Coords) : k0_cond4 i = 1#1 ↔ (i 1).val ≠ 0 := by
  show Scalar.cmpi .ne (Scalar.extui (BitVec.ofBool (BitVec.ofNat 32 (i 1).val != 0#32))) 0#32 = 1#1 ↔ _
  have h := first_lt i
  generalize (i 1).val = n at h
  interval_cases n <;> decide

theorem sgt_zero (v : BitVec 32) : Scalar.cmpi .sgt v 0#32 = BitVec.ofBool (decide (0 < v.toInt)) := by
  show BitVec.ofBool ((0#32 : BitVec 32).slt v) = _
  rfl

theorem cond1_iff (i : grid0.Coords) (v : BitVec 32) :
    Scalar.cmpi .ne (Scalar.extui (Scalar.andi (Scalar.cmpi .eq (BitVec.ofNat 32 (i 1).val) 0#32) (Scalar.cmpi .sgt v 0#32))) 0#32 = 1#1
      ↔ (i 1).val = 0 ∧ 0 < v.toInt := by
  rw [sgt_zero]
  have h := first_lt i
  generalize (i 1).val = n at h
  by_cases hv : 0 < v.toInt
  · simp only [hv, decide_true, and_true]; interval_cases n <;> decide
  · simp only [hv, decide_false, and_false, iff_false]; interval_cases n <;> decide

/-! The side conditions of the body hold of every word at most 1024. -/

theorem loop1_ub (v : BitVec 32) : (k0_t1_loop v).ub = blocksW v := bound_eq (blocksW v)

theorem trips1 (v : BitVec 32) (h : v.toInt ≤ 1024) : (k0_t1_loop v).trips = blocks v := by
  show Scf.trips 0#32 (k0_t1_loop v).ub 1#32 = _
  rw [loop1_ub]; exact trips_blocksW v h

theorem trip_lt (v : BitVec 32) (h : v.toInt ≤ 1024) (k : Fin (k0_t1_loop v).trips) : k.val < 4 :=
  Nat.lt_of_lt_of_le (Nat.lt_of_lt_of_eq k.isLt (trips1 v h)) (blocks_le v h)

theorem off2_eq (v : BitVec 32) (h : v.toInt ≤ 1024) (k : Fin (k0_t1_loop v).trips) : k0_off2 v k = ![256 * k.val, 0] := by
  show (![(Scalar.muli (Scf.iv 0#32 1#32 k.val) 256#32).toNat, 0] : Fin 2 → ℕ) = _
  rw [row_eq _ (trip_lt v h k)]

theorem chk1_of (v : BitVec 32) (h : v.toInt ≤ 1024) : k0_chk1 v := by
  refine ⟨fun _ => ?_, fun k _ => ?_, fun k _ => ?_, fun _ => ?_, fun k => ?_, fun k => ?_⟩
  · show Scf.OK 0#32 (k0_t1_loop v).ub 1#32
    rw [loop1_ub]; exact blocks_ok v h
  · show 256 ∣ (Scalar.muli (Scf.iv 0#32 1#32 k.val) 256#32).toNat
    rw [row_eq _ (trip_lt v h k)]; exact ⟨k.val, rfl⟩
  · rw [off2_eq v h k]; exact rows_inb _ (trip_lt v h k)
  · exact Scf.rem_ok 0#32 _
  · exact absurd k.isLt (Nat.not_lt.2 (Nat.le_trans (Nat.le_of_eq (Scf.rem_trips 0#32 _)) (Nat.zero_le _)))
  · exact absurd k.isLt (Nat.not_lt.2 (Nat.le_trans (Nat.le_of_eq (Scf.rem_trips 0#32 _)) (Nat.zero_le _)))

end Cert.KernelIdeal.Moe
-- ==== Proof.KernelIdeal.Loop.lean ====
/-
  The loop over the live rows of a partial tile: before trip `k` the output block holds what the first `k` trips of
  `rowLoop` leave, and the other blocks what they held.
-/
module

public import proofs.«01_k».proof.Proof.KernelIdeal.Step
public import Idealize.ShloMosaic.Lib.Exec
public import Idealize.ShloMosaic.Lib.Writes
public import Idealize.ShloMosaic.Lib.Tactic
public import Idealize.ShloMosaic.Lib.LoopRemainder
public import Idealize.ShloMosaic.Lib.Pipeline.Kit
public import Idealize.ShloMosaic.Lib.WholeRead

@[expose] public section

set_option maxRecDepth 8192

noncomputable section

namespace Cert.KernelIdeal.Moe

open Idealize.ShloMosaic Idealize.ShloMosaic.TcCoe Idealize.ShloMosaic.Tactic Cert.KernelIdeal Cert.KernelIdeal.Gen Cert.Words
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option warn.classDefReducibility false in
set_option maxHeartbeats 4000000 in
/-- The loop by its invariant. -/
@[sl_loop] def rowsInv (𝒱 : Variants) (c : Dev nD) (bd : Option 𝒱.V) (E : Set ℕ) (i : grid0.Coords)
    (arg2 : Memref sig .tc .smem S42 .i32) (harg2 : arg2.IsWhole)
    (arg3 : Memref sig .tc .smem S42 .i32) (harg3 : arg3.IsWhole)
    (arg4 : Memref sig .tc .vmem S1024x1024 .f32) (harg4 : arg4.IsWhole)
    (arg5 : Memref sig .tc .vmem S1x1024x512 .f32) (harg5 : arg5.IsWhole)
    (arg6 : Memref sig .tc .vmem S1x1024x512 .f32) (harg6 : arg6.IsWhole)
    (arg7 : Memref sig .tc .vmem S1x512x1024 .f32) (harg7 : arg7.IsWhole)
    (arg8 : Memref sig .tc .vmem S1024x1024 .f32) (harg8 : arg8.IsWhole)
    (arg9 : Memref sig .tc .vmem S1024x1024 .bf16) (harg9 : arg9.IsWhole)
    (v1 : Elt F .i32) (k0_hw1 : k0_chk1 v1) (k0_h5 : k0_cond5 v1 = 1#1)
    (X5 : BufTy.Contents (Elt F) arg5.view.ty) (X6 : BufTy.Contents (Elt F) arg6.view.ty) (X7 : BufTy.Contents (Elt F) arg7.view.ty)
    (X9 : BufTy.Contents (Elt F) arg9.view.ty) (G : BufTy.Contents (Elt F) arg8.view.ty) :
    LoopInv (M := 𝕄) Idealize.ShloMosaic.frame (wpE defs₀ 𝒱 (c : Thread nD τ) bd) E
      (k0_t1_loop v1).lb (k0_t1_loop v1).ub (k0_t1_loop v1).st (k0_t1_ok v1 k0_hw1 k0_h5) ()
      (k0_t1_body (F := F) i arg2 harg2 arg3 harg3 arg4 harg4 arg5 harg5 arg6 harg6 arg7 harg7 arg8 harg8 arg9 harg9 v1 k0_hw1 k0_h5) where
  inv k _ := iprop((arg5.view.loc (c : Thread nD τ) ↦[arg5.view.set]{fullShare} X5) ∗ (arg6.view.loc (c : Thread nD τ) ↦[arg6.view.set]{fullShare} X6)
    ∗ (arg7.view.loc (c : Thread nD τ) ↦[arg7.view.set]{fullShare} X7) ∗ (arg9.view.loc (c : Thread nD τ) ↦[arg9.view.set]{fullShare} X9)
    ∗ (∃ f, (arg8.view.loc (c : Thread nD τ) ↦[arg8.view.set]{fullShare} f)
        ∗ ⌜arg8.view.read (Elt F) f = rowLoop (arg9.view.read (Elt F) X9) (arg5.view.read (Elt F) X5) (arg6.view.read (Elt F) X6)
            (arg7.view.read (Elt F) X7) (arg8.view.read (Elt F) G) k⌝))
  step k acc := by
    have hv : BitVec.toInt v1 ≤ 1024 := Int.le_of_lt ((cond5_iff v1).1 k0_h5)
    have hk : k.val < 4 := trip_lt v1 hv k
    unfold k0_t1_body
    iintro ⟨H5, H6, H7, H9, ⟨%f, H8, %hf⟩⟩
    sl_exec
    sl_step
    isplitl [H5]; · iexact H5
    isplitl [H6]; · iexact H6
    isplitl [H7]; · iexact H7
    isplitl [H9]; · iexact H9
    iexists _; isplitl [H8]; · iexact H8
    ipureintro
    show _ = rowStep _ _ _ _ k.val (rowLoop _ _ _ _ _ k.val)
    rw [← hf]
    unfold rowStep
    rw [dif_pos hk, View.read_writes_cons_put (h := off2_eq v1 hv k)]
    rw [View.writes_nil, View.readAt_unit arg8.view f _ (off2_eq v1 hv k) (rows_inb _ hk), View.readAt_unit arg9.view X9 _ (off2_eq v1 hv k) (rows_inb _ hk)]
    have e5 := View.readAt_full (Val := Elt F) arg5.view X5 inb_S1x1024x512_S1x1024x512_0_0_0
    have e6 := View.readAt_full (Val := Elt F) arg6.view X6 inb_S1x1024x512_S1x1024x512_0_0_0
    have e7 := View.readAt_full (Val := Elt F) arg7.view X7 inb_S1x512x1024_S1x512x1024_0_0_0
    rw [e5, e6, e7]

end Cert.KernelIdeal.Moe
-- ==== Proof.KernelIdeal.Body.lean ====
/-
  One grid point of the expert kernel: from the blocks it reads, the tables, the output block and the rounded rows it
  finds, the body leaves the output block and the rounded rows that `stepO` and `keepX` give. One lemma per way through
  the body, then all ways together.
-/
module

public import proofs.«01_k».proof.Proof.KernelIdeal.Loop

@[expose] public section

set_option maxRecDepth 8192

noncomputable section

namespace Cert.KernelIdeal.Moe

open Idealize.ShloMosaic Idealize.ShloMosaic.TcCoe Idealize.ShloMosaic.Tactic Cert.KernelIdeal Cert.KernelIdeal.Gen Cert.Words
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev tbM0_0 : Memref sig .tc .smem S42 .i32 := Memref.whole main_arg0
abbrev tbM0_1 : Memref sig .tc .smem S42 .i32 := Memref.whole main_arg1
abbrev scM0_0 : Memref sig .tc .vmem S1024x1024 .bf16 := Memref.whole cc0_scratch0

/-- The word the body reads from a table at a grid point: the entry of the point's tile. -/
abbrev wordAt (i : grid0.Coords) (T1 : S42.Idx → Elt F .i32) : BitVec 32 :=
  View.readAt (Elt F) tbM0_1.view (Rect.unit (s := S42) (k0_off1 i) S1.size (k0_off1_inb i)).toLoadRect T1 (Shape.Idx.first (numel1_S1.symm ▸ Nat.one_pos))

set_option maxHeartbeats 8000000 in
/-- A full tile's first point. -/
theorem run_full_first (c : Dev nD) (i : grid0.Coords)
    (arg4 : Memref sig .tc .vmem S1024x1024 .f32) (harg4 : arg4.IsWhole)
    (arg5 : Memref sig .tc .vmem S1x1024x512 .f32) (harg5 : arg5.IsWhole)
    (arg6 : Memref sig .tc .vmem S1x1024x512 .f32) (harg6 : arg6.IsWhole)
    (arg7 : Memref sig .tc .vmem S1x512x1024 .f32) (harg7 : arg7.IsWhole)
    (arg8 : Memref sig .tc .vmem S1024x1024 .f32) (harg8 : arg8.IsWhole)
    (T0 T1 : S42.Idx → Elt F .i32) (x0 : Vec F S1024x1024 .f32) (x1 x2 : Vec F S1x1024x512 .f32) (x3 : Vec F S1x512x1024 .f32)
    (o : Vec F S1024x1024 .f32) (xb : Vec F S1024x1024 .bf16) (K : PUnit → sProp 𝕄)
    (hchk : k0_chk1 (wordAt i T1)) (hc1 : Scalar.cmpi .ne (Scalar.extui (Scalar.andi (Scalar.cmpi .eq (BitVec.ofNat 32 (i 1).val) 0#32) (Scalar.cmpi .sgt (wordAt i T1) 0#32))) 0#32 = 1#1) (hc2 : k0_cond2 (wordAt i T1) = 1#1) (hc3 : k0_cond3 i = 1#1) (hc4 : ¬(k0_cond4 i = 1#1)) (hc5 : ¬(k0_cond5 (wordAt i T1) = 1#1)) :
    iprop(owns (c : Thread nD τ) arg4 fullShare x0 ∗ owns (c : Thread nD τ) arg5 fullShare x1 ∗ owns (c : Thread nD τ) arg6 fullShare x2
        ∗ owns (c : Thread nD τ) arg7 fullShare x3
        ∗ (tbM0_0.view.loc (c : Thread nD τ) ↦{fullShare.right} T0) ∗ (tbM0_1.view.loc (c : Thread nD τ) ↦{fullShare.right} T1)
        ∗ owns (c : Thread nD τ) arg8 fullShare o ∗ owns (c : Thread nD τ) scM0_0 fullShare xb
        ∗ (iprop(owns (c : Thread nD τ) arg4 fullShare x0 ∗ owns (c : Thread nD τ) arg5 fullShare x1 ∗ owns (c : Thread nD τ) arg6 fullShare x2
            ∗ owns (c : Thread nD τ) arg7 fullShare x3
            ∗ (tbM0_0.view.loc (c : Thread nD τ) ↦{fullShare.right} T0) ∗ (tbM0_1.view.loc (c : Thread nD τ) ↦{fullShare.right} T1)
            ∗ owns (c : Thread nD τ) arg8 fullShare (k0_pay2 (k0_pay1 (wordAt i T1) x0) x1 x2 x3) ∗ owns (c : Thread nD τ) scM0_0 fullShare (k0_pay1 (wordAt i T1) x0)) -∗ K ⟨⟩))
      ⊢ wp frame (wpE (defs₀ (F := F)) Variants.none c none) Set.univ
          (cc0_moe_expert_swiglu i tbM0_0 (Memref.isWhole_whole _) tbM0_1 (Memref.isWhole_whole _) arg4 harg4 arg5 harg5 arg6 harg6 arg7 harg7 arg8 harg8 scM0_0 (Memref.isWhole_whole _)) K := by
  unfold owns
  rw [cc0_moe_expert_swiglu_eq_skeleton]; unfold cc0_moe_expert_swiglu_skel
  iintro ⟨⟨%f0, %h0, H0⟩, ⟨%f1, %h1, H1⟩, ⟨%f2, %h2, H2⟩, ⟨%f3, %h3, H3⟩, HT0, HT1, ⟨%f4, %h4, H4⟩, ⟨%fs, %hs, HS⟩, Hk⟩
  have hS0 : scM0_0.IsWhole := Memref.isWhole_whole _
  have hT0 : tbM0_0.IsWhole := Memref.isWhole_whole _
  have hT1 : tbM0_1.IsWhole := Memref.isWhole_whole _
  sl_exec! (disch := first | (guard_target = k0_chk1 _; exact hchk) | (guard_target = Scalar.cmpi _ _ _ = _; exact hc1) | (guard_target = k0_cond2 _ = _; exact hc2) | (guard_target = k0_cond3 _ = _; exact hc3) | (guard_target = ¬(k0_cond4 _ = _); exact hc4) | (guard_target = ¬(k0_cond5 _ = _); exact hc5))
  sl_step
  iapply Hk
  isplitl [H0]; · iexists f0; isplitr; · (ipureintro; exact h0)
                  iexact H0
  isplitl [H1]; · iexists f1; isplitr; · (ipureintro; exact h1)
                  iexact H1
  isplitl [H2]; · iexists f2; isplitr; · (ipureintro; exact h2)
                  iexact H2
  isplitl [H3]; · iexists f3; isplitr; · (ipureintro; exact h3)
                  iexact H3
  isplitl [HT0]; · iexact HT0
  isplitl [HT1]; · iexact HT1
  isplitl [H4]
  · iexists _; isplitr; swap
    · iexact H4
    · ipureintro
      unfold run_full_first.sl.H4_1
      rw [View.read_writes_full, View.readAt_full (Val := Elt F) arg5.view f1 inb_S1x1024x512_S1x1024x512_0_0_0, View.readAt_full (Val := Elt F) arg6.view f2 inb_S1x1024x512_S1x1024x512_0_0_0, View.readAt_full (Val := Elt F) arg7.view f3 inb_S1x512x1024_S1x512x1024_0_0_0, h1, h2, h3]
      refine congrArg (fun z => k0_pay2 z x1 x2 x3) ?_
      unfold run_full_first.sl.v13 run_full_first.sl.HS_1
      rw [View.readCov_full]
      exact congrArg (k0_pay1 (wordAt i T1)) ((View.readAt_full (Val := Elt F) arg4.view f0 inb_S1024x1024_S1024x1024_0_0).trans h0)
  · iexists _; isplitr; swap
    · iexact HS
    · ipureintro
      unfold run_full_first.sl.HS_1
      rw [View.read_writes_full]
      exact congrArg (k0_pay1 (wordAt i T1)) ((View.readAt_full (Val := Elt F) arg4.view f0 inb_S1024x1024_S1024x1024_0_0).trans h0)

set_option maxHeartbeats 8000000 in
/-- A full tile's later points. -/
theorem run_full_next (c : Dev nD) (i : grid0.Coords)
    (arg4 : Memref sig .tc .vmem S1024x1024 .f32) (harg4 : arg4.IsWhole)
    (arg5 : Memref sig .tc .vmem S1x1024x512 .f32) (harg5 : arg5.IsWhole)
    (arg6 : Memref sig .tc .vmem S1x1024x512 .f32) (harg6 : arg6.IsWhole)
    (arg7 : Memref sig .tc .vmem S1x512x1024 .f32) (harg7 : arg7.IsWhole)
    (arg8 : Memref sig .tc .vmem S1024x1024 .f32) (harg8 : arg8.IsWhole)
    (T0 T1 : S42.Idx → Elt F .i32) (x0 : Vec F S1024x1024 .f32) (x1 x2 : Vec F S1x1024x512 .f32) (x3 : Vec F S1x512x1024 .f32)
    (o : Vec F S1024x1024 .f32) (xb : Vec F S1024x1024 .bf16) (K : PUnit → sProp 𝕄)
    (hchk : k0_chk1 (wordAt i T1)) (hc1 : ¬(Scalar.cmpi .ne (Scalar.extui (Scalar.andi (Scalar.cmpi .eq (BitVec.ofNat 32 (i 1).val) 0#32) (Scalar.cmpi .sgt (wordAt i T1) 0#32))) 0#32 = 1#1)) (hc2 : k0_cond2 (wordAt i T1) = 1#1) (hc3 : ¬(k0_cond3 i = 1#1)) (hc4 : k0_cond4 i = 1#1) (hc5 : ¬(k0_cond5 (wordAt i T1) = 1#1)) :
    iprop(owns (c : Thread nD τ) arg4 fullShare x0 ∗ owns (c : Thread nD τ) arg5 fullShare x1 ∗ owns (c : Thread nD τ) arg6 fullShare x2
        ∗ owns (c : Thread nD τ) arg7 fullShare x3
        ∗ (tbM0_0.view.loc (c : Thread nD τ) ↦{fullShare.right} T0) ∗ (tbM0_1.view.loc (c : Thread nD τ) ↦{fullShare.right} T1)
        ∗ owns (c : Thread nD τ) arg8 fullShare o ∗ owns (c : Thread nD τ) scM0_0 fullShare xb
        ∗ (iprop(owns (c : Thread nD τ) arg4 fullShare x0 ∗ owns (c : Thread nD τ) arg5 fullShare x1 ∗ owns (c : Thread nD τ) arg6 fullShare x2
            ∗ owns (c : Thread nD τ) arg7 fullShare x3
            ∗ (tbM0_0.view.loc (c : Thread nD τ) ↦{fullShare.right} T0) ∗ (tbM0_1.view.loc (c : Thread nD τ) ↦{fullShare.right} T1)
            ∗ owns (c : Thread nD τ) arg8 fullShare (k0_pay3 xb x1 x2 x3 o) ∗ owns (c : Thread nD τ) scM0_0 fullShare (xb)) -∗ K ⟨⟩))
      ⊢ wp frame (wpE (defs₀ (F := F)) Variants.none c none) Set.univ
          (cc0_moe_expert_swiglu i tbM0_0 (Memref.isWhole_whole _) tbM0_1 (Memref.isWhole_whole _) arg4 harg4 arg5 harg5 arg6 harg6 arg7 harg7 arg8 harg8 scM0_0 (Memref.isWhole_whole _)) K := by
  unfold owns
  rw [cc0_moe_expert_swiglu_eq_skeleton]; unfold cc0_moe_expert_swiglu_skel
  iintro ⟨⟨%f0, %h0, H0⟩, ⟨%f1, %h1, H1⟩, ⟨%f2, %h2, H2⟩, ⟨%f3, %h3, H3⟩, HT0, HT1, ⟨%f4, %h4, H4⟩, ⟨%fs, %hs, HS⟩, Hk⟩
  have hS0 : scM0_0.IsWhole := Memref.isWhole_whole _
  have hT0 : tbM0_0.IsWhole := Memref.isWhole_whole _
  have hT1 : tbM0_1.IsWhole := Memref.isWhole_whole _
  sl_exec! (disch := first | (guard_target = k0_chk1 _; exact hchk) | (guard_target = ¬(Scalar.cmpi _ _ _ = _); exact hc1) | (guard_target = k0_cond2 _ = _; exact hc2) | (guard_target = ¬(k0_cond3 _ = _); exact hc3) | (guard_target = k0_cond4 _ = _; exact hc4) | (guard_target = ¬(k0_cond5 _ = _); exact hc5))
  sl_step
  iapply Hk
  isplitl [H0]; · iexists f0; isplitr; · (ipureintro; exact h0)
                  iexact H0
  isplitl [H1]; · iexists f1; isplitr; · (ipureintro; exact h1)
                  iexact H1
  isplitl [H2]; · iexists f2; isplitr; · (ipureintro; exact h2)
                  iexact H2
  isplitl [H3]; · iexists f3; isplitr; · (ipureintro; exact h3)
                  iexact H3
  isplitl [HT0]; · iexact HT0
  isplitl [HT1]; · iexact HT1
  isplitl [H4]
  · iexists _; isplitr; swap
    · iexact H4
    · ipureintro
      unfold run_full_next.sl.H4_1
      rw [View.read_writes_full, View.readAt_full (Val := Elt F) arg5.view f1 inb_S1x1024x512_S1x1024x512_0_0_0, View.readAt_full (Val := Elt F) arg6.view f2 inb_S1x1024x512_S1x1024x512_0_0_0, View.readAt_full (Val := Elt F) arg7.view f3 inb_S1x512x1024_S1x512x1024_0_0_0, View.readAt_full (Val := Elt F) arg8.view f4 inb_S1024x1024_S1024x1024_0_0, View.readAt_full (Val := Elt F) scM0_0.view fs inb_S1024x1024_S1024x1024_0_0, h1, h2, h3, h4, hs]
  · iexists _; isplitr; swap
    · iexact HS
    · ipureintro
      exact hs

set_option maxHeartbeats 8000000 in
/-- The first point of a partial tile with a live row. -/
theorem run_part_first (c : Dev nD) (i : grid0.Coords)
    (arg4 : Memref sig .tc .vmem S1024x1024 .f32) (harg4 : arg4.IsWhole)
    (arg5 : Memref sig .tc .vmem S1x1024x512 .f32) (harg5 : arg5.IsWhole)
    (arg6 : Memref sig .tc .vmem S1x1024x512 .f32) (harg6 : arg6.IsWhole)
    (arg7 : Memref sig .tc .vmem S1x512x1024 .f32) (harg7 : arg7.IsWhole)
    (arg8 : Memref sig .tc .vmem S1024x1024 .f32) (harg8 : arg8.IsWhole)
    (T0 T1 : S42.Idx → Elt F .i32) (x0 : Vec F S1024x1024 .f32) (x1 x2 : Vec F S1x1024x512 .f32) (x3 : Vec F S1x512x1024 .f32)
    (o : Vec F S1024x1024 .f32) (xb : Vec F S1024x1024 .bf16) (K : PUnit → sProp 𝕄)
    (hchk : k0_chk1 (wordAt i T1)) (hc1 : Scalar.cmpi .ne (Scalar.extui (Scalar.andi (Scalar.cmpi .eq (BitVec.ofNat 32 (i 1).val) 0#32) (Scalar.cmpi .sgt (wordAt i T1) 0#32))) 0#32 = 1#1) (hc2 : ¬(k0_cond2 (wordAt i T1) = 1#1)) (hc5 : k0_cond5 (wordAt i T1) = 1#1) (hc6 : k0_cond6 i = 1#1) :
    iprop(owns (c : Thread nD τ) arg4 fullShare x0 ∗ owns (c : Thread nD τ) arg5 fullShare x1 ∗ owns (c : Thread nD τ) arg6 fullShare x2
        ∗ owns (c : Thread nD τ) arg7 fullShare x3
        ∗ (tbM0_0.view.loc (c : Thread nD τ) ↦{fullShare.right} T0) ∗ (tbM0_1.view.loc (c : Thread nD τ) ↦{fullShare.right} T1)
        ∗ owns (c : Thread nD τ) arg8 fullShare o ∗ owns (c : Thread nD τ) scM0_0 fullShare xb
        ∗ (iprop(owns (c : Thread nD τ) arg4 fullShare x0 ∗ owns (c : Thread nD τ) arg5 fullShare x1 ∗ owns (c : Thread nD τ) arg6 fullShare x2
            ∗ owns (c : Thread nD τ) arg7 fullShare x3
            ∗ (tbM0_0.view.loc (c : Thread nD τ) ↦{fullShare.right} T0) ∗ (tbM0_1.view.loc (c : Thread nD τ) ↦{fullShare.right} T1)
            ∗ owns (c : Thread nD τ) arg8 fullShare (rowLoop (k0_pay1 (wordAt i T1) x0) x1 x2 x3 k0_pay4 (k0_t1_loop (wordAt i T1)).trips) ∗ owns (c : Thread nD τ) scM0_0 fullShare (k0_pay1 (wordAt i T1) x0)) -∗ K ⟨⟩))
      ⊢ wp frame (wpE (defs₀ (F := F)) Variants.none c none) Set.univ
          (cc0_moe_expert_swiglu i tbM0_0 (Memref.isWhole_whole _) tbM0_1 (Memref.isWhole_whole _) arg4 harg4 arg5 harg5 arg6 harg6 arg7 harg7 arg8 harg8 scM0_0 (Memref.isWhole_whole _)) K := by
  unfold owns
  rw [cc0_moe_expert_swiglu_eq_skeleton]; unfold cc0_moe_expert_swiglu_skel
  iintro ⟨⟨%f0, %h0, H0⟩, ⟨%f1, %h1, H1⟩, ⟨%f2, %h2, H2⟩, ⟨%f3, %h3, H3⟩, HT0, HT1, ⟨%f4, %h4, H4⟩, ⟨%fs, %hs, HS⟩, Hk⟩
  have hS0 : scM0_0.IsWhole := Memref.isWhole_whole _
  have hT0 : tbM0_0.IsWhole := Memref.isWhole_whole _
  have hT1 : tbM0_1.IsWhole := Memref.isWhole_whole _
  sl_exec! (disch := first | (guard_target = k0_chk1 _; exact hchk) | (guard_target = Scalar.cmpi _ _ _ = _; exact hc1) | (guard_target = ¬(k0_cond2 _ = _); exact hc2) | (guard_target = k0_cond5 _ = _; exact hc5) | (guard_target = k0_cond6 _ = _; exact hc6))
  sl_step
  iapply Hk
  isplitl [H0]; · iexists f0; isplitr; · (ipureintro; exact h0)
                  iexact H0
  isplitl [H1]; · iexists f1; isplitr; · (ipureintro; exact h1)
                  iexact H1
  isplitl [H2]; · iexists f2; isplitr; · (ipureintro; exact h2)
                  iexact H2
  isplitl [H3]; · iexists f3; isplitr; · (ipureintro; exact h3)
                  iexact H3
  isplitl [HT0]; · iexact HT0
  isplitl [HT1]; · iexact HT1
  isplitl [H4]
  · iexists _; isplitr; swap
    · iexact H4
    · ipureintro
      rw [hL5]
      unfold run_part_first.sl.HS_1 run_part_first.sl.H4_1
      rw [View.read_writes_full, View.read_writes_full, View.readAt_full (Val := Elt F) arg4.view f0 inb_S1024x1024_S1024x1024_0_0, h0, h1, h2, h3]
      rfl
  · iexists _; isplitr; swap
    · iexact HS
    · ipureintro
      unfold run_part_first.sl.HS_1
      rw [View.read_writes_full]
      exact congrArg (k0_pay1 (wordAt i T1)) ((View.readAt_full (Val := Elt F) arg4.view f0 inb_S1024x1024_S1024x1024_0_0).trans h0)

set_option maxHeartbeats 8000000 in
/-- The first point of a tile without a live row. -/
theorem run_none_first (c : Dev nD) (i : grid0.Coords)
    (arg4 : Memref sig .tc .vmem S1024x1024 .f32) (harg4 : arg4.IsWhole)
    (arg5 : Memref sig .tc .vmem S1x1024x512 .f32) (harg5 : arg5.IsWhole)
    (arg6 : Memref sig .tc .vmem S1x1024x512 .f32) (harg6 : arg6.IsWhole)
    (arg7 : Memref sig .tc .vmem S1x512x1024 .f32) (harg7 : arg7.IsWhole)
    (arg8 : Memref sig .tc .vmem S1024x1024 .f32) (harg8 : arg8.IsWhole)
    (T0 T1 : S42.Idx → Elt F .i32) (x0 : Vec F S1024x1024 .f32) (x1 x2 : Vec F S1x1024x512 .f32) (x3 : Vec F S1x512x1024 .f32)
    (o : Vec F S1024x1024 .f32) (xb : Vec F S1024x1024 .bf16) (K : PUnit → sProp 𝕄)
    (hchk : k0_chk1 (wordAt i T1)) (hc1 : ¬(Scalar.cmpi .ne (Scalar.extui (Scalar.andi (Scalar.cmpi .eq (BitVec.ofNat 32 (i 1).val) 0#32) (Scalar.cmpi .sgt (wordAt i T1) 0#32))) 0#32 = 1#1)) (hc2 : ¬(k0_cond2 (wordAt i T1) = 1#1)) (hc5 : k0_cond5 (wordAt i T1) = 1#1) (hc6 : k0_cond6 i = 1#1) :
    iprop(owns (c : Thread nD τ) arg4 fullShare x0 ∗ owns (c : Thread nD τ) arg5 fullShare x1 ∗ owns (c : Thread nD τ) arg6 fullShare x2
        ∗ owns (c : Thread nD τ) arg7 fullShare x3
        ∗ (tbM0_0.view.loc (c : Thread nD τ) ↦{fullShare.right} T0) ∗ (tbM0_1.view.loc (c : Thread nD τ) ↦{fullShare.right} T1)
        ∗ owns (c : Thread nD τ) arg8 fullShare o ∗ owns (c : Thread nD τ) scM0_0 fullShare xb
        ∗ (iprop(owns (c : Thread nD τ) arg4 fullShare x0 ∗ owns (c : Thread nD τ) arg5 fullShare x1 ∗ owns (c : Thread nD τ) arg6 fullShare x2
            ∗ owns (c : Thread nD τ) arg7 fullShare x3
            ∗ (tbM0_0.view.loc (c : Thread nD τ) ↦{fullShare.right} T0) ∗ (tbM0_1.view.loc (c : Thread nD τ) ↦{fullShare.right} T1)
            ∗ owns (c : Thread nD τ) arg8 fullShare (rowLoop xb x1 x2 x3 k0_pay4 (k0_t1_loop (wordAt i T1)).trips) ∗ owns (c : Thread nD τ) scM0_0 fullShare (xb)) -∗ K ⟨⟩))
      ⊢ wp frame (wpE (defs₀ (F := F)) Variants.none c none) Set.univ
          (cc0_moe_expert_swiglu i tbM0_0 (Memref.isWhole_whole _) tbM0_1 (Memref.isWhole_whole _) arg4 harg4 arg5 harg5 arg6 harg6 arg7 harg7 arg8 harg8 scM0_0 (Memref.isWhole_whole _)) K := by
  unfold owns
  rw [cc0_moe_expert_swiglu_eq_skeleton]; unfold cc0_moe_expert_swiglu_skel
  iintro ⟨⟨%f0, %h0, H0⟩, ⟨%f1, %h1, H1⟩, ⟨%f2, %h2, H2⟩, ⟨%f3, %h3, H3⟩, HT0, HT1, ⟨%f4, %h4, H4⟩, ⟨%fs, %hs, HS⟩, Hk⟩
  have hS0 : scM0_0.IsWhole := Memref.isWhole_whole _
  have hT0 : tbM0_0.IsWhole := Memref.isWhole_whole _
  have hT1 : tbM0_1.IsWhole := Memref.isWhole_whole _
  sl_exec! (disch := first | (guard_target = k0_chk1 _; exact hchk) | (guard_target = ¬(Scalar.cmpi _ _ _ = _); exact hc1) | (guard_target = ¬(k0_cond2 _ = _); exact hc2) | (guard_target = k0_cond5 _ = _; exact hc5) | (guard_target = k0_cond6 _ = _; exact hc6))
  sl_step
  iapply Hk
  isplitl [H0]; · iexists f0; isplitr; · (ipureintro; exact h0)
                  iexact H0
  isplitl [H1]; · iexists f1; isplitr; · (ipureintro; exact h1)
                  iexact H1
  isplitl [H2]; · iexists f2; isplitr; · (ipureintro; exact h2)
                  iexact H2
  isplitl [H3]; · iexists f3; isplitr; · (ipureintro; exact h3)
                  iexact H3
  isplitl [HT0]; · iexact HT0
  isplitl [HT1]; · iexact HT1
  isplitl [H4]
  · iexists _; isplitr; swap
    · iexact H4
    · ipureintro
      rw [hL5]
      unfold run_none_first.sl.H4_1
      rw [View.read_writes_full, hs, h1, h2, h3]
      rfl
  · iexists _; isplitr; swap
    · iexact HS
    · ipureintro
      exact hs

set_option maxHeartbeats 8000000 in
/-- The later points of a partial tile. -/
theorem run_part_next (c : Dev nD) (i : grid0.Coords)
    (arg4 : Memref sig .tc .vmem S1024x1024 .f32) (harg4 : arg4.IsWhole)
    (arg5 : Memref sig .tc .vmem S1x1024x512 .f32) (harg5 : arg5.IsWhole)
    (arg6 : Memref sig .tc .vmem S1x1024x512 .f32) (harg6 : arg6.IsWhole)
    (arg7 : Memref sig .tc .vmem S1x512x1024 .f32) (harg7 : arg7.IsWhole)
    (arg8 : Memref sig .tc .vmem S1024x1024 .f32) (harg8 : arg8.IsWhole)
    (T0 T1 : S42.Idx → Elt F .i32) (x0 : Vec F S1024x1024 .f32) (x1 x2 : Vec F S1x1024x512 .f32) (x3 : Vec F S1x512x1024 .f32)
    (o : Vec F S1024x1024 .f32) (xb : Vec F S1024x1024 .bf16) (K : PUnit → sProp 𝕄)
    (hchk : k0_chk1 (wordAt i T1)) (hc1 : ¬(Scalar.cmpi .ne (Scalar.extui (Scalar.andi (Scalar.cmpi .eq (BitVec.ofNat 32 (i 1).val) 0#32) (Scalar.cmpi .sgt (wordAt i T1) 0#32))) 0#32 = 1#1)) (hc2 : ¬(k0_cond2 (wordAt i T1) = 1#1)) (hc5 : k0_cond5 (wordAt i T1) = 1#1) (hc6 : ¬(k0_cond6 i = 1#1)) :
    iprop(owns (c : Thread nD τ) arg4 fullShare x0 ∗ owns (c : Thread nD τ) arg5 fullShare x1 ∗ owns (c : Thread nD τ) arg6 fullShare x2
        ∗ owns (c : Thread nD τ) arg7 fullShare x3
        ∗ (tbM0_0.view.loc (c : Thread nD τ) ↦{fullShare.right} T0) ∗ (tbM0_1.view.loc (c : Thread nD τ) ↦{fullShare.right} T1)
        ∗ owns (c : Thread nD τ) arg8 fullShare o ∗ owns (c : Thread nD τ) scM0_0 fullShare xb
        ∗ (iprop(owns (c : Thread nD τ) arg4 fullShare x0 ∗ owns (c : Thread nD τ) arg5 fullShare x1 ∗ owns (c : Thread nD τ) arg6 fullShare x2
            ∗ owns (c : Thread nD τ) arg7 fullShare x3
            ∗ (tbM0_0.view.loc (c : Thread nD τ) ↦{fullShare.right} T0) ∗ (tbM0_1.view.loc (c : Thread nD τ) ↦{fullShare.right} T1)
            ∗ owns (c : Thread nD τ) arg8 fullShare (rowLoop xb x1 x2 x3 o (k0_t1_loop (wordAt i T1)).trips) ∗ owns (c : Thread nD τ) scM0_0 fullShare (xb)) -∗ K ⟨⟩))
      ⊢ wp frame (wpE (defs₀ (F := F)) Variants.none c none) Set.univ
          (cc0_moe_expert_swiglu i tbM0_0 (Memref.isWhole_whole _) tbM0_1 (Memref.isWhole_whole _) arg4 harg4 arg5 harg5 arg6 harg6 arg7 harg7 arg8 harg8 scM0_0 (Memref.isWhole_whole _)) K := by
  unfold owns
  rw [cc0_moe_expert_swiglu_eq_skeleton]; unfold cc0_moe_expert_swiglu_skel
  iintro ⟨⟨%f0, %h0, H0⟩, ⟨%f1, %h1, H1⟩, ⟨%f2, %h2, H2⟩, ⟨%f3, %h3, H3⟩, HT0, HT1, ⟨%f4, %h4, H4⟩, ⟨%fs, %hs, HS⟩, Hk⟩
  have hS0 : scM0_0.IsWhole := Memref.isWhole_whole _
  have hT0 : tbM0_0.IsWhole := Memref.isWhole_whole _
  have hT1 : tbM0_1.IsWhole := Memref.isWhole_whole _
  sl_exec! (disch := first | (guard_target = k0_chk1 _; exact hchk) | (guard_target = ¬(Scalar.cmpi _ _ _ = _); exact hc1) | (guard_target = ¬(k0_cond2 _ = _); exact hc2) | (guard_target = k0_cond5 _ = _; exact hc5) | (guard_target = ¬(k0_cond6 _ = _); exact hc6))
  sl_step
  iapply Hk
  isplitl [H0]; · iexists f0; isplitr; · (ipureintro; exact h0)
                  iexact H0
  isplitl [H1]; · iexists f1; isplitr; · (ipureintro; exact h1)
                  iexact H1
  isplitl [H2]; · iexists f2; isplitr; · (ipureintro; exact h2)
                  iexact H2
  isplitl [H3]; · iexists f3; isplitr; · (ipureintro; exact h3)
                  iexact H3
  isplitl [HT0]; · iexact HT0
  isplitl [HT1]; · iexact HT1
  isplitl [H4]
  · iexists _; isplitr; swap
    · iexact H4
    · ipureintro
      rw [hL5, hs, h1, h2, h3, h4]
      rfl
  · iexists _; isplitr; swap
    · iexact HS
    · ipureintro
      exact hs

set_option maxHeartbeats 8000000 in
/-- The body at a grid point, whichever way it goes. -/
theorem body_run (c : Dev nD) (i : grid0.Coords)
    (arg4 : Memref sig .tc .vmem S1024x1024 .f32) (harg4 : arg4.IsWhole)
    (arg5 : Memref sig .tc .vmem S1x1024x512 .f32) (harg5 : arg5.IsWhole)
    (arg6 : Memref sig .tc .vmem S1x1024x512 .f32) (harg6 : arg6.IsWhole)
    (arg7 : Memref sig .tc .vmem S1x512x1024 .f32) (harg7 : arg7.IsWhole)
    (arg8 : Memref sig .tc .vmem S1024x1024 .f32) (harg8 : arg8.IsWhole)
    (T0 T1 : S42.Idx → Elt F .i32) (x0 : Vec F S1024x1024 .f32) (x1 x2 : Vec F S1x1024x512 .f32) (x3 : Vec F S1x512x1024 .f32)
    (o : Vec F S1024x1024 .f32) (xb : Vec F S1024x1024 .bf16) (K : PUnit → sProp 𝕄) (hv : (wordAt i T1).toInt ≤ 1024) :
    iprop(owns (c : Thread nD τ) arg4 fullShare x0 ∗ owns (c : Thread nD τ) arg5 fullShare x1 ∗ owns (c : Thread nD τ) arg6 fullShare x2
        ∗ owns (c : Thread nD τ) arg7 fullShare x3
        ∗ (tbM0_0.view.loc (c : Thread nD τ) ↦{fullShare.right} T0) ∗ (tbM0_1.view.loc (c : Thread nD τ) ↦{fullShare.right} T1)
        ∗ owns (c : Thread nD τ) arg8 fullShare o ∗ owns (c : Thread nD τ) scM0_0 fullShare xb
        ∗ (iprop(owns (c : Thread nD τ) arg4 fullShare x0 ∗ owns (c : Thread nD τ) arg5 fullShare x1 ∗ owns (c : Thread nD τ) arg6 fullShare x2
            ∗ owns (c : Thread nD τ) arg7 fullShare x3
            ∗ (tbM0_0.view.loc (c : Thread nD τ) ↦{fullShare.right} T0) ∗ (tbM0_1.view.loc (c : Thread nD τ) ↦{fullShare.right} T1)
            ∗ owns (c : Thread nD τ) arg8 fullShare (stepO (decide ((i 1).val = 0)) (wordAt i T1) (keepX (decide ((i 1).val = 0)) (wordAt i T1) x0 xb) x1 x2 x3 o) ∗ owns (c : Thread nD τ) scM0_0 fullShare (keepX (decide ((i 1).val = 0)) (wordAt i T1) x0 xb)) -∗ K ⟨⟩))
      ⊢ wp frame (wpE (defs₀ (F := F)) Variants.none c none) Set.univ
          (cc0_moe_expert_swiglu i tbM0_0 (Memref.isWhole_whole _) tbM0_1 (Memref.isWhole_whole _) arg4 harg4 arg5 harg5 arg6 harg6 arg7 harg7 arg8 harg8 scM0_0 (Memref.isWhole_whole _)) K := by
  have hchk := chk1_of (wordAt i T1) hv
  have htr := trips1 (wordAt i T1) hv
  have hc1 := cond1_iff i (wordAt i T1)
  have hc2 := cond2_iff (wordAt i T1)
  have hc5 := cond5_iff (wordAt i T1)
  have hc3 := cond3_iff i
  have hc4 := cond4_iff i
  have hc6 := cond6_iff i
  unfold stepO keepX
  by_cases hfull : wordAt i T1 = 1024#32
  · have hpos : 0 < (wordAt i T1).toInt := by rw [hfull]; decide
    have h5 : ¬ k0_cond5 (wordAt i T1) = 1#1 := by rw [hc5, hfull]; decide
    by_cases hf : (i 1).val = 0
    · simp only [hfull, hf, decide_true, if_true, true_and, show (0 : ℤ) < (1024#32 : BitVec 32).toInt by decide]
      have := run_full_first c i arg4 harg4 arg5 harg5 arg6 harg6 arg7 harg7 arg8 harg8 T0 T1 x0 x1 x2 x3 o xb K hchk (hc1.2 ⟨hf, hpos⟩) (hc2.2 hfull) (hc3.2 hf) (fun h => hc4.1 h hf) h5
      rw [hfull] at this
      exact this
    · simp only [hfull, hf, decide_false, if_true, false_and, Bool.false_eq_true, if_false]
      exact run_full_next c i arg4 harg4 arg5 harg5 arg6 harg6 arg7 harg7 arg8 harg8 T0 T1 x0 x1 x2 x3 o xb K hchk (fun h => hf (hc1.1 h).1) (hc2.2 hfull) (fun h => hf (hc3.1 h)) (hc4.2 hf) h5
  · have hlt : (wordAt i T1).toInt < 1024 := by
      rcases Int.lt_or_eq_of_le hv with h | h
      · exact h
      · exact absurd (BitVec.toInt_inj.1 (h.trans (by decide : (1024 : ℤ) = (1024#32 : BitVec 32).toInt))) hfull
    have h2 : ¬ k0_cond2 (wordAt i T1) = 1#1 := fun h => hfull (hc2.1 h)
    rw [if_neg hfull, ← htr]
    by_cases hf : (i 1).val = 0
    · by_cases hpos : 0 < (wordAt i T1).toInt
      · simp only [hf, hpos, decide_true, if_true, true_and]
        exact run_part_first c i arg4 harg4 arg5 harg5 arg6 harg6 arg7 harg7 arg8 harg8 T0 T1 x0 x1 x2 x3 o xb K hchk (hc1.2 ⟨hf, hpos⟩) h2 (hc5.2 hlt) (hc6.2 hf)
      · simp only [hf, hpos, decide_true, if_true, and_false, if_false]
        exact run_none_first c i arg4 harg4 arg5 harg5 arg6 harg6 arg7 harg7 arg8 harg8 T0 T1 x0 x1 x2 x3 o xb K hchk (fun h => hpos (hc1.1 h).2) h2 (hc5.2 hlt) (hc6.2 hf)
    · simp only [hf, decide_false, false_and, Bool.false_eq_true, if_false]
      exact run_part_next c i arg4 harg4 arg5 harg5 arg6 harg6 arg7 harg7 arg8 harg8 T0 T1 x0 x1 x2 x3 o xb K hchk (fun h => hf (hc1.1 h).1) h2 (hc5.2 hlt) (fun h => hf (hc6.1 h))

end Cert.KernelIdeal.Moe
-- ==== Proof.KernelIdeal.Tables.lean ====
/-
  The two tables: the expert of a tile, below 8, and its number of live rows, at most 1024. What the body and the index
  maps read of them at a grid point, and that every block then lies inside its array.
-/
module

public import proofs.«01_k».proof.Proof.KernelIdeal.Body
public import Mathlib.Tactic.IntervalCases
public import Mathlib.Tactic.FinCases

@[expose] public section

set_option maxRecDepth 8192

noncomputable section

namespace Cert.KernelIdeal.Moe

open Idealize.ShloMosaic Idealize.ShloMosaic.TcCoe Cert.KernelIdeal Cert.KernelIdeal.Gen Cert.Words

variable {F : FTy → Type} [FloatOps F]

/-- The tables' entry of a grid point's tile. -/
abbrev tileIx (i : grid0.Coords) : S42.Idx := fun a => ⟨(i 0).val, by fin_cases a; exact (i 0).isLt⟩

theorem off1_eq (i : grid0.Coords) (a : Fin 1) : k0_off1 i a = (i 0).val := by
  fin_cases a
  show (BitVec.ofNat 32 (i 0).val).toNat = _
  have : (i 0).val < 42 := (i 0).isLt
  rw [BitVec.toNat_ofNat, Nat.mod_eq_of_lt (by omega)]

theorem unit_first (i : grid0.Coords) (h : S1.numel = 1) :
    (Rect.unit (s := S42) (k0_off1 i) S1.size (k0_off1_inb i)).toLoadRect.idx (Shape.Idx.first (h.symm ▸ Nat.one_pos)) = tileIx i := by
  funext a
  apply Fin.ext
  fin_cases a
  show k0_off1 i 0 + 1 * 0 = (i 0).val
  rw [off1_eq]; rfl

theorem wordAt_eq (i : grid0.Coords) (T : S42.Idx → Elt F .i32) : wordAt i T = T (tileIx i) :=
  congrArg T (unit_first i numel1_S1)

/-- The tables' contents the kernel runs at. -/
structure InRange (te hi : S42.Idx → BitVec 32) : Prop where
  expert : ∀ j, (te j).toNat < 8
  rows : ∀ j, (hi j).toInt ≤ 1024

/-- The expert of a point's tile. -/
def teAt (pf : pre0.Contents (Elt F)) (i : grid0.Coords) : BitVec 32 := (pf 0 : S42.Idx → BitVec 32) (tileIx i)
/-- The number of live rows of a point's tile. -/
def hiAt (pf : pre0.Contents (Elt F)) (i : grid0.Coords) : BitVec 32 := (pf 1 : S42.Idx → BitVec 32) (tileIx i)

theorem at0_eq (pf : pre0.Contents (Elt F)) (i : grid0.Coords) :
    pf.at 0 (Rect.unit (s := S42) (k0_off1 i) S1.size (k0_off1_inb i)) numel1_S1 = teAt pf i := congrArg (pf 0) (unit_first i numel1_S1)
theorem at1_eq (pf : pre0.Contents (Elt F)) (i : grid0.Coords) :
    pf.at 1 (Rect.unit (s := S42) (k0_off1 i) S1.size (k0_off1_inb i)) numel1_S1 = hiAt pf i := congrArg (pf 1) (unit_first i numel1_S1)
theorem atD1_eq (pf : pre0.Contents (Elt F)) (i : grid0.Coords) : pf.atD 1 (k0_off1 i) = hiAt pf i := by
  refine (dif_pos (c := ∀ a, k0_off1 i a + 1 ≤ S42.size a) (fun a => by have := k0_off1_inb i a; fin_cases a; exact this)).trans ?_
  refine congrArg (pf 1 : S42.Idx → BitVec 32) ?_
  funext a; apply Fin.ext; exact off1_eq i a

/-- The row block of `x` that a tile reads: its own, the first if it has no live row. -/
def xTile (v : BitVec 32) (w : ℕ) : ℕ := if 0 < v.toInt then w else 0
/-- The column block of the weights that a point reads: its own, the last if its tile has no live row. -/
def wTile (v : BitVec 32) (f : ℕ) : ℕ := if 0 < v.toInt then f else 6

theorem xTile_word (v : BitVec 32) (w : ℕ) (hw : w < 42) :
    (Scalar.select (Scalar.cmpi .sgt v 0#32) (BitVec.ofNat 32 w) 0#32).toNat = xTile v w := by
  rw [sgt_zero]
  unfold xTile
  by_cases h : 0 < v.toInt
  · simp only [h, decide_true, if_true]; interval_cases w <;> rfl
  · simp only [h, decide_false, if_false]; rfl

theorem transform_0_eq (pf : pre0.Contents (Elt F)) (i : grid0.Coords) :
    cc0_transform_0 k0_off1_inb numel1_S1 pf i = ![xTile (hiAt pf i) (i 0).val, 0] :=
  (congrArg (fun v : BitVec 32 => (![(Scalar.select (Scalar.cmpi .sgt v 0#32) (BitVec.ofNat 32 (i 0).val) 0#32).toNat, 0] : Fin 2 → ℕ)) (at1_eq pf i)).trans
    (congrArg (fun n : ℕ => (![n, 0] : Fin 2 → ℕ)) (xTile_word _ _ (i 0).isLt))

theorem wTile_word (v : BitVec 32) (f : ℕ) (hf : f < 7) :
    (Scalar.addi (Scalar.muli (BitVec.ofNat 32 f) (Scalar.extui (Scalar.cmpi .sgt v 0#32)))
      (Scalar.muli 6#32 (Scalar.subi 1#32 (Scalar.extui (Scalar.cmpi .sgt v 0#32))))).toNat = wTile v f := by
  rw [sgt_zero]
  unfold wTile
  by_cases h : 0 < v.toInt
  · simp only [h, decide_true, if_true]; interval_cases f <;> decide
  · simp only [h, decide_false, if_false]; interval_cases f <;> decide

theorem transform_1_eq (pf : pre0.Contents (Elt F)) (i : grid0.Coords) :
    cc0_transform_1 k0_off1_inb numel1_S1 pf i = ![(teAt pf i).toNat, 0, wTile (hiAt pf i) (i 1).val] :=
  (congrArg₂ (fun t v : BitVec 32 => (![t.toNat, 0, (Scalar.addi (Scalar.muli (BitVec.ofNat 32 (i 1).val) (Scalar.extui (Scalar.cmpi .sgt v 0#32)))
      (Scalar.muli 6#32 (Scalar.subi 1#32 (Scalar.extui (Scalar.cmpi .sgt v 0#32))))).toNat] : Fin 3 → ℕ)) (at0_eq pf i) (at1_eq pf i)).trans
    (congrArg (fun n : ℕ => (![(teAt pf i).toNat, 0, n] : Fin 3 → ℕ)) (wTile_word _ _ (first_lt i)))

theorem transform_2_eq (pf : pre0.Contents (Elt F)) (i : grid0.Coords) :
    cc0_transform_2 k0_off1_inb numel1_S1 pf i = ![(teAt pf i).toNat, 0, wTile (hiAt pf i) (i 1).val] := transform_1_eq pf i

theorem transform_3_eq (pf : pre0.Contents (Elt F)) (i : grid0.Coords) :
    cc0_transform_3 k0_off1_inb numel1_S1 pf i = ![(teAt pf i).toNat, wTile (hiAt pf i) (i 1).val, 0] :=
  (congrArg₂ (fun t v : BitVec 32 => (![t.toNat, (Scalar.addi (Scalar.muli (BitVec.ofNat 32 (i 1).val) (Scalar.extui (Scalar.cmpi .sgt v 0#32)))
      (Scalar.muli 6#32 (Scalar.subi 1#32 (Scalar.extui (Scalar.cmpi .sgt v 0#32))))).toNat, 0] : Fin 3 → ℕ)) (at0_eq pf i) (at1_eq pf i)).trans
    (congrArg (fun n : ℕ => (![(teAt pf i).toNat, n, 0] : Fin 3 → ℕ)) (wTile_word _ _ (first_lt i)))

theorem transform_4_eq (i : grid0.Coords) : cc0_transform_4 i = ![(i 0).val, 0] := by
  show ![(BitVec.ofNat 32 (i 0).val).toNat, 0] = _
  have : (i 0).val < 42 := (i 0).isLt
  rw [BitVec.toNat_ofNat, Nat.mod_eq_of_lt (by omega)]

theorem xTile_lt (v : BitVec 32) (w : ℕ) (h : w < 42) : xTile v w < 42 := by unfold xTile; split <;> omega
theorem wTile_lt (v : BitVec 32) (f : ℕ) (h : f < 7) : wTile v f < 7 := by unfold wTile; split <;> omega

/-- Every block lies inside its array. -/
theorem ok_of (pf : pre0.Contents (Elt F)) (h : InRange (pf 0) (pf 1)) : ok0 pf := by
  refine ⟨fun i => ⟨fun a => ?_, .inl rfl⟩, fun i => ⟨fun a => ?_, .inl rfl⟩, fun i => ⟨fun a => ?_, .inl rfl⟩, fun i => ⟨fun a => ?_, .inl rfl⟩⟩
  · rw [transform_0_eq]
    have := xTile_lt (hiAt pf i) (i 0).val (i 0).isLt
    fin_cases a
    · show (xTile (hiAt pf i) (i 0).val + 1) * 1024 ≤ 43008; omega
    · show (0 + 1) * 1024 ≤ 1024; omega
  · rw [transform_1_eq]
    have := wTile_lt (hiAt pf i) (i 1).val (i 1).isLt
    have he : (teAt pf i).toNat < 8 := h.expert (tileIx i)
    fin_cases a
    · show ((teAt pf i).toNat + 1) * 1 ≤ 8; omega
    · show (0 + 1) * 1024 ≤ 1024; omega
    · show (wTile (hiAt pf i) (i 1).val + 1) * 512 ≤ 3584; omega
  · rw [transform_2_eq]
    have := wTile_lt (hiAt pf i) (i 1).val (i 1).isLt
    have he : (teAt pf i).toNat < 8 := h.expert (tileIx i)
    fin_cases a
    · show ((teAt pf i).toNat + 1) * 1 ≤ 8; omega
    · show (0 + 1) * 1024 ≤ 1024; omega
    · show (wTile (hiAt pf i) (i 1).val + 1) * 512 ≤ 3584; omega
  · rw [transform_3_eq]
    have := wTile_lt (hiAt pf i) (i 1).val (i 1).isLt
    have he : (teAt pf i).toNat < 8 := h.expert (tileIx i)
    fin_cases a
    · show ((teAt pf i).toNat + 1) * 1 ≤ 8; omega
    · show (wTile (hiAt pf i) (i 1).val + 1) * 512 ≤ 3584; omega
    · show (0 + 1) * 1024 ≤ 1024; omega

/-- The body stores its output block at every point. -/
theorem idle_false (pf : pre0.Contents (Elt F)) (h : InRange (pf 0) (pf 1)) (i : grid0.Coords) : idle0 pf 4 i = false := by
  show (!(k0_cond2 (pf.atD 1 (k0_off1 i)) == 1#1 && k0_cond3 i == 1#1) && !(k0_cond2 (pf.atD 1 (k0_off1 i)) == 1#1 && k0_cond4 i == 1#1) && !(k0_cond5 (pf.atD 1 (k0_off1 i)) == 1#1 && k0_cond6 i == 1#1) && !(k0_cond5 (pf.atD 1 (k0_off1 i)) == 1#1)) = false
  rw [atD1_eq]
  have hv : (hiAt pf i).toInt ≤ 1024 := h.rows (tileIx i)
  generalize hiAt pf i = v at hv ⊢
  rcases Int.lt_or_eq_of_le hv with hlt | heq
  · rw [(cond5_iff v).2 hlt]; simp
  · have h2 : k0_cond2 v = 1#1 := (cond2_iff v).2 (BitVec.toInt_inj.1 (heq.trans (by decide : (1024 : ℤ) = (1024#32 : BitVec 32).toInt)))
    rw [h2]
    by_cases hf : (i 1).val = 0
    · rw [(cond3_iff i).2 hf]; simp
    · rw [(cond4_iff i).2 hf]; simp

end Cert.KernelIdeal.Moe
-- ==== Proof.KernelIdeal.Points.lean ====
/-
  The kernel's pipeline at tables in range: a point's coordinates, the blocks its windows read, when the output block is
  written back, and the output block after every point.
-/
module

public import proofs.«01_k».proof.Proof.KernelIdeal.Tables
public import proofs.«01_k».proof.Proof.Gen.KernelIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Pipeline.ValueKit
public import Idealize.ShloMosaic.Lib.Writes
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384

noncomputable section

namespace Cert.KernelIdeal.Moe

open Idealize.ShloMosaic Idealize.ShloMosaic.TcCoe Idealize.ShloMosaic.Tactic Cert.KernelIdeal Cert.KernelIdeal.Gen Cert.Words
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The tables' contents as a launch memory holds them. -/
abbrev Tab (F : FTy → Type) := { pf : pre0.Contents (Elt F) // InRange (pf 0) (pf 1) }

variable (T : Tab F)

/-- The pipeline at the tables. -/
def adm : (pcfg0 (F := F)).Adm := ⟨T.1, ok_of T.1 T.2⟩
abbrev cfgA : Pipeline.Cfg sig Λ₀ := cfg0 (F := F) (adm T)
abbrev pcs : Fin 1 → Pipeline.Cfg sig Λ₀ := Pipeline.pin (pcfgs (F := F)) fun _ => adm T

/-- Point `t`'s coordinates: the tile and the column block. -/
abbrev crd (t : Fin (cfgA T).N) : grid0.Coords := (cfgA T).grid.coords t

theorem crd_0 (t : Fin (cfgA T).N) : (crd T t 0).val = t.val / 7 := by
  have h := Pipeline.Grid.coords_val (G := grid0) t 0 (S := 7) (B := 42) (by decide) rfl
  have ht : t.val < 294 := Nat.lt_of_lt_of_eq t.isLt N_0
  refine h.trans (Nat.mod_eq_of_lt ?_)
  omega

theorem crd_1 (t : Fin (cfgA T).N) : (crd T t 1).val = t.val % 7 := by
  have h := Pipeline.Grid.coords_val (G := grid0) t 1 (S := 1) (B := 7) (by decide) rfl
  rw [Nat.div_one] at h
  exact h

/-- The tile's entry of a table is the same at every point of the tile. -/
theorem tileIx_congr {i i' : grid0.Coords} (h : (i 0).val = (i' 0).val) : tileIx i = tileIx i' := by
  funext a; exact Fin.ext h
theorem hiAt_congr (pf : pre0.Contents (Elt F)) {i i' : grid0.Coords} (h : (i 0).val = (i' 0).val) : hiAt pf i = hiAt pf i' :=
  congrArg (pf 1 : S42.Idx → BitVec 32) (tileIx_congr h)
theorem teAt_congr (pf : pre0.Contents (Elt F)) {i i' : grid0.Coords} (h : (i 0).val = (i' 0).val) : teAt pf i = teAt pf i' :=
  congrArg (pf 0 : S42.Idx → BitVec 32) (tileIx_congr h)

/-! The windows' blocks. -/

theorem index_0 (t : Fin (cfgA T).N) : ((cfgA T).win (0 : Fin 5)).index t = ![xTile (hiAt T.1 (crd T t)) (crd T t 0).val, 0] := transform_0_eq T.1 _
theorem index_1 (t : Fin (cfgA T).N) : ((cfgA T).win (1 : Fin 5)).index t = ![(teAt T.1 (crd T t)).toNat, 0, wTile (hiAt T.1 (crd T t)) (crd T t 1).val] := transform_1_eq T.1 _
theorem index_2 (t : Fin (cfgA T).N) : ((cfgA T).win (2 : Fin 5)).index t = ![(teAt T.1 (crd T t)).toNat, 0, wTile (hiAt T.1 (crd T t)) (crd T t 1).val] := transform_2_eq T.1 _
theorem index_3 (t : Fin (cfgA T).N) : ((cfgA T).win (3 : Fin 5)).index t = ![(teAt T.1 (crd T t)).toNat, wTile (hiAt T.1 (crd T t)) (crd T t 1).val, 0] := transform_3_eq T.1 _
theorem index_4 (t : Fin (cfgA T).N) : ((cfgA T).win (4 : Fin 5)).index t = ![(crd T t 0).val, 0] := transform_4_eq _

/-- The output block is written back after a tile's last point. -/
theorem flush_4 (t : Fin (cfgA T).N) : ((cfgA T).win (4 : Fin 5)).flush t = true ↔ t.val % 7 = 6 := by
  have ht : t.val < 294 := Nat.lt_of_lt_of_eq t.isLt N_0
  unfold Pipeline.Window.flush
  rw [show ((cfgA T).win (4 : Fin 5)).isOut = true from rfl, Bool.true_and, Bool.or_eq_true, decide_eq_true_iff, decide_eq_true_iff]
  have hN : (cfgA T).grid.N = 294 := N_0
  constructor
  · rintro (h | ⟨h, hne⟩)
    · omega
    · rw [index_4, index_4, crd_0, crd_0] at hne
      by_contra h6
      apply hne
      rw [show (t.val + 1) / 7 = t.val / 7 by omega]
  · intro h6
    by_cases hl : t.val + 1 = 294
    · exact .inl (hl.trans hN.symm)
    · refine .inr ⟨Nat.lt_of_lt_of_eq (by omega : t.val + 1 < 294) hN.symm, ?_⟩
      rw [index_4, index_4, crd_0, crd_0]
      intro he
      have := congrFun he 0
      change (t.val + 1) / 7 = t.val / 7 at this
      omega

theorem idle_4 (t : Fin (cfgA T).N) : (cfgA T).idle (4 : Fin 5) ((cfgA T).grid.coords t) = false := idle_false T.1 T.2 _

/-- The body finds an output block of its own tile at every point but the tile's first. -/
theorem fresh_4 (n : ℕ) (h : n < (cfgA T).N) : (cfgA T).fresh (4 : Fin 5) n = decide (n % 7 = 0) := by
  cases n with
  | zero => rfl
  | succ n =>
    rw [Pipeline.Cfg.fresh_succ _ _ n (by omega), idle_4, Bool.false_and, Bool.or_false, Bool.eq_iff_iff, flush_4, decide_eq_true_iff]
    show n % 7 = 6 ↔ (n + 1) % 7 = 0
    omega

variable (m : (ℓ : Loc nD τ sig) → Buf (Elt F) ℓ) (ρ : Dev nD → PrngReg)

/-- The launch state, and window `w`'s block at point `t` read from it. -/
abbrev s₀ : MemSt nD τ sig (Elt F) := ⟨m, fun _ => 0, ρ⟩
def iblk (c : Dev nD) (w : Fin (cfgA T).W) (t : Fin (cfgA T).N) : (((cfgA T).win w).xblock (crd T t)).Idx → Elt F ((cfgA T).win w).elt :=
  (((cfgA T).win w).blk t).view.read (Elt F) (m (((cfgA T).win w).arr.view.loc (c : Thread nD τ)))

/-- A block of rows of `x`. -/
def xBlk {α : Type} (X : S43008x1024.Idx → α) (w : Fin 42) : S1024x1024.Idx → α :=
  fun y => X (ix2 ⟨w.val * 1024 + (y 0).val, by have : (y 0).val < 1024 := (y 0).isLt; omega⟩ (y 1))
/-- A block of columns of an expert's gate or up weights. -/
def wBlk {α : Type} (W : S8x1024x3584.Idx → α) (e : Fin 8) (f : Fin 7) : S1x1024x512.Idx → α :=
  fun y => W (ix3 e (y 1) ⟨f.val * 512 + (y 2).val, by have : (y 2).val < 512 := (y 2).isLt; omega⟩)
/-- A block of rows of an expert's down weights. -/
def dBlk {α : Type} (W : S8x3584x1024.Idx → α) (e : Fin 8) (f : Fin 7) : S1x512x1024.Idx → α :=
  fun y => W (ix3 e ⟨f.val * 512 + (y 1).val, by have : (y 1).val < 512 := (y 1).isLt; omega⟩ (y 2))

/-- The blocks of a point: the tile of `x`, the expert, the column block. -/
def xw (t : Fin (cfgA T).N) : Fin 42 := ⟨xTile (hiAt T.1 (crd T t)) (crd T t 0).val, xTile_lt _ _ (crd T t 0).isLt⟩
def ew (t : Fin (cfgA T).N) : Fin 8 := ⟨(teAt T.1 (crd T t)).toNat, T.2.expert _⟩
def fw (t : Fin (cfgA T).N) : Fin 7 := ⟨wTile (hiAt T.1 (crd T t)) (crd T t 1).val, wTile_lt _ _ (crd T t 1).isLt⟩

theorem iblk_0 (c : Dev nD) (t : Fin (cfgA T).N) : iblk T m c (0 : Fin 5) t = xBlk (m ((c : Thread nD τ).loc main_arg2)) (xw T t) := by
  funext y
  unfold xBlk xw
  blk_ext [iblk, index_0 T t]

theorem iblk_1 (c : Dev nD) (t : Fin (cfgA T).N) : iblk T m c (1 : Fin 5) t = wBlk (m ((c : Thread nD τ).loc main_arg3)) (ew T t) (fw T t) := by
  funext y
  unfold wBlk ew fw
  blk_ext [iblk, index_1 T t]

theorem iblk_2 (c : Dev nD) (t : Fin (cfgA T).N) : iblk T m c (2 : Fin 5) t = wBlk (m ((c : Thread nD τ).loc main_arg4)) (ew T t) (fw T t) := by
  funext y
  unfold wBlk ew fw
  blk_ext [iblk, index_2 T t]

theorem iblk_3 (c : Dev nD) (t : Fin (cfgA T).N) : iblk T m c (3 : Fin 5) t = dBlk (m ((c : Thread nD τ).loc main_arg5)) (ew T t) (fw T t) := by
  funext y
  unfold dBlk ew fw
  blk_ext [iblk, index_3 T t]

end Cert.KernelIdeal.Moe
-- ==== Proof.KernelIdeal.Run.lean ====
/-
  The launch: the pipeline's proof data (what every window's buffer holds after every point, and the rounded rows kept
  between the points of a tile), the body's obligation at a point, and the run of the program from a launch memory.
-/
module

public import proofs.«01_k».proof.Proof.KernelIdeal.Points

@[expose] public section

set_option maxRecDepth 16384
set_option Elab.async false

noncomputable section

namespace Cert.KernelIdeal.Moe

open Idealize.ShloMosaic Idealize.ShloMosaic.TcCoe Idealize.ShloMosaic.Tactic Cert.KernelIdeal Cert.KernelIdeal.Gen Cert.Words
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ
abbrev EP : Emb (UR sig nD τ) 𝕄 := emb₁

variable (T : Tab F) (m : (ℓ : Loc nD τ sig) → Buf (Elt F) ℓ) (ρ : Dev nD → PrngReg)

/-! ## The output block after every point -/

/-- The rounded rows of point `t`'s tile. -/
def rows (c : Dev nD) (t : Fin (cfgA T).N) : Vec F S1024x1024 .bf16 :=
  k0_pay1 (hiAt T.1 (crd T t)) (iblk T m c (0 : Fin 5) t)

/-- One point's step of the output block. -/
def step (c : Dev nD) (t : Fin (cfgA T).N) (o : Vec F S1024x1024 .f32) : Vec F S1024x1024 .f32 :=
  stepO (decide ((crd T t 1).val = 0)) (hiAt T.1 (crd T t)) (rows T m c t) (iblk T m c (1 : Fin 5) t) (iblk T m c (2 : Fin 5) t) (iblk T m c (3 : Fin 5) t) o

/-- The output block after point `n`. -/
def traj (c : Dev nD) : (n : ℕ) → n < (cfgA T).N → Vec F S1024x1024 .f32
  | 0, h => step T m c ⟨0, h⟩ k0_pay4
  | n + 1, h => step T m c ⟨n + 1, h⟩ (traj c n (Nat.lt_of_succ_lt h))

/-- The output block that the body finds at a point that is not its tile's first. -/
def prev (c : Dev nD) (t : Fin (cfgA T).N) : Vec F S1024x1024 .f32 :=
  if h : t.val = 0 then k0_pay4 else traj T m c (t.val - 1) (by have := t.isLt; omega)

theorem traj_eq (c : Dev nD) (t : Fin (cfgA T).N) : traj T m c t.val t.isLt = step T m c t (prev T m c t) := by
  obtain ⟨n, hn⟩ := t
  cases n with
  | zero => rfl
  | succ n => unfold prev; simp only [Nat.add_one_ne_zero, dif_neg, not_false_eq_true]; rfl

/-- What the step does not depend on: the rounded rows where the tile has no live row, the block found at a tile's first point. -/
theorem stepO_congr (first : Bool) (v : BitVec 32) (xb xb' : Vec F S1024x1024 .bf16) (wg wu : Vec F S1x1024x512 .f32) (wd : Vec F S1x512x1024 .f32)
    (o o' : Vec F S1024x1024 .f32) (hx : 0 < v.toInt → xb = xb') (ho : first = false → o = o') :
    stepO first v xb wg wu wd o = stepO first v xb' wg wu wd o' := by
  by_cases hv : 0 < v.toInt
  · rw [hx hv]
    cases first with
    | true => simp only [stepO, if_true]
    | false => rw [ho rfl]
  · have h1 : v ≠ 1024#32 := fun h => hv (by rw [h]; decide)
    have h0 : blocks v = 0 := by unfold blocks; omega
    unfold stepO
    rw [if_neg h1, if_neg h1, h0]
    cases first with
    | true => simp only [rowLoop, if_true]
    | false => rw [ho rfl]; rfl

/-- Two points of one tile have the same rounded rows. -/
theorem rows_congr (c : Dev nD) (t t' : Fin (cfgA T).N) (h : t.val / 7 = t'.val / 7) : rows T m c t = rows T m c t' := by
  have h0 : (crd T t 0).val = (crd T t' 0).val := by rw [crd_0, crd_0, h]
  have hv := hiAt_congr T.1 h0
  unfold rows
  rw [iblk_0, iblk_0, hv]
  have : xw T t = xw T t' := Fin.ext (by unfold xw; simp only [hv, h0])
  rw [this]

/-! ## The proof data -/

/-- Before point `t`: past a tile's first point the scratch buffer holds the tile's rounded rows, if it has a live row. -/
def Phi (c : Dev nD) (t : Fin ((cfgA T).N + 1)) : sProp 𝕄 :=
  iprop((∃ a, ⌜∀ h : t.val < (cfgA T).N, t.val % 7 ≠ 0 → 0 < (hiAt T.1 (crd T ⟨t.val, h⟩)).toInt → a = rows T m c ⟨t.val, h⟩⌝
      ∗ owns (c : Thread nD τ) scM0_0 fullShare a)
    ∗ (tbM0_0.view.loc (c : Thread nD τ) ↦{fullShare.right} T.1 0) ∗ (tbM0_1.view.loc (c : Thread nD τ) ↦{fullShare.right} T.1 1))

def dats (_ : Fin 1) (c : Dev nD) : Dat τ (Elt F) Unit ℕ (UR sig nD τ) ℕ (cfgA T) c where
  A w := (s₀ m ρ).mem (((cfgA T).win w).arr.view.loc (c : Thread nD τ))
  after w t := match w with
    | ⟨0, _⟩ => iblk T m c (0 : Fin 5) t
    | ⟨1, _⟩ => iblk T m c (1 : Fin 5) t
    | ⟨2, _⟩ => iblk T m c (2 : Fin 5) t
    | ⟨3, _⟩ => iblk T m c (3 : Fin 5) t
    | ⟨4, _⟩ => traj T m c t.val t.isLt
  Φ t := Phi T m c t
  q _ := fullShare
  owed _ := 0

theorem after_0 (c : Dev nD) (t : Fin (cfgA T).N) : (dats T m ρ 0 c).after (0 : Fin 5) t = iblk T m c (0 : Fin 5) t := rfl
theorem after_1 (c : Dev nD) (t : Fin (cfgA T).N) : (dats T m ρ 0 c).after (1 : Fin 5) t = iblk T m c (1 : Fin 5) t := rfl
theorem after_2 (c : Dev nD) (t : Fin (cfgA T).N) : (dats T m ρ 0 c).after (2 : Fin 5) t = iblk T m c (2 : Fin 5) t := rfl
theorem after_3 (c : Dev nD) (t : Fin (cfgA T).N) : (dats T m ρ 0 c).after (3 : Fin 5) t = iblk T m c (3 : Fin 5) t := rfl
theorem after_4 (c : Dev nD) (t : Fin (cfgA T).N) : (dats T m ρ 0 c).after (4 : Fin 5) t = traj T m c t.val t.isLt := rfl

/-! What the body finds: the inputs' blocks, and its own output block past a tile's first point. -/

theorem before_0 (c : Dev nD) (t : Fin (cfgA T).N) (d) : (dats T m ρ 0 c).before (0 : Fin 5) t d = iblk T m c (0 : Fin 5) t :=
  ((dats T m ρ 0 c).before_in_eq_fetched (0 : Fin 5) rfl (fun _ => rfl) (fun _ _ _ => rfl) (fun t => by rw [after_0]; unfold Dat.blockOf iblk; rfl) t d).trans
    (by unfold Dat.fetched Dat.blockOf iblk; rfl)
theorem before_1 (c : Dev nD) (t : Fin (cfgA T).N) (d) : (dats T m ρ 0 c).before (1 : Fin 5) t d = iblk T m c (1 : Fin 5) t :=
  ((dats T m ρ 0 c).before_in_eq_fetched (1 : Fin 5) rfl (fun _ => rfl) (fun _ _ _ => rfl) (fun t => by rw [after_1]; unfold Dat.blockOf iblk; rfl) t d).trans
    (by unfold Dat.fetched Dat.blockOf iblk; rfl)
theorem before_2 (c : Dev nD) (t : Fin (cfgA T).N) (d) : (dats T m ρ 0 c).before (2 : Fin 5) t d = iblk T m c (2 : Fin 5) t :=
  ((dats T m ρ 0 c).before_in_eq_fetched (2 : Fin 5) rfl (fun _ => rfl) (fun _ _ _ => rfl) (fun t => by rw [after_2]; unfold Dat.blockOf iblk; rfl) t d).trans
    (by unfold Dat.fetched Dat.blockOf iblk; rfl)
theorem before_3 (c : Dev nD) (t : Fin (cfgA T).N) (d) : (dats T m ρ 0 c).before (3 : Fin 5) t d = iblk T m c (3 : Fin 5) t :=
  ((dats T m ρ 0 c).before_in_eq_fetched (3 : Fin 5) rfl (fun _ => rfl) (fun _ _ _ => rfl) (fun t => by rw [after_3]; unfold Dat.blockOf iblk; rfl) t d).trans
    (by unfold Dat.fetched Dat.blockOf iblk; rfl)

theorem before_4 (c : Dev nD) (t : Fin (cfgA T).N) (d) (h : t.val % 7 ≠ 0) :
    (dats T m ρ 0 c).before (4 : Fin 5) t d = prev T m c t := by
  rw [(dats T m ρ 0 c).before_out_traj (4 : Fin 5) rfl (fun _ _ => rfl) (fun t _ hi => by rw [idle_4] at hi; exact absurd hi Bool.false_ne_true) t.val t rfl d]
  rw [fresh_4 T t.val t.isLt]
  have h0 : t.val ≠ 0 := fun h0 => h (by rw [h0])
  simp only [h, decide_false, Bool.false_eq_true, if_false]
  unfold prev
  rw [dif_neg h0]
  rfl

/-! ## The body's obligation -/

abbrev ms_0 (t : Fin (cfgA T).N) : Memref sig .tc .vmem S1024x1024 .f32 := spec0_0.stage ((cfgA T).slots t (0 : Fin 5))
abbrev hs_0 (t : Fin (cfgA T).N) : (ms_0 T t).IsWhole := hstage0_0 (((cfgA T).slots t (0 : Fin 5)).cast nbuf0_0)
abbrev ms_1 (t : Fin (cfgA T).N) : Memref sig .tc .vmem S1x1024x512 .f32 := spec0_1.stage ((cfgA T).slots t (1 : Fin 5))
abbrev hs_1 (t : Fin (cfgA T).N) : (ms_1 T t).IsWhole := hstage0_1 (((cfgA T).slots t (1 : Fin 5)).cast nbuf0_1)
abbrev ms_2 (t : Fin (cfgA T).N) : Memref sig .tc .vmem S1x1024x512 .f32 := spec0_2.stage ((cfgA T).slots t (2 : Fin 5))
abbrev hs_2 (t : Fin (cfgA T).N) : (ms_2 T t).IsWhole := hstage0_2 (((cfgA T).slots t (2 : Fin 5)).cast nbuf0_2)
abbrev ms_3 (t : Fin (cfgA T).N) : Memref sig .tc .vmem S1x512x1024 .f32 := spec0_3.stage ((cfgA T).slots t (3 : Fin 5))
abbrev hs_3 (t : Fin (cfgA T).N) : (ms_3 T t).IsWhole := hstage0_3 (((cfgA T).slots t (3 : Fin 5)).cast nbuf0_3)
abbrev ms_4 (t : Fin (cfgA T).N) : Memref sig .tc .vmem S1024x1024 .f32 := spec0_4.stage ((cfgA T).slots t (4 : Fin 5))
abbrev hs_4 (t : Fin (cfgA T).N) : (ms_4 T t).IsWhole := hstage0_4 (((cfgA T).slots t (4 : Fin 5)).cast nbuf0_4)

abbrev bodyAt (t : Fin (cfgA T).N) : Prog (TpuEff nD τ sig (Elt F) Λ₀ .tc) PUnit :=
  cc0_moe_expert_swiglu (crd T t) tbM0_0 (Memref.isWhole_whole _) tbM0_1 (Memref.isWhole_whole _) (ms_0 T t) (hs_0 T t) (ms_1 T t) (hs_1 T t) (ms_2 T t) (hs_2 T t) (ms_3 T t) (hs_3 T t) (ms_4 T t) (hs_4 T t) scM0_0 (Memref.isWhole_whole _)

/-- From what the body finds, the step of the point. -/
theorem step_of (c : Dev nD) (t : Fin (cfgA T).N) (a : Vec F S1024x1024 .bf16) (d : Vec F S1024x1024 .f32)
    (ha : t.val % 7 ≠ 0 → 0 < (hiAt T.1 (crd T t)).toInt → a = rows T m c t) (hd : t.val % 7 ≠ 0 → d = prev T m c t) :
    stepO (decide ((crd T t 1).val = 0)) (hiAt T.1 (crd T t)) (keepX (decide ((crd T t 1).val = 0)) (hiAt T.1 (crd T t)) (iblk T m c (0 : Fin 5) t) a)
      (iblk T m c (1 : Fin 5) t) (iblk T m c (2 : Fin 5) t) (iblk T m c (3 : Fin 5) t) d = traj T m c t.val t.isLt
    ∧ (0 < (hiAt T.1 (crd T t)).toInt → keepX (decide ((crd T t 1).val = 0)) (hiAt T.1 (crd T t)) (iblk T m c (0 : Fin 5) t) a = rows T m c t) := by
  have hk : 0 < (hiAt T.1 (crd T t)).toInt → keepX (decide ((crd T t 1).val = 0)) (hiAt T.1 (crd T t)) (iblk T m c (0 : Fin 5) t) a = rows T m c t := by
    intro hv
    unfold keepX
    by_cases h : t.val % 7 = 0
    · rw [if_pos ⟨by rw [crd_1]; simpa using h, hv⟩]; rfl
    · rw [if_neg (by rw [crd_1]; simp [h])]; exact ha h hv
  refine ⟨?_, hk⟩
  rw [traj_eq]
  exact stepO_congr _ _ _ _ _ _ _ _ _ hk fun hf => hd fun h => by rw [crd_1] at hf; simp [h] at hf

set_option maxHeartbeats 4000000 in
theorem sound_body (c : Dev nD) (t : Fin (cfgA T).N) :
    iprop((dats T m ρ 0 c).Φ t.castSucc ∗ (dats T m ρ 0 c).owesAt () t.castSucc
        ∗ (∃ d, owns (c : Thread nD τ) (ms_0 T t) fullShare ((dats T m ρ 0 c).before (0 : Fin 5) t d))
        ∗ (∃ d, owns (c : Thread nD τ) (ms_1 T t) fullShare ((dats T m ρ 0 c).before (1 : Fin 5) t d))
        ∗ (∃ d, owns (c : Thread nD τ) (ms_2 T t) fullShare ((dats T m ρ 0 c).before (2 : Fin 5) t d))
        ∗ (∃ d, owns (c : Thread nD τ) (ms_3 T t) fullShare ((dats T m ρ 0 c).before (3 : Fin 5) t d))
        ∗ (∃ d, owns (c : Thread nD τ) (ms_4 T t) fullShare ((dats T m ρ 0 c).before (4 : Fin 5) t d)))
      ⊢ wp frame (wpE (defs₀ (F := F)) Variants.none c none) Set.univ (bodyAt T t) fun _ =>
          iprop((dats T m ρ 0 c).Φ t.succ ∗ (dats T m ρ 0 c).owesAt () t.succ
            ∗ bigSep Finset.univ fun w : Fin (cfgA T).W =>
                match (cfgA T).idle w ((cfgA T).grid.coords t) with
                | true =>
                  match ((cfgA T).win w).flush t with
                  | false => iprop(∃ d, owns (c : Thread nD τ) (((cfgA T).win w).stage ((cfgA T).slots t w)) fullShare ((dats T m ρ 0 c).before w t d))
                  | true => owns (c : Thread nD τ) (((cfgA T).win w).stage ((cfgA T).slots t w)) fullShare ((dats T m ρ 0 c).after w t)
                | false => owns (c : Thread nD τ) (((cfgA T).win w).stage ((cfgA T).slots t w)) fullShare ((dats T m ρ 0 c).after w t)) := by
  rw [bigSep_W0]
  rewrite [idle_4]
  simp only [before_0, before_1, before_2, before_3, after_0, after_1, after_2, after_3, after_4]
  rewrite [show (dats T m ρ 0 c).Φ t.succ = Phi T m c t.succ from rfl, show (dats T m ρ 0 c).Φ t.castSucc = Phi T m c t.castSucc from rfl,
    show (dats T m ρ 0 c).owesAt () t.succ = (dats T m ρ 0 c).owesAt () t.castSucc from rfl]
  unfold Phi
  iintro ⟨⟨⟨%a, %ha, HS⟩, HT0, HT1⟩, Ho, ⟨%d0, H0⟩, ⟨%d1, H1⟩, ⟨%d2, H2⟩, ⟨%d3, H3⟩, ⟨%d4, H4⟩⟩
  have hw : wordAt (crd T t) (T.1 1) = hiAt T.1 (crd T t) := wordAt_eq _ _
  obtain ⟨hs, hk⟩ := step_of T m c t a _ (fun h hv => ha t.isLt h hv) (fun h => before_4 T m ρ c t d4 h)
  rw [← hw] at hs hk
  iapply (body_run c (crd T t) (ms_0 T t) (hs_0 T t) (ms_1 T t) (hs_1 T t) (ms_2 T t) (hs_2 T t) (ms_3 T t) (hs_3 T t) (ms_4 T t) (hs_4 T t)
    (T.1 0) (T.1 1) _ _ _ _ _ a _ (by rw [hw]; exact T.2.rows _))
  isplitl [H0]; · iexact H0
  isplitl [H1]; · iexact H1
  isplitl [H2]; · iexact H2
  isplitl [H3]; · iexact H3
  isplitl [HT0]; · iexact HT0
  isplitl [HT1]; · iexact HT1
  isplitl [H4]; · iexact H4
  isplitl [HS]; · iexact HS
  rw [hs]
  iintro ⟨H0, H1, H2, H3, HT0, HT1, H4, HS⟩
  isplitl [HS HT0 HT1]
  · isplitl [HS]
    · iexists _; isplitr; swap
      · iexact HS
      · ipureintro
        intro h h7 hv
        have hq : (t.val + 1) / 7 = t.val / 7 := by
          have : (t.val + 1) % 7 ≠ 0 := h7
          omega
        have hc : hiAt T.1 (crd T ⟨t.val + 1, h⟩) = hiAt T.1 (crd T t) := hiAt_congr _ (by rw [crd_0, crd_0]; exact hq)
        refine (hk ?_).trans (rows_congr T m c t ⟨t.val + 1, h⟩ hq.symm)
        rw [hw, ← hc]; exact hv
    isplitl [HT0]
    · iexact HT0
    iexact HT1
  isplitl [Ho]; · iexact Ho
  isplitl [H0]; · iexact H0
  isplitl [H1]; · iexact H1
  isplitl [H2]; · iexact H2
  isplitl [H3]; · iexact H3
  iexact H4

theorem body_obligation (c : Dev nD) : BodyObligation (dats T m ρ 0 c) (defs₀ (F := F)) Variants.none () Set.univ := fun t => by
  rw [bigSep_W0]
  exact sound_body T m ρ c t

/-! ## The launch -/

def u₀ : UR sig nD τ :=
  initOf (Pipeline.cells (pcs T) ((launch0 (F := F)).cellOf_inj fun _ => adm T))
    (Pipeline.launchToks (pcs T) ((launch0 (F := F)).cellOf_inj fun _ => adm T))

theorem share_eq (c : Dev nD) (w : Fin (cfgA T).W) : (dats T m ρ 0 c).share w = fullShare := by unfold Dat.share; split <;> rfl

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi_intro (c : Dev nD) :
    iprop(BI.emp ∗ Pipeline.prefHeld pre0 c (fun _ => fullShare.right) (adm T).1 ∗ Pipeline.scopedRest spec0 c) ⊢ (dats T m ρ 0 c).Φ 0 := by
  rw [prefHeld_eq, scopedRest0_eq, show (dats T m ρ 0 c).Φ 0 = Phi T m c 0 from rfl]
  unfold Phi
  simp only [owns_whole]
  iintro ⟨-, ⟨HT0, HT1⟩, ⟨%a0, HS⟩⟩
  isplitl [HS]
  · iexists a0; isplitr; swap
    · iexact HS
    · ipureintro; intro _ h7; exact absurd rfl h7
  isplitl [HT0]
  · iexact HT0
  iexact HT1

theorem phi_exit (c : Dev nD) : (dats T m ρ 0 c).Φ (Fin.last (cfgA T).N) ⊢ iprop(BI.emp ∗ Pipeline.scopedRest spec0 c) := by
  rw [scopedRest0_eq, show (dats T m ρ 0 c).Φ (Fin.last (cfgA T).N) = Phi T m c (Fin.last _) from rfl]
  unfold Phi
  simp only [owns_whole]
  iintro ⟨⟨%a0, -, HS⟩, -, -⟩
  isplitr; · iempintro
  iexists a0; iexact HS

/-- What every final state has: every array at what the pipeline computes, the tables at what it ran at. -/
def QC : PUnit × MemSt nD τ sig (Elt F) → Prop := fun r =>
  ∀ c : Dev nD, (∀ w : Fin (cfgA T).W, r.2.mem (((cfgA T).win w).arr.view.loc (c : Thread nD τ)) = (dats T m ρ 0 c).arrAt w (cfgA T).N)
    ∧ ∀ j, r.2.mem ((c : Thread nD τ).loc (pre0.ref j)) = T.1 j

set_option backward.isDefEq.respectTransparency.types false in
set_option maxHeartbeats 4000000 in
/-- From a launch memory that holds the tables, every run ends with what the pipeline computes and all counters at zero. -/
theorem run_main (hp : ∀ (c : Dev nD) (j : Fin 2), m ((c : Thread nD τ).loc (pre0.ref j)) = T.1 j) :
    θ_run (defs (F := F)) (onTc (τ := τ) (main (F := F))) (s₀ m ρ) (fun r => QC T m ρ r ∧ r.2.sem = fun _ => 0) :=
  Pipeline.θ_run_region_noSem_pf_quiescent pcfgs (fun _ => adm T) (dats T m ρ) () ((launch0 (F := F)).cellOf_inj fun _ => adm T) (0 : Fin 1)
    (launch0 (F := F)).win.to₀ (launch0 (F := F)).pre EP defs₀ Variants.none m ρ main
    (hbody := fun c => (body_obligation T m ρ c).loose) (hne := (launch0 (F := F)).block_pos)
    (harr := (launch0 (F := F)).arr_whole) (hstage := (launch0 (F := F)).stage_whole) (howed := fun _ _ => rfl)
    (u₀ := u₀ T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m ρ) 0 (launch0 (F := F)).win.arr_inj c (launch0 (F := F)).arr_whole
      (share_eq T m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi_intro T m ρ)
    (hout := phi_exit T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The tables of a launch memory whose tables are in range (there is one device). -/
def tabOf (h : InRange (m ((0 : Dev nD).tc.loc main_arg0)) (m ((0 : Dev nD).tc.loc main_arg1))) : Tab F :=
  ⟨fun j => m ((0 : Dev nD).tc.loc (pre0.ref j)), h⟩

theorem tabOf_holds (h : InRange (m ((0 : Dev nD).tc.loc main_arg0)) (m ((0 : Dev nD).tc.loc main_arg1)))
    (c : Dev nD) (j : Fin 2) : m ((c : Thread nD τ).loc (pre0.ref j)) = (tabOf m h).1 j := by
  obtain rfl : c = 0 := Subsingleton.elim _ _
  rfl

/-- The frame: every run from tables in range ends, leaves the arguments as they were and all counters at zero. -/
theorem frame_main (h : InRange (m ((0 : Dev nD).tc.loc main_arg0)) (m ((0 : Dev nD).tc.loc main_arg1))) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ hr => ⟨fun c =>
    ⟨((hr.1 c).2 0).trans (tabOf_holds m h c 0).symm, ((hr.1 c).2 1).trans (tabOf_holds m h c 1).symm,
      ((hr.1 c).1 (0 : Fin 5)).trans ((dats (tabOf m h) m ρ 0 c).arrAt_in (0 : Fin 5) rfl _),
      ((hr.1 c).1 (1 : Fin 5)).trans ((dats (tabOf m h) m ρ 0 c).arrAt_in (1 : Fin 5) rfl _),
      ((hr.1 c).1 (2 : Fin 5)).trans ((dats (tabOf m h) m ρ 0 c).arrAt_in (2 : Fin 5) rfl _),
      ((hr.1 c).1 (3 : Fin 5)).trans ((dats (tabOf m h) m ρ 0 c).arrAt_in (3 : Fin 5) rfl _)⟩, hr.2⟩)
    (run_main (tabOf m h) m ρ (tabOf_holds m h))

end Cert.KernelIdeal.Moe
-- ==== Proof.Expert.lean ====
/-
  The mathematics of the expert feed-forward, over the extended reals. A row `a` of the tokens against an expert gives
  `∑ j, silu (a · gate j) · (a · up j) · down j d`; the hidden columns `j` may be summed in seven blocks of 512.
-/
module

public import Idealize.ShloMosaic.Lib.Pipeline.ValueKit

@[expose] public section

noncomputable section

namespace Cert.Expert

open Idealize.ShloMosaic

/-- One hidden column: `silu (a · g) · (a · u)`, with `silu z = z · (1 / (1 + exp (-z)))`. -/
def siluMul (a g u : Fin 1024 → EReal) : EReal :=
  (∑ k, a k * g k) * Ideal.div 1 (1 + Ideal.exp (-∑ k, a k * g k)) * ∑ k, a k * u k

theorem silu_mul_zero (g u : Fin 1024 → EReal) : siluMul (fun _ => 0) g u = 0 := by
  unfold siluMul
  simp only [zero_mul, Finset.sum_const_zero]

/-- The part that hidden column block `wg`, `wu`, `wd` gives to output column `d` of the row `a`. -/
def part (a : Fin 1024 → EReal) (wg wu : (⟨3, ![1, 1024, 512]⟩ : Shape).Idx → EReal) (wd : (⟨3, ![1, 512, 1024]⟩ : Shape).Idx → EReal) (d : Fin 1024) : EReal :=
  ∑ j : Fin 512, siluMul a (fun k => wg (ix3 0 k j)) (fun k => wu (ix3 0 k j)) * wd (ix3 0 j d)

theorem part_zero (wg wu wd) (d : Fin 1024) : part (fun _ => 0) wg wu wd d = 0 := by
  unfold part
  simp only [silu_mul_zero, zero_mul, Finset.sum_const_zero]

/-- Hidden column `j` of expert `e` in output column `d` of row `r`. -/
def term (x : (⟨2, ![43008, 1024]⟩ : Shape).Idx → EReal) (wg wu : (⟨3, ![8, 1024, 3584]⟩ : Shape).Idx → EReal) (wd : (⟨3, ![8, 3584, 1024]⟩ : Shape).Idx → EReal)
    (r : Fin 43008) (e : Fin 8) (d : Fin 1024) (j : Fin 3584) : EReal :=
  siluMul (fun k => x (ix2 r k)) (fun k => wg (ix3 e k j)) (fun k => wu (ix3 e k j)) * wd (ix3 e j d)

/-- The feed-forward of expert `e`: all the hidden columns. -/
def feed (x : (⟨2, ![43008, 1024]⟩ : Shape).Idx → EReal) (wg wu : (⟨3, ![8, 1024, 3584]⟩ : Shape).Idx → EReal) (wd : (⟨3, ![8, 3584, 1024]⟩ : Shape).Idx → EReal)
    (r : Fin 43008) (e : Fin 8) (d : Fin 1024) : EReal := ∑ j, term x wg wu wd r e d j

/-- The hidden columns in blocks of 512. -/
theorem sum_blocks (g : Fin 3584 → EReal) :
    ∑ f : Fin 7, ∑ j : Fin 512, g ⟨f.val * 512 + j.val, by have := f.isLt; have := j.isLt; omega⟩ = ∑ j, g j :=
  Fin.sum_mul_add_fin 7 512 g

/-- The tile of a row. -/
def tileOf (r : Fin 43008) : Fin 42 := ⟨r.val / 1024, by have := r.isLt; omega⟩

/-- The result: `te` names the experts of the tiles of 1024 rows, `hi` their numbers of live rows. A live row holds the
    feed-forward of its tile's expert, another one zero. -/
def result (te hi : (⟨1, ![42]⟩ : Shape).Idx → BitVec 32) (hte : ∀ j, (te j).toNat < 8) (x : (⟨2, ![43008, 1024]⟩ : Shape).Idx → EReal)
    (wg wu : (⟨3, ![8, 1024, 3584]⟩ : Shape).Idx → EReal) (wd : (⟨3, ![8, 3584, 1024]⟩ : Shape).Idx → EReal) : (⟨2, ![43008, 1024]⟩ : Shape).Idx → EReal :=
  fun y => if ((y 0).val % 1024 : ℕ) < (hi (ix1 (tileOf (y 0)))).toInt then
    feed x wg wu wd (y 0) ⟨(te (ix1 (tileOf (y 0)))).toNat, hte _⟩ (y 1) else 0

end Cert.Expert
-- ==== Proof.KernelIdeal.Value.lean ====
/-
  One grid point over the extended reals: what its step of the output block adds, row by row. A row below the tile's
  number of live rows gets its part of the product, another one gets nothing.
-/
module

public import proofs.«01_k».proof.Proof.KernelIdeal.Step
public import proofs.«01_k».proof.Proof.Expert
public import Idealize.ShloMosaic.Lib.Pointwise
public import Idealize.ShloMosaic.PureOps.Ideal

@[expose] public section

noncomputable section

namespace Cert.KernelIdeal.Moe

open Idealize.ShloMosaic Cert.KernelIdeal Cert.KernelIdeal.Gen Cert.Words Cert.Expert

variable (wg wu : Vec Ideal S1x1024x512 .f32) (wd : Vec Ideal S1x512x1024 .f32)

/-- The product of a full tile. -/
theorem pay2_apply (xb : Vec Ideal S1024x1024 .bf16) (r d : Fin 1024) :
    k0_pay2 xb wg wu wd (ix2 r d) = part (fun k => xb (ix2 r k)) wg wu wd d := by
  pointwise [k0_pay2]
  simp only [part, siluMul, zero_sub]

theorem pay3_apply (xb : Vec Ideal S1024x1024 .bf16) (o : Vec Ideal S1024x1024 .f32) (r d : Fin 1024) :
    k0_pay3 xb wg wu wd o (ix2 r d) = o (ix2 r d) + part (fun k => xb (ix2 r k)) wg wu wd d := by
  pointwise [k0_pay3]
  rw [pay2_apply]

theorem pay4_apply (r d : Fin 1024) : k0_pay4 (F := Ideal) (ix2 r d) = 0 := by pointwise [k0_pay4]

/-- The product of a block of rows. -/
theorem pay5_apply (o : Vec Ideal S256x1024 .f32) (xb : Vec Ideal S256x1024 .bf16) (r : Fin 256) (d : Fin 1024) :
    k0_pay5 o xb wg wu wd (ix2 r d) = o (ix2 r d) + part (fun k => xb (ix2 r k)) wg wu wd d := by
  pointwise [k0_pay5]
  simp only [part, siluMul, zero_sub]

/-- The rounded rows: over the extended reals the rows, those that are not live cleared. -/
theorem pay1_apply (v : BitVec 32) (x : Vec Ideal S1024x1024 .f32) (r k : Fin 1024) :
    k0_pay1 v x (ix2 r k) = if (r.val : ℤ) < v.toInt then x (ix2 r k) else 0 := by
  pointwise [k0_pay1]
  have hr : (BitVec.ofNat 32 r.val).toInt = r.val := by
    have := r.isLt
    rw [BitVec.toInt_eq_toNat_of_lt (by rw [BitVec.toNat_ofNat]; omega), BitVec.toNat_ofNat]
    omega
  have e : IntOp.cmpi .slt (BitVec.ofNat 32 r.val) v = BitVec.ofBool (decide ((r.val : ℤ) < v.toInt)) := by
    rw [← hr]; rfl
  rw [e]
  by_cases h : (r.val : ℤ) < v.toInt
  · rw [if_pos h]; simp only [h, decide_true]; rfl
  · rw [if_neg h]; simp only [h, decide_false]; rfl

/-- One trip of the loop: its 256 rows get their part. -/
theorem rowStep_apply (xb : Vec Ideal S1024x1024 .bf16) (o : Vec Ideal S1024x1024 .f32) (n : ℕ) (hn : n < 4) (r d : Fin 1024) :
    rowStep xb wg wu wd n o (ix2 r d)
      = if 256 * n ≤ r.val ∧ r.val < 256 * n + 256 then o (ix2 r d) + part (fun k => xb (ix2 r k)) wg wu wd d else o (ix2 r d) := by
  unfold rowStep
  rw [dif_pos hn]
  by_cases h : 256 * n ≤ r.val ∧ r.val < 256 * n + 256
  · rw [if_pos h]
    have hb : ∀ a : Fin 2, (![256 * n, 0] : Fin 2 → ℕ) a ≤ (ix2 r d a : ℕ) ∧ (ix2 r d a : ℕ) < (![256 * n, 0] : Fin 2 → ℕ) a + S256x1024.size a := by
      intro a; fin_cases a
      · exact h
      · exact ⟨Nat.zero_le _, by show d.val < 0 + 1024; have := d.isLt; omega⟩
    unfold VecWindow.put
    rw [dif_pos hb]
    have hi : (Rect.unitLocal (s := S1024x1024) (off := ![256 * n, 0]) (size := S256x1024.size) (ix2 r d) hb : S256x1024.Idx) = ix2 (⟨r.val - 256 * n, by omega⟩ : Fin 256) d := by
      funext a; fin_cases a
      · rfl
      · exact Fin.ext (Nat.sub_zero _)
    refine (congrArg _ hi).trans ((pay5_apply wg wu wd _ _ _ _).trans ?_)
    have hw : ∀ (k : Fin 1024) (hr : r.val - 256 * n < 256), (Rect.unit (s := S1024x1024) ![256 * n, 0] S256x1024.size (rows_inb n hn)).emb (ix2 (⟨r.val - 256 * n, hr⟩ : Fin 256) k) = ix2 r k := by
      intro k hr; funext a; fin_cases a
      · exact Fin.ext (by show 256 * n + 1 * (r.val - 256 * n) = r.val; omega)
      · exact Fin.ext (by show 0 + 1 * k.val = k.val; omega)
    unfold VecWindow.window
    simp only [hw]
  · rw [if_neg h]
    unfold VecWindow.put
    rw [dif_neg]
    intro hb; exact h (hb 0)

/-- The first `n` trips: the rows below `256 n` have got their part. -/
theorem rowLoop_apply (xb : Vec Ideal S1024x1024 .bf16) (o : Vec Ideal S1024x1024 .f32) (r d : Fin 1024) :
    ∀ n : ℕ, n ≤ 4 → rowLoop xb wg wu wd o n (ix2 r d)
      = if r.val < 256 * n then o (ix2 r d) + part (fun k => xb (ix2 r k)) wg wu wd d else o (ix2 r d)
  | 0, _ => by rw [if_neg (by omega)]; rfl
  | n + 1, hn => by
    show rowStep xb wg wu wd n (rowLoop xb wg wu wd o n) (ix2 r d) = _
    rw [rowStep_apply wg wu wd xb _ n (by omega), rowLoop_apply xb o r d n (by omega)]
    by_cases h : r.val < 256 * n
    · rw [if_neg (by omega), if_pos h, if_pos (by omega)]
    · by_cases h' : r.val < 256 * n + 256
      · rw [if_pos ⟨by omega, h'⟩, if_neg h, if_pos (by omega)]
      · rw [if_neg (by omega), if_neg h, if_neg (by omega)]

/-- The step of a point on the rounded rows of its tile. -/
theorem stepO_apply (first : Bool) (v : BitVec 32) (hv : v.toInt ≤ 1024) (x : Vec Ideal S1024x1024 .f32) (o : Vec Ideal S1024x1024 .f32) (r d : Fin 1024) :
    stepO first v (k0_pay1 v x) wg wu wd o (ix2 r d)
      = (if first then 0 else o (ix2 r d)) + if (r.val : ℤ) < v.toInt then part (fun k => x (ix2 r k)) wg wu wd d else 0 := by
  have hp : part (fun k => k0_pay1 v x (ix2 r k)) wg wu wd d = if (r.val : ℤ) < v.toInt then part (fun k => x (ix2 r k)) wg wu wd d else 0 := by
    simp only [pay1_apply]
    by_cases h : (r.val : ℤ) < v.toInt
    · simp only [if_pos h]
    · simp only [if_neg h, part_zero]
  unfold stepO
  by_cases h1 : v = 1024#32
  · rw [if_pos h1]
    cases first with
    | true => rw [if_pos rfl, if_pos rfl, pay2_apply, hp, zero_add]
    | false => rw [if_neg Bool.false_ne_true, if_neg Bool.false_ne_true, pay3_apply, hp]
  · rw [if_neg h1, rowLoop_apply wg wu wd _ _ r d _ (blocks_le v hv), hp]
    have h0 : (if first = true then k0_pay4 (F := Ideal) else o : Vec Ideal S1024x1024 .f32) (ix2 r d) = if first = true then 0 else o (ix2 r d) := by
      cases first with
      | true => exact pay4_apply r d
      | false => rfl
    rw [h0]
    by_cases h : r.val < 256 * blocks v
    · rw [if_pos h]
    · rw [if_neg h, if_neg (fun hl => h (lt_blocks v r.val hl)), add_zero]

end Cert.KernelIdeal.Moe
-- ==== Proof.KernelIdeal.Result.lean ====
/-
  The array that the kernel leaves over the extended reals: row `1024 w + r` holds the feed-forward of its tile's expert
  if `r` is below the tile's number of live rows, zero otherwise. The block after the point of tile `w` and column block
  `f` holds the sum of the parts of the column blocks up to `f`; the last point's block is what is written out.
-/
module

public import proofs.«01_k».proof.Proof.KernelIdeal.Run
public import proofs.«01_k».proof.Proof.KernelIdeal.Value
public import Idealize.ShloMosaic.Lib.Pipeline.Covers

@[expose] public section

set_option maxRecDepth 16384

noncomputable section

namespace Cert.KernelIdeal.Moe

open Idealize.ShloMosaic Idealize.ShloMosaic.TcCoe Cert.KernelIdeal Cert.KernelIdeal.Gen Cert.Words Cert.Expert
open Idealize.SL.Sem
open Idealize.ShloMosaic.Pipeline (Dat Cfg Window)

variable (T : Tab Ideal) (m : (ℓ : Loc nD τ sig) → Buf (Elt Ideal) ℓ) (ρ : Dev nD → PrngReg) (c : Dev nD)

/-- The part of column block `f` in row `r` of tile `w`, column `d`. -/
def tilePart (w : Fin 42) (e : Fin 8) (r d : Fin 1024) (f : Fin 7) : EReal :=
  part (fun k => xBlk (m ((c : Thread nD τ).loc main_arg2)) w (ix2 r k)) (wBlk (m ((c : Thread nD τ).loc main_arg3)) e f)
    (wBlk (m ((c : Thread nD τ).loc main_arg4)) e f) (dBlk (m ((c : Thread nD τ).loc main_arg5)) e f) d

theorem hiAt_le (t : Fin (cfgA T).N) : (hiAt T.1 (crd T t)).toInt ≤ 1024 := T.2.rows _

/-- A point's step over the arrays. -/
theorem step_eq (t : Fin (cfgA T).N) (o : Vec Ideal S1024x1024 .f32) :
    step T m c t o = stepO (decide ((crd T t 1).val = 0)) (hiAt T.1 (crd T t)) (k0_pay1 (hiAt T.1 (crd T t)) (xBlk (m ((c : Thread nD τ).loc main_arg2)) (xw T t)))
      (wBlk (m ((c : Thread nD τ).loc main_arg3)) (ew T t) (fw T t)) (wBlk (m ((c : Thread nD τ).loc main_arg4)) (ew T t) (fw T t))
      (dBlk (m ((c : Thread nD τ).loc main_arg5)) (ew T t) (fw T t)) o := by
  unfold step rows
  rw [iblk_0, iblk_1, iblk_2, iblk_3]

/-- One point: a live row gets the part of the point's own tile and column block. -/
theorem step_apply (t : Fin (cfgA T).N) (w : Fin 42) (f : Fin 7) (hw : t.val / 7 = w.val) (hf : t.val % 7 = f.val) (o : Vec Ideal S1024x1024 .f32) (r d : Fin 1024) :
    step T m c t o (ix2 r d)
      = (if f.val = 0 then 0 else o (ix2 r d))
        + if (r.val : ℤ) < (hiAt T.1 (crd T t)).toInt then tilePart m c w (ew T t) r d f else 0 := by
  rw [step_eq]
  have hle := hiAt_le T t
  have h1 : decide ((crd T t 1).val = 0) = decide (f.val = 0) := by rw [crd_1, hf]
  have hx : 0 < (hiAt T.1 (crd T t)).toInt → xw T t = w := fun hp => Fin.ext (by unfold xw xTile; simp only [if_pos hp]; rw [crd_0]; exact hw)
  have hF : 0 < (hiAt T.1 (crd T t)).toInt → fw T t = f := fun hp => Fin.ext (by unfold fw wTile; simp only [if_pos hp]; rw [crd_1]; exact hf)
  rw [h1]
  generalize hiAt T.1 (crd T t) = v at hle hx hF
  generalize xw T t = w' at hx
  generalize fw T t = f' at hF
  generalize ew T t = e
  rw [stepO_apply (hv := hle)]
  simp only [decide_eq_true_eq]
  by_cases h : (r.val : ℤ) < v.toInt
  · rw [if_pos h, if_pos h, hx (by omega), hF (by omega)]
    rfl
  · rw [if_neg h, if_neg h]

/-- The block after point `(w, f)`. -/
theorem traj_apply (w : Fin 42) (r d : Fin 1024) : ∀ (f : ℕ) (hf : f < 7) (h : w.val * 7 + f < (cfgA T).N) ,
    traj T m c (w.val * 7 + f) h (ix2 r d)
      = ∑ f' ∈ Finset.range (f + 1), if hf' : f' < 7 then
          (if (r.val : ℤ) < (hiAt T.1 (crd T ⟨w.val * 7 + f, h⟩)).toInt then tilePart m c w (ew T ⟨w.val * 7 + f, h⟩) r d ⟨f', hf'⟩ else 0) else 0
  | 0, hf, h => by
    rw [traj_eq T m c ⟨w.val * 7 + 0, h⟩, step_apply T m c _ w ⟨0, hf⟩ (by show (w.val * 7 + 0) / 7 = w.val; omega) (by show (w.val * 7 + 0) % 7 = 0; omega),
      if_pos rfl, zero_add, Finset.sum_range_one, dif_pos hf]
  | f + 1, hf, h => by
    have h' : w.val * 7 + f < (cfgA T).N := Nat.lt_of_succ_lt h
    rw [traj_eq T m c ⟨w.val * 7 + (f + 1), h⟩, step_apply T m c _ w ⟨f + 1, hf⟩ (by show (w.val * 7 + (f + 1)) / 7 = w.val; omega)
      (by show (w.val * 7 + (f + 1)) % 7 = f + 1; omega), if_neg (Nat.succ_ne_zero f)]
    have hprev : prev T m c ⟨w.val * 7 + (f + 1), h⟩ = traj T m c (w.val * 7 + f) h' := by
      unfold prev
      rw [dif_neg (by show ¬ w.val * 7 + (f + 1) = 0; omega)]
      rfl
    have h0 : (crd T ⟨w.val * 7 + f, h'⟩ 0).val = (crd T ⟨w.val * 7 + (f + 1), h⟩ 0).val := by
      rw [crd_0, crd_0]; show (w.val * 7 + f) / 7 = (w.val * 7 + (f + 1)) / 7; omega
    have hh := hiAt_congr T.1 h0
    have he : ew T ⟨w.val * 7 + f, h'⟩ = ew T ⟨w.val * 7 + (f + 1), h⟩ := Fin.ext (by unfold ew; simp only [teAt_congr T.1 h0])
    rw [hprev, traj_apply w r d f (by omega) h', Finset.sum_range_succ _ (f + 1), dif_pos hf, hh, he]

/-- A live row's parts together are its feed-forward. -/
theorem sum_tilePart (w : Fin 42) (e : Fin 8) (r d : Fin 1024) :
    ∑ f : Fin 7, tilePart m c w e r d f
      = feed (m ((c : Thread nD τ).loc main_arg2)) (m ((c : Thread nD τ).loc main_arg3)) (m ((c : Thread nD τ).loc main_arg4)) (m ((c : Thread nD τ).loc main_arg5))
          ⟨w.val * 1024 + r.val, by have := w.isLt; have := r.isLt; omega⟩ e d :=
  sum_blocks (term (m ((c : Thread nD τ).loc main_arg2)) (m ((c : Thread nD τ).loc main_arg3)) (m ((c : Thread nD τ).loc main_arg4)) (m ((c : Thread nD τ).loc main_arg5))
          ⟨w.val * 1024 + r.val, by have := w.isLt; have := r.isLt; omega⟩ e d)

/-- The block that a tile's last point leaves. -/
theorem traj_last (w : Fin 42) (h : w.val * 7 + 6 < (cfgA T).N) (r d : Fin 1024) :
    traj T m c (w.val * 7 + 6) h (ix2 r d)
      = if (r.val : ℤ) < (hiAt T.1 (crd T ⟨w.val * 7 + 6, h⟩)).toInt then
          feed (m ((c : Thread nD τ).loc main_arg2)) (m ((c : Thread nD τ).loc main_arg3)) (m ((c : Thread nD τ).loc main_arg4)) (m ((c : Thread nD τ).loc main_arg5))
            ⟨w.val * 1024 + r.val, by have := w.isLt; have := r.isLt; omega⟩ (ew T ⟨w.val * 7 + 6, h⟩) d
        else 0 := by
  rw [traj_apply T m c w r d 6 (by decide) h, Finset.sum_range]
  by_cases hl : (r.val : ℤ) < (hiAt T.1 (crd T ⟨w.val * 7 + 6, h⟩)).toInt
  · simp only [if_pos hl, Fin.is_lt, dif_pos, Fin.eta]
    exact sum_tilePart m c w _ r d
  · simp only [if_neg hl, dite_eq_ite, ite_self, Finset.sum_const_zero]

theorem covers_4 : ((cfgA T).win (4 : Fin 5)).Covers :=
  Window.covers_of_indexMap_surj _ rfl (fun a => by revert a; show ∀ a : Fin 2, 0 < (![1024, 1024] : Fin 2 → ℕ) a; decide) fun β => by
    have hb : (β (0 : Fin 2)).val < 42 := Nat.lt_of_lt_of_eq (β (0 : Fin 2)).isLt (by show (43008 + (1024 - 1)) / 1024 = 42; rfl)
    have h1 : (β (1 : Fin 2)).val < 1 := Nat.lt_of_lt_of_eq (β (1 : Fin 2)).isLt (by show (1024 + (1024 - 1)) / 1024 = 1; rfl)
    let i : grid0.Coords := fun a => match a with | ⟨0, _⟩ => (⟨(β (0 : Fin 2)).val, hb⟩ : Fin 42) | ⟨1, _⟩ => (⟨0, by decide⟩ : Fin 7)
    refine ⟨i, fun a => ?_⟩
    have e : ((cfgA T).win (4 : Fin 5)).indexMap i = ![(β (0 : Fin 2)).val, 0] := transform_4_eq i
    rw [e]
    have ha : a = (0 : Fin 2) ∨ a = (1 : Fin 2) := by
      revert a; show ∀ a : Fin 2, a = 0 ∨ a = 1; decide
    rcases ha with rfl | rfl
    · rfl
    · exact (Nat.lt_one_iff.1 h1).symm

/-- The output array after the run. -/
theorem arrAt_4 :
    (dats T m ρ 0 c).arrAt (4 : Fin 5) (cfgA T).N
      = result (T.1 0) (T.1 1) T.2.expert (m ((c : Thread nD τ).loc main_arg2)) (m ((c : Thread nD τ).loc main_arg3)) (m ((c : Thread nD τ).loc main_arg4)) (m ((c : Thread nD τ).loc main_arg5)) := by
  refine (dats T m ρ 0 c).arrAt_eq_of_covers (4 : Fin 5) _ (covers_4 T) fun t hf y => ?_
  have h6 := (flush_4 T t).1 hf
  have e4 := index_4 T t
  have ht : t.val < 294 := Nat.lt_of_lt_of_eq t.isLt N_0
  have hw : t.val / 7 < 42 := by omega
  have hy0 : (y (0 : Fin 2)).val < 1024 := (y (0 : Fin 2)).isLt
  have hy1 : (y (1 : Fin 2)).val < 1024 := (y (1 : Fin 2)).isLt
  have hemb : ((((cfgA T).win (4 : Fin 5)).blk t).view.emb y : S43008x1024.Idx)
      = ix2 ⟨t.val / 7 * 1024 + (y (0 : Fin 2)).val, by omega⟩ ⟨(y (1 : Fin 2)).val, hy1⟩ := by
    blk_ext [e4]
    exact congrArg (fun n => n * 1024 + (y (0 : Fin 2)).val) (crd_0 T t)
  rw [hemb]
  blk_simp
  rw [after_4]
  have hn : t.val = t.val / 7 * 7 + 6 := by omega
  have hN : t.val / 7 * 7 + 6 < (cfgA T).N := hn ▸ t.isLt
  have ht' : t = ⟨t.val / 7 * 7 + 6, hN⟩ := Fin.ext hn
  have htraj : traj T m c t.val t.isLt = traj T m c (t.val / 7 * 7 + 6) hN := by congr 1
  have hy : (y : S1024x1024.Idx) = ix2 ⟨(y (0 : Fin 2)).val, hy0⟩ ⟨(y (1 : Fin 2)).val, hy1⟩ := by
    funext a; fin_cases a <;> rfl
  refine ((congrFun htraj y).trans (congrArg _ hy)).trans ((traj_last T m c ⟨t.val / 7, hw⟩ hN _ _).trans ?_)
  unfold result
  have hd : (t.val / 7 * 1024 + (y (0 : Fin 2)).val) / 1024 = t.val / 7 := by omega
  have hm : (t.val / 7 * 1024 + (y (0 : Fin 2)).val) % 1024 = (y (0 : Fin 2)).val := by omega
  have hto : tileOf ⟨t.val / 7 * 1024 + (y (0 : Fin 2)).val, by omega⟩ = ⟨t.val / 7, hw⟩ := Fin.ext hd
  have hix : tileIx (crd T ⟨t.val / 7 * 7 + 6, hN⟩) = ix1 (⟨t.val / 7, hw⟩ : Fin 42) := by
    funext a; fin_cases a
    exact Fin.ext ((crd_0 T _).trans (by show (t.val / 7 * 7 + 6) / 7 = t.val / 7; omega))
  have hhi : hiAt T.1 (crd T ⟨t.val / 7 * 7 + 6, hN⟩) = (T.1 1 : S42.Idx → BitVec 32) (ix1 (⟨t.val / 7, hw⟩ : Fin 42)) := congrArg (T.1 1 : S42.Idx → BitVec 32) hix
  have hte : (ew T ⟨t.val / 7 * 7 + 6, hN⟩).val = ((T.1 0 : S42.Idx → BitVec 32) (ix1 (⟨t.val / 7, hw⟩ : Fin 42))).toNat :=
    congrArg (fun j => ((T.1 0 : S42.Idx → BitVec 32) j).toNat) hix
  have he : ew T ⟨t.val / 7 * 7 + 6, hN⟩ = ⟨((T.1 0 : S42.Idx → BitVec 32) (ix1 (⟨t.val / 7, hw⟩ : Fin 42))).toNat, T.2.expert _⟩ := Fin.ext hte
  rw [hhi, he]
  simp only [ix2_0, ix2_1, hto, hm]

/-- The run: it ends with the result in its array. -/
theorem run_result (h : InRange (m ((0 : Dev nD).tc.loc main_arg0)) (m ((0 : Dev nD).tc.loc main_arg1))) :
    θ_run (defs (F := Ideal)) (onTc (τ := τ) (main (F := Ideal))) ⟨m, fun _ => 0, ρ⟩ (fun r => ∀ c : Dev nD,
      r.2.mem ((c.tc : Thread nD τ).loc main_v0)
        = result (m ((0 : Dev nD).tc.loc main_arg0)) (m ((0 : Dev nD).tc.loc main_arg1)) h.expert (m ((c : Thread nD τ).loc main_arg2)) (m ((c : Thread nD τ).loc main_arg3))
            (m ((c : Thread nD τ).loc main_arg4)) (m ((c : Thread nD τ).loc main_arg5))) :=
  (θ_run defs _ _).mono (fun _ hr c => ((hr.1 c).1 (4 : Fin 5)).trans (arrAt_4 (tabOf m h) m ρ c)) (run_main (tabOf m h) m ρ (tabOf_holds m h))

end Cert.KernelIdeal.Moe
-- ==== Proof.Reference.lean ====
/-
  What the reference computes over the extended reals: the sum over the experts of a gate, one at the live rows of the
  expert's tiles and zero elsewhere, times the expert's feed-forward. Only the tile's own expert is left in the sum.
-/
module

public import proofs.«01_k».proof.Proof.Gen.ReferenceIdeal
public import proofs.«01_k».proof.Proof.Expert
public import Idealize.ShloMosaic.Lib.Pointwise
public import Idealize.ShloMosaic.PureOps.Ideal
public import Mathlib.Tactic.FinCases

@[expose] public section

noncomputable section

namespace Cert.ReferenceIdeal.Moe

open Idealize.ShloMosaic Cert.ReferenceIdeal Cert.ReferenceIdeal.Gen Cert.Expert

variable (te hi : IVec S42 32) (x : FVec Ideal S43008x1024 .f32) (wg wu : FVec Ideal S8x1024x3584 .f32) (wd : FVec Ideal S8x3584x1024 .f32)

/-- The gate of the expert whose index is the word `k`. -/
def gate (k : BitVec 32) : FVec Ideal S43008x1024 .f32 :=
  broadcastInDim S43008x1024 ![0, 1] bcast_S43008x1_S43008x1024_0_1 (id (shapeCast _ (select
    (andi (cmpi .slt (iotaInDim S42x1024 32 1) (broadcastInDim S42x1024 ![0, 1] bcast_S42x1_S42x1024_0_1 (broadcastInDim S42x1 ![0] bcast_S42_S42x1_0 hi)))
      (broadcastInDim S42x1024 ![0, 1] bcast_S42x1_S42x1024_0_1 (cmpi .eq (broadcastInDim S42x1 ![0] bcast_S42_S42x1_0 te) (broadcastInDim S42x1 ![] bcast_S_S42x1 (constantI S_ 32 k)))))
    (broadcastInDim S42x1024 ![] bcast_S_S42x1024 (constant S_ .f32 0x3F800000#32)) (broadcastInDim S42x1024 ![] bcast_S_S42x1024 (constant S_ .f32 0x00000000#32)))
    shapeCasts_S42x1024_S43008x1))

/-- The rows against an expert's gate or up weights. -/
def proj (w : FVec Ideal S8x1024x3584 .f32) (e : Fin 8) (h : S8x1024x3584.Slices ![e.val, 0, 0] S1x1024x3584) : FVec Ideal S43008x3584 .f32 :=
  Host.dotGeneral dot_S43008x1024_S1024x3584_S43008x3584_1_0_0_1_n_n none x (shapeCast _ (extractStridedSlice S1x1024x3584 ![e.val, 0, 0] w h) shapeCasts_S1x1024x3584_S1024x3584)

/-- An expert's feed-forward of all the rows. -/
def ffn (e : Fin 8) (h : S8x1024x3584.Slices ![e.val, 0, 0] S1x1024x3584) (h' : S8x3584x1024.Slices ![e.val, 0, 0] S1x3584x1024) : FVec Ideal S43008x1024 .f32 :=
  Host.dotGeneral dot_S43008x3584_S3584x1024_S43008x1024_1_0_0_1_n_n none
    (mulf (mulf (proj x wg e h) (Host.divf (broadcastInDim S43008x3584 ![] bcast_S_S43008x3584 (constant S_ .f32 0x3F800000#32))
      (addf (broadcastInDim S43008x3584 ![] bcast_S_S43008x3584 (constant S_ .f32 0x3F800000#32)) (Host.exp (Host.negf (proj x wg e h)))))) (proj x wu e h))
    (shapeCast _ (extractStridedSlice S1x3584x1024 ![e.val, 0, 0] wd h') shapeCasts_S1x3584x1024_S3584x1024)

theorem proj_apply (w : FVec Ideal S8x1024x3584 .f32) (e : Fin 8) (h) (r : Fin 43008) (j : Fin 3584) :
    proj x w e h (ix2 r j) = ∑ k : Fin 1024, x (ix2 r k) * w (ix3 e k j) := by
  pointwise [proj]

theorem ffn_apply (e : Fin 8) (h h') (r : Fin 43008) (d : Fin 1024) : ffn x wg wu wd e h h' (ix2 r d) = feed x wg wu wd r e d := by
  pointwise [ffn]
  simp only [proj_apply, feed, term, siluMul]

/-- The gate is one at the live rows of the expert's tiles. -/
theorem gate_apply (hte : ∀ j, (te j).toNat < 8) (e : Fin 8) (r : Fin 43008) (d : Fin 1024) :
    gate te hi (BitVec.ofNat 32 e.val) (ix2 r d)
      = if ((r.val % 1024 : ℕ) : ℤ) < (hi (ix1 (tileOf r))).toInt ∧ (⟨(te (ix1 (tileOf r))).toNat, hte _⟩ : Fin 8) = e then 1 else 0 := by
  unfold gate
  simp only [id]
  pointwise []
  have hr : (BitVec.ofNat 32 (r.val % 1024)).toInt = (r.val % 1024 : ℕ) := by
    have := r.isLt
    rw [BitVec.toInt_eq_toNat_of_lt (by rw [BitVec.toNat_ofNat]; omega), BitVec.toNat_ofNat]
    omega
  have e1 : IntOp.cmpi .slt (BitVec.ofNat 32 (r.val % 1024)) (hi (ix1 (tileOf r))) = BitVec.ofBool (decide (((r.val % 1024 : ℕ) : ℤ) < (hi (ix1 (tileOf r))).toInt)) := by
    rw [← hr]; rfl
  have e2 : IntOp.cmpi .eq (te (ix1 (tileOf r))) (BitVec.ofNat 32 e.val) = BitVec.ofBool (decide ((⟨(te (ix1 (tileOf r))).toNat, hte _⟩ : Fin 8) = e)) := by
    show BitVec.ofBool (te (ix1 (tileOf r)) == BitVec.ofNat 32 e.val) = _
    congr 1
    rw [Bool.eq_iff_iff, beq_iff_eq, decide_eq_true_iff, ← BitVec.toNat_inj, Fin.ext_iff, BitVec.toNat_ofNat, Nat.mod_eq_of_lt (by have := e.isLt; omega)]
  refine (congrArg (fun b => Scalar.select b (1 : EReal) 0) (congrArg₂ IntOp.andi e1 e2)).trans ?_
  generalize (⟨(te (ix1 (tileOf r))).toNat, hte _⟩ : Fin 8) = E
  by_cases h1 : ((r.val % 1024 : ℕ) : ℤ) < (hi (ix1 (tileOf r))).toInt <;> by_cases h2 : E = e
  · rw [if_pos ⟨h1, h2⟩]; simp only [h1, h2, decide_true]; rfl
  · rw [if_neg fun h => h2 h.2]; simp only [h1, h2, decide_true, decide_false]; rfl
  · rw [if_neg fun h => h1 h.1]; simp only [h1, h2, decide_true, decide_false]; rfl
  · rw [if_neg fun h => h1 h.1]; simp only [h1, h2, decide_false]; rfl

/-- The reference's array. -/
def total : FVec Ideal S43008x1024 .f32 :=
  addf (addf (addf (addf (addf (addf (addf (addf (broadcastInDim S43008x1024 ![] bcast_S_S43008x1024 (constant S_ .f32 0x00000000#32))
    (mulf (gate te hi 0#32) (ffn x wg wu wd 0 slices_S8x1024x3584_S1x1024x3584_0_0_0 slices_S8x3584x1024_S1x3584x1024_0_0_0)))
    (mulf (gate te hi 1#32) (ffn x wg wu wd 1 slices_S8x1024x3584_S1x1024x3584_1_0_0 slices_S8x3584x1024_S1x3584x1024_1_0_0)))
    (mulf (gate te hi 2#32) (ffn x wg wu wd 2 slices_S8x1024x3584_S1x1024x3584_2_0_0 slices_S8x3584x1024_S1x3584x1024_2_0_0)))
    (mulf (gate te hi 3#32) (ffn x wg wu wd 3 slices_S8x1024x3584_S1x1024x3584_3_0_0 slices_S8x3584x1024_S1x3584x1024_3_0_0)))
    (mulf (gate te hi 4#32) (ffn x wg wu wd 4 slices_S8x1024x3584_S1x1024x3584_4_0_0 slices_S8x3584x1024_S1x3584x1024_4_0_0)))
    (mulf (gate te hi 5#32) (ffn x wg wu wd 5 slices_S8x1024x3584_S1x1024x3584_5_0_0 slices_S8x3584x1024_S1x3584x1024_5_0_0)))
    (mulf (gate te hi 6#32) (ffn x wg wu wd 6 slices_S8x1024x3584_S1x1024x3584_6_0_0 slices_S8x3584x1024_S1x3584x1024_6_0_0)))
    (mulf (gate te hi 7#32) (ffn x wg wu wd 7 slices_S8x1024x3584_S1x1024x3584_7_0_0 slices_S8x3584x1024_S1x3584x1024_7_0_0))

theorem mul_apply (hte : ∀ j, (te j).toNat < 8) (e : Fin 8) (k : BitVec 32) (hk : k = BitVec.ofNat 32 e.val) (h h') (r : Fin 43008) (d : Fin 1024) :
    mulf (gate te hi k) (ffn x wg wu wd e h h') (ix2 r d)
      = if ((r.val % 1024 : ℕ) : ℤ) < (hi (ix1 (tileOf r))).toInt ∧ (⟨(te (ix1 (tileOf r))).toNat, hte _⟩ : Fin 8) = e then feed x wg wu wd r e d else 0 := by
  subst hk
  show gate te hi _ (ix2 r d) * ffn x wg wu wd e h h' (ix2 r d) = _
  rw [gate_apply te hi hte, ffn_apply]
  split
  · exact one_mul _
  · exact zero_mul _

/-- The reference's array is the result. -/
theorem total_eq (hte : ∀ j, (te j).toNat < 8) : total te hi x wg wu wd = result te hi hte x wg wu wd := by
  funext y
  obtain ⟨r, d, rfl⟩ : ∃ (r : Fin 43008) (d : Fin 1024), y = ix2 r d := ⟨y 0, y 1, eq_ix2 y⟩
  have ha : ∀ a b : FVec Ideal S43008x1024 .f32, addf a b (ix2 r d) = a (ix2 r d) + b (ix2 r d) := fun _ _ => rfl
  have hz : (broadcastInDim S43008x1024 ![] bcast_S_S43008x1024 (constant S_ .f32 0x00000000#32) : FVec Ideal S43008x1024 .f32) (ix2 r d) = 0 := by pointwise []
  have H := mul_apply te hi x wg wu wd hte
  unfold total
  rw [ha, ha, ha, ha, ha, ha, ha, ha, hz, H 0 0#32 (by decide), H 1 1#32 (by decide), H 2 2#32 (by decide), H 3 3#32 (by decide), H 4 4#32 (by decide), H 5 5#32 (by decide), H 6 6#32 (by decide), H 7 7#32 (by decide), zero_add]
  unfold result
  simp only [ix2_0, ix2_1]
  generalize (⟨(te (ix1 (tileOf r))).toNat, hte _⟩ : Fin 8) = E
  by_cases hl : ((r.val % 1024 : ℕ) : ℤ) < (hi (ix1 (tileOf r))).toInt
  · simp only [hl, true_and, if_true]
    fin_cases E <;> simp
  · simp only [hl, false_and, if_false, add_zero]

end Cert.ReferenceIdeal.Moe
-- ==== Proof.ReferenceRun.lean ====
/-
  The reference's run over the extended reals: it ends with the result in its array, its arguments unchanged and every
  counter zero.
-/
module

public import proofs.«01_k».proof.Proof.Gen.ReferenceIdeal.Run
public import proofs.«01_k».proof.Proof.Reference
public import Idealize.ShloMosaic.Lib.Quiescent

@[expose] public section

noncomputable section

namespace Cert.ReferenceIdeal.Moe

open Idealize.ShloMosaic Idealize.ShloMosaic.TcCoe Idealize.SL.Sem Cert.ReferenceIdeal Cert.ReferenceIdeal.Gen Cert.Expert

variable (m : (ℓ : Loc nD τ sig) → Buf (Elt Ideal) ℓ) (ρ : Dev nD → PrngReg)

/-- The arguments end unchanged. -/
abbrev Kept (r : MemSt nD τ sig (Elt Ideal)) (c : Dev nD) : Prop :=
  r.mem ((c.tc : Thread nD τ).loc main_arg0) = m ((c.tc : Thread nD τ).loc main_arg0)
  ∧ r.mem ((c.tc : Thread nD τ).loc main_arg1) = m ((c.tc : Thread nD τ).loc main_arg1)
  ∧ r.mem ((c.tc : Thread nD τ).loc main_arg2) = m ((c.tc : Thread nD τ).loc main_arg2)
  ∧ r.mem ((c.tc : Thread nD τ).loc main_arg3) = m ((c.tc : Thread nD τ).loc main_arg3)
  ∧ r.mem ((c.tc : Thread nD τ).loc main_arg4) = m ((c.tc : Thread nD τ).loc main_arg4)
  ∧ r.mem ((c.tc : Thread nD τ).loc main_arg5) = m ((c.tc : Thread nD τ).loc main_arg5)

theorem run_total : θ_run (defs (F := Ideal)) (onTc (τ := τ) (main (F := Ideal))) ⟨m, fun _ => 0, ρ⟩ fun r => ∀ c : Dev nD,
    r.2.mem ((c.tc : Thread nD τ).loc main_v180)
      = total (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
    ∧ Kept m r.2 c := Value.run m ρ

theorem frame_main : θ_run (defs (F := Ideal)) (onTc (τ := τ) (main (F := Ideal))) ⟨m, fun _ => 0, ρ⟩ fun r =>
    (∀ c : Dev nD, Kept m r.2 c) ∧ r.2.sem = fun _ => 0 :=
  (θ_run _ _ _).mono (fun r h => ⟨fun c => (h c).2, sem_eq_zero_of_no_sems rfl _⟩) (run_total m ρ)

end Cert.ReferenceIdeal.Moe
-- ==== Proof.Dense.lean ====
/-
  The mathematics of the first layer's output projection and feed-forward, over the extended reals, one token at a time:
  the token plus its gated projection, the norm of that with its scale and shift, and the gated feed-forward on top.
-/
module

public import proofs.«01_k».proof.Proof.Expert

@[expose] public section

noncomputable section

namespace Cert.Dense

open Idealize.ShloMosaic Cert.Expert

/-- The token `x` plus `g` times the projection of its two mixers' outputs `a` and `b`. -/
def mixed (a b : Fin 512 → EReal) (w : (⟨2, ![1024, 1024]⟩ : Shape).Idx → EReal) (x g : Fin 1024 → EReal) (d : Fin 1024) : EReal :=
  x d + g d * (∑ k : Fin 512, a k * w (ix2 ⟨k.val, by omega⟩ d) + ∑ k : Fin 512, b k * w (ix2 ⟨512 + k.val, by omega⟩ d))

/-- The token divided by the root of its mean square: the words are 1024 and 1e-6. -/
def scaled (v n : Fin 1024 → EReal) (d : Fin 1024) : EReal :=
  v d * Ideal.rsqrt (Ideal.div (∑ k, v k * v k) (Ideal.ofBits FTy.f32 1149239296#32) + Ideal.ofBits FTy.f32 897988541#32) * n d

/-- The norm with its scale and shift. -/
def normed (v n sc sh : Fin 1024 → EReal) (d : Fin 1024) : EReal := scaled v n d * (1 + sc d) + sh d

/-- The token plus `g` times its feed-forward. -/
def layer (v n sc sh g : Fin 1024 → EReal) (wg wu : (⟨2, ![1024, 2816]⟩ : Shape).Idx → EReal) (wd : (⟨2, ![2816, 1024]⟩ : Shape).Idx → EReal) (d : Fin 1024) : EReal :=
  v d + g d * ∑ j : Fin 2816, siluMul (normed v n sc sh) (fun k => wg (ix2 k j)) (fun k => wu (ix2 k j)) * wd (ix2 j d)

/-- The batch of a token. -/
def batchOf (r : Fin 16384) : Fin 4 := ⟨r.val / 4096, by omega⟩

variable (a b : (⟨2, ![16384, 512]⟩ : Shape).Idx → EReal) (x : (⟨2, ![16384, 1024]⟩ : Shape).Idx → EReal) (w : (⟨2, ![1024, 1024]⟩ : Shape).Idx → EReal)
  (g1 : (⟨3, ![4, 1, 1024]⟩ : Shape).Idx → EReal) (n : (⟨1, ![1024]⟩ : Shape).Idx → EReal) (sc sh g2 : (⟨3, ![4, 1, 1024]⟩ : Shape).Idx → EReal)
  (wg wu : (⟨2, ![1024, 2816]⟩ : Shape).Idx → EReal) (wd : (⟨2, ![2816, 1024]⟩ : Shape).Idx → EReal)

/-- Row `r` after the projection. -/
def mixedRow (r : Fin 16384) : Fin 1024 → EReal :=
  mixed (fun k => a (ix2 r k)) (fun k => b (ix2 r k)) w (fun k => x (ix2 r k)) (fun k => g1 (ix3 (batchOf r) 0 k))

/-- The result: every token's layer, with its batch's modulation. -/
def result : (⟨2, ![16384, 1024]⟩ : Shape).Idx → EReal := fun y =>
  layer (mixedRow a b x w g1 (y 0)) (fun k => n (ix1 k)) (fun k => sc (ix3 (batchOf (y 0)) 0 k)) (fun k => sh (ix3 (batchOf (y 0)) 0 k))
    (fun k => g2 (ix3 (batchOf (y 0)) 0 k)) wg wu wd (y 1)

end Cert.Dense
-- ==== Proof.Kernel2Ideal.Value.lean ====
/-
  One grid point over the extended reals: what it computes of its tile of 512 tokens, token by token.
-/
module

public import proofs.«01_k».proof.Proof.Gen.Kernel2Ideal.Skeleton
public import proofs.«01_k».proof.Proof.Dense
public import Idealize.ShloMosaic.Lib.Pointwise
public import Idealize.ShloMosaic.PureOps.Ideal

@[expose] public section

noncomputable section

namespace Cert.Kernel2Ideal.Dense

open Idealize.ShloMosaic Cert.Kernel2Ideal Cert.Kernel2Ideal.Gen Cert.Dense
open Cert.Expert (siluMul)

variable (a b : Vec Ideal S512x512 .bf16) (wa wb : Vec Ideal S512x1024 .bf16) (x : Vec Ideal S512x1024 .f32) (g1 : Vec Ideal S1x1x1024 .f32)
  (n : Vec Ideal S1x1024 .f32) (sc sh g2 : Vec Ideal S1x1x1024 .f32) (wg wu : Vec Ideal S1024x2816 .bf16) (wd : Vec Ideal S2816x1024 .bf16)

theorem pay2_apply (w : Vec Ideal S1024x1024 .bf16) (ha : ∀ (k : Fin 512) (d : Fin 1024), wa (ix2 k d) = w (ix2 ⟨k.val, by omega⟩ d))
    (hb : ∀ (k : Fin 512) (d : Fin 1024), wb (ix2 k d) = w (ix2 ⟨512 + k.val, by omega⟩ d)) (r : Fin 512) (d : Fin 1024) :
    k0_pay2 a wa b wb x g1 (ix2 r d)
      = mixed (fun k => a (ix2 r k)) (fun k => b (ix2 r k)) w (fun k => x (ix2 r k)) (fun k => g1 (ix3 0 0 k)) d := by
  pointwise [k0_pay2]
  simp only [mixed, ha, hb]

theorem pay3_apply (d : Fin 1024) : k0_pay3 sc (ix2 0 d) = sc (ix3 0 0 d) := by pointwise [k0_pay3]

theorem pay4_apply (d : Fin 1024) : k0_pay4 sh (ix2 0 d) = sh (ix3 0 0 d) := by pointwise [k0_pay4]

theorem pay5_apply (v : Fin 1024 → EReal) (r : Fin 512) (hv : ∀ d, k0_pay2 a wa b wb x g1 (ix2 r d) = v d) (d : Fin 1024) :
    k0_pay5 a wa b wb x g1 n (ix2 r d) = scaled v (fun k => n (ix2 0 k)) d := by
  pointwise [k0_pay5]
  simp only [hv, scaled]

/-- A tile's token. -/
theorem pay1_apply (w : Vec Ideal S1024x1024 .bf16) (ha : ∀ (k : Fin 512) (d : Fin 1024), wa (ix2 k d) = w (ix2 ⟨k.val, by omega⟩ d))
    (hb : ∀ (k : Fin 512) (d : Fin 1024), wb (ix2 k d) = w (ix2 ⟨512 + k.val, by omega⟩ d)) (r : Fin 512) (d : Fin 1024) :
    k0_pay1 (k0_pay2 a wa b wb x g1) (k0_pay3 sc) (k0_pay4 sh) (k0_pay5 a wa b wb x g1 n) wg wu g2 wd (ix2 r d)
      = layer (mixed (fun k => a (ix2 r k)) (fun k => b (ix2 r k)) w (fun k => x (ix2 r k)) (fun k => g1 (ix3 0 0 k)))
          (fun k => n (ix2 0 k)) (fun k => sc (ix3 0 0 k)) (fun k => sh (ix3 0 0 k)) (fun k => g2 (ix3 0 0 k)) wg wu wd d := by
  have h2 := pay2_apply a b wa wb x g1 w ha hb r
  have h5 := pay5_apply a b wa wb x g1 n _ r h2
  pointwise [k0_pay1]
  simp only [h2, h5, pay3_apply, pay4_apply, layer, normed, siluMul, zero_sub]

end Cert.Kernel2Ideal.Dense
-- ==== Proof.Kernel2Ideal.Blocks.lean ====
/-
  The second call's operands and their blocks at a point, over the extended reals: point `t` has the 512 tokens from row
  `512 t` on; they lie in batch `t / 8`.
-/
module

public import proofs.«01_k».proof.Proof.Gen.Kernel2Ideal.Value
public import proofs.«01_k».proof.Proof.Kernel2Ideal.Value
public import Idealize.ShloMosaic.Lib.Pipeline.Covers
public import Idealize.ShloMosaic.Lib.Pipeline.ValueKit

@[expose] public section

set_option maxRecDepth 16384

noncomputable section

namespace Cert.Kernel2Ideal.Dense

open Idealize.ShloMosaic Idealize.ShloMosaic.TcCoe Cert.Kernel2Ideal Cert.Kernel2Ideal.Gen Cert.Dense
open Idealize.SL.Sem
open Idealize.ShloMosaic.Pipeline (Dat Cfg Window)

variable (m : (ℓ : Loc nD τ sig) → Buf (Elt Ideal) ℓ) (ρ : Dev nD → PrngReg) (c : Dev nD)

/-! The operands that the call prepares: over the extended reals the rounded weights are the weights. -/

theorem V_v0 : V m c main_v0 = (m ((c : Thread nD τ).loc main_arg3) : S1024x1024.Idx → EReal) := by
  show StableHlo.after hostOps0 _ _ = _
  unfold hostOps0
  after_results_simp
  rfl

theorem V_v2 : V m c main_v2 = (m ((c : Thread nD τ).loc main_arg9) : S1024x2816.Idx → EReal) := by
  show StableHlo.after hostOps0 _ _ = _
  unfold hostOps0
  after_results_simp
  rfl

theorem V_v3 : V m c main_v3 = (m ((c : Thread nD τ).loc main_arg10) : S1024x2816.Idx → EReal) := by
  show StableHlo.after hostOps0 _ _ = _
  unfold hostOps0
  after_results_simp
  rfl

theorem V_v4 : V m c main_v4 = (m ((c : Thread nD τ).loc main_arg11) : S2816x1024.Idx → EReal) := by
  show StableHlo.after hostOps0 _ _ = _
  unfold hostOps0
  after_results_simp
  rfl

theorem V_v1 : V m c main_v1 = shapeCast S1x1024 (m ((c : Thread nD τ).loc main_arg5) : S1024.Idx → EReal) shapeCasts_S1024_S1x1024 := by
  show StableHlo.after hostOps0 _ _ = _
  unfold hostOps0
  after_results_simp
  rfl

theorem V_v1_apply (k : Fin 1024) : (V m c main_v1 : S1x1024.Idx → EReal) (ix2 0 k) = (m ((c : Thread nD τ).loc main_arg5) : S1024.Idx → EReal) (ix1 k) := by
  rw [V_v1]
  pointwise []

/-! The blocks of a point. -/

theorem index_0 : ∀ t : Fin cfg0.N, win0_0.index t = ![t.val, 0] := (by decide +kernel : ∀ t : Fin grid0.N, win0_0.index t = ![t.val, 0])
theorem index_1 : ∀ t : Fin cfg0.N, win0_1.index t = ![t.val, 0] := (by decide +kernel : ∀ t : Fin grid0.N, win0_1.index t = ![t.val, 0])
theorem index_2 : ∀ t : Fin cfg0.N, win0_2.index t = ![t.val, 0] := (by decide +kernel : ∀ t : Fin grid0.N, win0_2.index t = ![t.val, 0])
theorem index_3 : ∀ t : Fin cfg0.N, win0_3.index t = ![0, 0] := (by decide +kernel : ∀ t : Fin grid0.N, win0_3.index t = ![0, 0])
theorem index_4 : ∀ t : Fin cfg0.N, win0_4.index t = ![t.val / 8, 0, 0] := (by decide +kernel : ∀ t : Fin grid0.N, win0_4.index t = ![t.val / 8, 0, 0])
theorem index_5 : ∀ t : Fin cfg0.N, win0_5.index t = ![0, 0] := (by decide +kernel : ∀ t : Fin grid0.N, win0_5.index t = ![0, 0])
theorem index_6 : ∀ t : Fin cfg0.N, win0_6.index t = ![t.val / 8, 0, 0] := (by decide +kernel : ∀ t : Fin grid0.N, win0_6.index t = ![t.val / 8, 0, 0])
theorem index_7 : ∀ t : Fin cfg0.N, win0_7.index t = ![t.val / 8, 0, 0] := (by decide +kernel : ∀ t : Fin grid0.N, win0_7.index t = ![t.val / 8, 0, 0])
theorem index_8 : ∀ t : Fin cfg0.N, win0_8.index t = ![t.val / 8, 0, 0] := (by decide +kernel : ∀ t : Fin grid0.N, win0_8.index t = ![t.val / 8, 0, 0])
theorem index_9 : ∀ t : Fin cfg0.N, win0_9.index t = ![0, 0] := (by decide +kernel : ∀ t : Fin grid0.N, win0_9.index t = ![0, 0])
theorem index_10 : ∀ t : Fin cfg0.N, win0_10.index t = ![0, 0] := (by decide +kernel : ∀ t : Fin grid0.N, win0_10.index t = ![0, 0])
theorem index_11 : ∀ t : Fin cfg0.N, win0_11.index t = ![0, 0] := (by decide +kernel : ∀ t : Fin grid0.N, win0_11.index t = ![0, 0])
theorem index_12 : ∀ t : Fin cfg0.N, win0_12.index t = ![t.val, 0] := (by decide +kernel : ∀ t : Fin grid0.N, win0_12.index t = ![t.val, 0])

/-- Row `r` of point `t`'s tile. -/
def rowOf (t : Fin cfg0.N) (r : Fin 512) : Fin 16384 := ⟨t.val * 512 + r.val, by have : t.val < 32 := t.isLt; omega⟩

theorem iblk_0 (t : Fin cfg0.N) (r : Fin 512) (k : Fin 512) :
    (iblk m c 0 t : S512x512.Idx → EReal) (ix2 r k) = (m ((c : Thread nD τ).loc main_arg0) : S16384x512.Idx → EReal) (ix2 (rowOf t r) k) := by
  show V m c main_arg0 _ = _
  rw [V_main_arg0]
  unfold rowOf
  blk_ext [index_0 t]

theorem iblk_1 (t : Fin cfg0.N) (r : Fin 512) (k : Fin 512) :
    (iblk m c 1 t : S512x512.Idx → EReal) (ix2 r k) = (m ((c : Thread nD τ).loc main_arg1) : S16384x512.Idx → EReal) (ix2 (rowOf t r) k) := by
  show V m c main_arg1 _ = _
  rw [V_main_arg1]
  unfold rowOf
  blk_ext [index_1 t]

theorem iblk_2 (t : Fin cfg0.N) (r : Fin 512) (k : Fin 1024) :
    (iblk m c 2 t : S512x1024.Idx → EReal) (ix2 r k) = (m ((c : Thread nD τ).loc main_arg2) : S16384x1024.Idx → EReal) (ix2 (rowOf t r) k) := by
  show V m c main_arg2 _ = _
  rw [V_main_arg2]
  unfold rowOf
  blk_ext [index_2 t]

theorem iblk_4 (t : Fin cfg0.N) (r : Fin 512) (k : Fin 1024) :
    (iblk m c 4 t : S1x1x1024.Idx → EReal) (ix3 0 0 k) = (m ((c : Thread nD τ).loc main_arg4) : S4x1x1024.Idx → EReal) (ix3 (batchOf (rowOf t r)) 0 k) := by
  show V m c main_arg4 _ = _
  rw [V_main_arg4]
  unfold batchOf rowOf
  blk_ext [index_4 t]

theorem iblk_6 (t : Fin cfg0.N) (r : Fin 512) (k : Fin 1024) :
    (iblk m c 6 t : S1x1x1024.Idx → EReal) (ix3 0 0 k) = (m ((c : Thread nD τ).loc main_arg6) : S4x1x1024.Idx → EReal) (ix3 (batchOf (rowOf t r)) 0 k) := by
  show V m c main_arg6 _ = _
  rw [V_main_arg6]
  unfold batchOf rowOf
  blk_ext [index_6 t]

theorem iblk_7 (t : Fin cfg0.N) (r : Fin 512) (k : Fin 1024) :
    (iblk m c 7 t : S1x1x1024.Idx → EReal) (ix3 0 0 k) = (m ((c : Thread nD τ).loc main_arg7) : S4x1x1024.Idx → EReal) (ix3 (batchOf (rowOf t r)) 0 k) := by
  show V m c main_arg7 _ = _
  rw [V_main_arg7]
  unfold batchOf rowOf
  blk_ext [index_7 t]

theorem iblk_8 (t : Fin cfg0.N) (r : Fin 512) (k : Fin 1024) :
    (iblk m c 8 t : S1x1x1024.Idx → EReal) (ix3 0 0 k) = (m ((c : Thread nD τ).loc main_arg8) : S4x1x1024.Idx → EReal) (ix3 (batchOf (rowOf t r)) 0 k) := by
  show V m c main_arg8 _ = _
  rw [V_main_arg8]
  unfold batchOf rowOf
  blk_ext [index_8 t]

theorem iblk_3 (t : Fin cfg0.N) : (iblk m c 3 t : S1024x1024.Idx → EReal) = m ((c : Thread nD τ).loc main_arg3) := by
  funext y
  show V m c main_v0 _ = _
  rw [V_v0]
  blk_ext [index_3 t]

theorem iblk_9 (t : Fin cfg0.N) : (iblk m c 9 t : S1024x2816.Idx → EReal) = m ((c : Thread nD τ).loc main_arg9) := by
  funext y
  show V m c main_v2 _ = _
  rw [V_v2]
  blk_ext [index_9 t]

theorem iblk_10 (t : Fin cfg0.N) : (iblk m c 10 t : S1024x2816.Idx → EReal) = m ((c : Thread nD τ).loc main_arg10) := by
  funext y
  show V m c main_v3 _ = _
  rw [V_v3]
  blk_ext [index_10 t]

theorem iblk_11 (t : Fin cfg0.N) : (iblk m c 11 t : S2816x1024.Idx → EReal) = m ((c : Thread nD τ).loc main_arg11) := by
  funext y
  show V m c main_v4 _ = _
  rw [V_v4]
  blk_ext [index_11 t]

theorem iblk_5 (t : Fin cfg0.N) (k : Fin 1024) :
    (iblk m c 5 t : S1x1024.Idx → EReal) (ix2 0 k) = (m ((c : Thread nD τ).loc main_arg5) : S1024.Idx → EReal) (ix1 k) := by
  refine Eq.trans ?_ (V_v1_apply m c k)
  show V m c main_v1 _ = _
  blk_ext [index_5 t]

end Cert.Kernel2Ideal.Dense
-- ==== Proof.Kernel2Ideal.Result.lean ====
/-
  The array that the second call leaves over the extended reals: every token's layer. A point writes its tile of tokens,
  and the tiles cover the array.
-/
module

public import proofs.«01_k».proof.Proof.Kernel2Ideal.Blocks

@[expose] public section

set_option maxRecDepth 16384

noncomputable section

namespace Cert.Kernel2Ideal.Dense

open Idealize.ShloMosaic Idealize.ShloMosaic.TcCoe Cert.Kernel2Ideal Cert.Kernel2Ideal.Gen Cert.Dense
open Idealize.SL.Sem
open Idealize.ShloMosaic.Pipeline (Dat Cfg Window)

variable (m : (ℓ : Loc nD τ sig) → Buf (Elt Ideal) ℓ) (ρ : Dev nD → PrngReg) (c : Dev nD)

/-- The result over the arguments. -/
abbrev resultOf : S16384x1024.Idx → EReal :=
  result (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11))

/-- What a point computes of its blocks. -/
theorem out_apply (a b : Vec Ideal S512x512 .bf16) (x : Vec Ideal S512x1024 .f32) (w : Vec Ideal S1024x1024 .bf16) (g1 : Vec Ideal S1x1x1024 .f32)
    (n : Vec Ideal S1x1024 .f32) (sc sh g2 : Vec Ideal S1x1x1024 .f32) (wg wu : Vec Ideal S1024x2816 .bf16) (wd : Vec Ideal S2816x1024 .bf16) (r : Fin 512) (d : Fin 1024) :
    out0_12 a b x w g1 n sc sh g2 wg wu wd (ix2 r d)
      = layer (mixed (fun k => a (ix2 r k)) (fun k => b (ix2 r k)) w (fun k => x (ix2 r k)) (fun k => g1 (ix3 0 0 k)))
          (fun k => n (ix2 0 k)) (fun k => sc (ix3 0 0 k)) (fun k => sh (ix3 0 0 k)) (fun k => g2 (ix3 0 0 k)) wg wu wd d := by
  have h2 : (![0, 0] : Fin 2 → ℕ) = fun _ => 0 := by decide
  unfold out0_12
  rw [View.canon_unit_zero h2]
  simp (disch := decide) only [View.ld_unit_lit']
  refine pay1_apply (w := w) (ha := fun k d => ?_) (hb := fun k d => ?_) ..
  · refine congrArg w (funext fun i => ?_)
    fin_cases i
    · exact Fin.ext (by show 0 + 1 * k.val = k.val; omega)
    · exact Fin.ext (by show 0 + 1 * d.val = d.val; omega)
  · refine congrArg w (funext fun i => ?_)
    fin_cases i
    · exact Fin.ext (by show 512 + 1 * k.val = 512 + k.val; omega)
    · exact Fin.ext (by show 0 + 1 * d.val = d.val; omega)

/-- A point's tile of the result. -/
theorem tile_apply (t : Fin cfg0.N) (r : Fin 512) (d : Fin 1024) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
        (ix2 r d) = resultOf m c (ix2 (rowOf t r) d) := by
  refine (out_apply ..).trans ?_
  rw [iblk_3, iblk_9, iblk_10, iblk_11]
  simp only [iblk_0, iblk_1, iblk_2, iblk_5, iblk_4 m c t r, iblk_6 m c t r, iblk_7 m c t r, iblk_8 m c t r]
  rfl

theorem covers_12 : ((cfg0).win 12).Covers :=
  Window.covers_of_indexMap_surj _ rfl (fun a => by revert a; show ∀ a : Fin 2, 0 < (![512, 1024] : Fin 2 → ℕ) a; decide) fun β => by
    have hb : (β (0 : Fin 2)).val < 32 := Nat.lt_of_lt_of_eq (β (0 : Fin 2)).isLt (by show (16384 + (512 - 1)) / 512 = 32; rfl)
    have h1 : (β (1 : Fin 2)).val < 1 := Nat.lt_of_lt_of_eq (β (1 : Fin 2)).isLt (by show (1024 + (1024 - 1)) / 1024 = 1; rfl)
    let i : grid0.Coords := fun a => match a with | ⟨0, _⟩ => (⟨(β (0 : Fin 2)).val, hb⟩ : Fin 32)
    refine ⟨i, fun a => ?_⟩
    have e : (cfg0.win 12).indexMap i = ![(β (0 : Fin 2)).val, 0] := by
      show ![(BitVec.ofNat 32 (β (0 : Fin 2)).val).toNat, 0] = _
      rw [BitVec.toNat_ofNat, Nat.mod_eq_of_lt (by omega)]
    rw [e]
    have ha : a = (0 : Fin 2) ∨ a = (1 : Fin 2) := by
      revert a; show ∀ a : Fin 2, a = 0 ∨ a = 1; decide
    rcases ha with rfl | rfl
    · rfl
    · exact (Nat.lt_one_iff.1 h1).symm

/-- The output array after the run. -/
theorem arrAt_12 : (dats m 0 c).arrAt 12 cfg0.N = resultOf m c := by
  refine (dats m 0 c).arrAt_eq_of_covers 12 _ covers_12 fun t hf y => ?_
  have e12 := index_12 t
  have ht : t.val < 32 := t.isLt
  have hy0 : (y (0 : Fin 2)).val < 512 := (y (0 : Fin 2)).isLt
  have hy1 : (y (1 : Fin 2)).val < 1024 := (y (1 : Fin 2)).isLt
  have hemb : (((cfg0.win 12).blk t).view.emb y : S16384x1024.Idx) = ix2 (rowOf t ⟨(y (0 : Fin 2)).val, hy0⟩) ⟨(y (1 : Fin 2)).val, hy1⟩ := by
    unfold rowOf
    blk_ext [e12]
  rw [hemb]
  blk_simp
  rw [after0_12]
  have hy : (y : S512x1024.Idx) = ix2 ⟨(y (0 : Fin 2)).val, hy0⟩ ⟨(y (1 : Fin 2)).val, hy1⟩ := by
    funext a; fin_cases a <;> rfl
  exact (congrArg _ hy).trans (tile_apply m c t _ _)

/-- The run: it ends with the result in its array. -/
theorem run_result : θ_run (defs (F := Ideal)) (onTc (τ := τ) (main (F := Ideal))) ⟨m, fun _ => 0, ρ⟩ (fun r => ∀ c : Dev nD,
      r.2.mem ((c.tc : Thread nD τ).loc main_v5) = resultOf m c) :=
  (θ_run defs _ _).mono (fun _ hr c => (hr c).1.trans (arrAt_12 m c)) (Value.run_blocks m ρ)

end Cert.Kernel2Ideal.Dense
-- ==== Proof.Reference2.lean ====
/-
  What the second call's reference computes over the extended reals: the same layer token by token. A product over the
  1024 columns of the two mixers' outputs side by side is the sum of the products over their 512 columns each.
-/
module

public import proofs.«01_k».proof.Proof.Gen.Reference2Ideal
public import proofs.«01_k».proof.Proof.Dense
public import Idealize.ShloMosaic.Lib.Pointwise
public import Idealize.ShloMosaic.PureOps.Ideal

@[expose] public section

noncomputable section

namespace Cert.Reference2Ideal.Dense

open Idealize.ShloMosaic Cert.Reference2Ideal Cert.Reference2Ideal.Gen Cert.Dense
open Cert.Expert (siluMul)

variable (a b : FVec Ideal S16384x512 .bf16) (x : FVec Ideal S16384x1024 .f32) (w : FVec Ideal S1024x1024 .f32)
  (g1 : FVec Ideal S4x1x1024 .f32) (n : FVec Ideal S1024 .f32) (sc sh g2 : FVec Ideal S4x1x1024 .f32)
  (wg wu : FVec Ideal S1024x2816 .f32) (wd : FVec Ideal S2816x1024 .f32)

/-- A batch's row for each of its tokens. -/
def perToken (g : FVec Ideal S4x1x1024 .f32) : FVec Ideal S16384x1024 .f32 :=
  shapeCast _ (broadcastInDim S4x4096x1024 ![0, 1, 2] bcast_S4x1x1024_S4x4096x1024_0_1_2 g) shapeCasts_S4x4096x1024_S16384x1024

theorem perToken_apply (g : FVec Ideal S4x1x1024 .f32) (r : Fin 16384) (d : Fin 1024) : perToken g (ix2 r d) = g (ix3 (batchOf r) 0 d) := by
  pointwise [perToken]
  rfl

/-- The two mixers' outputs side by side. -/
def both : FVec Ideal S16384x1024 .f32 :=
  concatenate S16384x1024 1 [⟨S16384x512, (extf .f32 a bitsLt_bf16_f32)⟩, ⟨S16384x512, (extf .f32 b bitsLt_bf16_f32)⟩] concatenates_S16384x512_S16384x512_S16384x1024_d1

theorem both_apply (r : Fin 16384) (k : Fin 1024) :
    both a b (ix2 r k) = if h : k.val < 512 then a (ix2 r ⟨k.val, h⟩) else b (ix2 r ⟨k.val - 512, by omega⟩) := by
  pointwise [both]

/-- The tokens after the projection. -/
def tokens : FVec Ideal S16384x1024 .f32 :=
  addf x (mulf (perToken g1) (Host.dotGeneral dot_S16384x1024_S1024x1024_S16384x1024_1_0_0_1_n_n none (both a b) w))

theorem tokens_apply (r : Fin 16384) (d : Fin 1024) : tokens a b x w g1 (ix2 r d) = mixedRow a b x w g1 r d := by
  pointwise [tokens]
  simp only [perToken_apply, mixedRow, mixed]
  congr 2
  refine (Fin.sum_univ_add (a := 512) (b := 512) (fun k : Fin 1024 => both a b (ix2 r k) * w (ix2 k d))).trans (congrArg₂ (· + ·) ?_ ?_)
  · refine Finset.sum_congr rfl fun k _ => ?_
    rw [both_apply, dif_pos (by show k.val < 512; exact k.isLt)]
    rfl
  · refine Finset.sum_congr rfl fun k _ => ?_
    rw [both_apply, dif_neg (by show ¬ 512 + k.val < 512; omega)]
    have e : ∀ h, (⟨(Fin.natAdd 512 k).val - 512, h⟩ : Fin 512) = k := fun h => Fin.ext (by show 512 + k.val - 512 = k.val; omega)
    rw [e]
    rfl

variable (v : FVec Ideal S16384x1024 .f32)

/-- The tokens over the roots of their mean squares, times the norm's weights. -/
def rms : FVec Ideal S16384x1024 .f32 :=
  mulf (mulf v (broadcastInDim S16384x1024 ![0, 1] bcast_S16384x1_S16384x1024_0_1 (Host.rsqrt (addf
    (Host.divf (broadcastInDim S16384x1 ![0] bcast_S16384_S16384x1_0 (Host.reduceAdd (mulf v v) (constant S_ .f32 0x00000000#32) reducesTo_S16384x1024_S16384_d1 h_S_))
      (broadcastInDim S16384x1 ![] bcast_S_S16384x1 (constant S_ .f32 0x44800000#32)))
    (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 n))

theorem rms_apply (r : Fin 16384) (d : Fin 1024) : rms n v (ix2 r d) = scaled (fun k => v (ix2 r k)) (fun k => n (ix1 k)) d := by
  pointwise [rms]
  simp only [scaled]

/-- The norm with its scale and shift. -/
def modulated : FVec Ideal S16384x1024 .f32 :=
  addf (mulf (rms n v) (addf (broadcastInDim S16384x1024 ![] bcast_S_S16384x1024 (constant S_ .f32 0x3F800000#32)) (perToken sc))) (perToken sh)

theorem modulated_apply (r : Fin 16384) (d : Fin 1024) :
    modulated n sc sh v (ix2 r d)
      = normed (fun k => v (ix2 r k)) (fun k => n (ix1 k)) (fun k => sc (ix3 (batchOf r) 0 k)) (fun k => sh (ix3 (batchOf r) 0 k)) d := by
  pointwise [modulated]
  simp only [rms_apply, perToken_apply, normed]

/-- The tokens against the gate or up weights. -/
def proj (w : FVec Ideal S1024x2816 .f32) : FVec Ideal S16384x2816 .f32 :=
  Host.dotGeneral dot_S16384x1024_S1024x2816_S16384x2816_1_0_0_1_n_n none v w

theorem proj_apply (w : FVec Ideal S1024x2816 .f32) (r : Fin 16384) (j : Fin 2816) : proj v w (ix2 r j) = ∑ k : Fin 1024, v (ix2 r k) * w (ix2 k j) := by
  pointwise [proj]

/-- The gated feed-forward. -/
def ffn : FVec Ideal S16384x1024 .f32 :=
  Host.dotGeneral dot_S16384x2816_S2816x1024_S16384x1024_1_0_0_1_n_n none
    (mulf (mulf (proj v wg) (Host.divf (broadcastInDim S16384x2816 ![] bcast_S_S16384x2816 (constant S_ .f32 0x3F800000#32))
      (addf (broadcastInDim S16384x2816 ![] bcast_S_S16384x2816 (constant S_ .f32 0x3F800000#32)) (Host.exp (Host.negf (proj v wg)))))) (proj v wu)) wd

theorem ffn_apply (r : Fin 16384) (d : Fin 1024) :
    ffn wg wu wd v (ix2 r d) = ∑ j : Fin 2816, siluMul (fun k => v (ix2 r k)) (fun k => wg (ix2 k j)) (fun k => wu (ix2 k j)) * wd (ix2 j d) := by
  pointwise [ffn]
  simp only [proj_apply, siluMul]

/-- The reference's array. -/
def total : FVec Ideal S16384x1024 .f32 :=
  addf (tokens a b x w g1) (mulf (perToken g2) (ffn wg wu wd (modulated n sc sh (tokens a b x w g1))))

/-- The reference's array is the result. -/
theorem total_eq : total a b x w g1 n sc sh g2 wg wu wd = result a b x w g1 n sc sh g2 wg wu wd := by
  funext y
  obtain ⟨r, d, rfl⟩ : ∃ (r : Fin 16384) (d : Fin 1024), y = ix2 r d := ⟨y 0, y 1, eq_ix2 y⟩
  show tokens a b x w g1 (ix2 r d) + perToken g2 (ix2 r d) * ffn wg wu wd _ (ix2 r d) = _
  rw [ffn_apply, perToken_apply]
  simp only [tokens_apply, modulated_apply, result, layer, ix2_0, ix2_1]

end Cert.Reference2Ideal.Dense
-- ==== Proof.Reference2Run.lean ====
/-
  The run of the second call's reference over the extended reals: it ends with the result in its array, its arguments unchanged and every
  counter zero.
-/
module

public import proofs.«01_k».proof.Proof.Gen.Reference2Ideal.Run
public import proofs.«01_k».proof.Proof.Reference2
public import Idealize.ShloMosaic.Lib.Quiescent

@[expose] public section

noncomputable section

namespace Cert.Reference2Ideal.Dense

open Idealize.ShloMosaic Idealize.ShloMosaic.TcCoe Idealize.SL.Sem Cert.Reference2Ideal Cert.Reference2Ideal.Gen Cert.Dense

variable (m : (ℓ : Loc nD τ sig) → Buf (Elt Ideal) ℓ) (ρ : Dev nD → PrngReg)

/-- The arguments end unchanged. -/
abbrev Kept (r : MemSt nD τ sig (Elt Ideal)) (c : Dev nD) : Prop :=
  r.mem ((c.tc : Thread nD τ).loc main_arg0) = m ((c.tc : Thread nD τ).loc main_arg0)
  ∧ r.mem ((c.tc : Thread nD τ).loc main_arg1) = m ((c.tc : Thread nD τ).loc main_arg1)
  ∧ r.mem ((c.tc : Thread nD τ).loc main_arg2) = m ((c.tc : Thread nD τ).loc main_arg2)
  ∧ r.mem ((c.tc : Thread nD τ).loc main_arg3) = m ((c.tc : Thread nD τ).loc main_arg3)
  ∧ r.mem ((c.tc : Thread nD τ).loc main_arg4) = m ((c.tc : Thread nD τ).loc main_arg4)
  ∧ r.mem ((c.tc : Thread nD τ).loc main_arg5) = m ((c.tc : Thread nD τ).loc main_arg5)
  ∧ r.mem ((c.tc : Thread nD τ).loc main_arg6) = m ((c.tc : Thread nD τ).loc main_arg6)
  ∧ r.mem ((c.tc : Thread nD τ).loc main_arg7) = m ((c.tc : Thread nD τ).loc main_arg7)
  ∧ r.mem ((c.tc : Thread nD τ).loc main_arg8) = m ((c.tc : Thread nD τ).loc main_arg8)
  ∧ r.mem ((c.tc : Thread nD τ).loc main_arg9) = m ((c.tc : Thread nD τ).loc main_arg9)
  ∧ r.mem ((c.tc : Thread nD τ).loc main_arg10) = m ((c.tc : Thread nD τ).loc main_arg10)
  ∧ r.mem ((c.tc : Thread nD τ).loc main_arg11) = m ((c.tc : Thread nD τ).loc main_arg11)

/-- The reference's array over the arguments. -/
abbrev totalOf (c : Dev nD) : FVec Ideal S16384x1024 .f32 :=
  total (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))

theorem run_total : θ_run (defs (F := Ideal)) (onTc (τ := τ) (main (F := Ideal))) ⟨m, fun _ => 0, ρ⟩ fun r => ∀ c : Dev nD,
    r.2.mem ((c.tc : Thread nD τ).loc main_v37) = totalOf m c ∧ Kept m r.2 c := Value.run m ρ

theorem frame_main : θ_run (defs (F := Ideal)) (onTc (τ := τ) (main (F := Ideal))) ⟨m, fun _ => 0, ρ⟩ fun r =>
    (∀ c : Dev nD, Kept m r.2 c) ∧ r.2.sem = fun _ => 0 :=
  (θ_run _ _ _).mono (fun r h => ⟨fun c => (h c).2, sem_eq_zero_of_no_sems rfl _⟩) (run_total m ρ)

end Cert.Reference2Ideal.Dense
-- ==== Proof.Attend.lean ====
/-
  The attention of the layer over the extended reals: each token attends to the tokens of its block of 128 and to those of
  the block before, a block at the start of a sequence to its own tokens only, with a bias for every pair and one more
  weight, the head's sink, in the sum that the weights are divided by.
-/
module

public import Idealize.ShloMosaic.Lib.Pointwise
public import Idealize.ShloMosaic.PureOps.Ideal

@[expose] public section

noncomputable section

namespace Cert.Attend

open Idealize.ShloMosaic

/-- The largest of a row's scores and the sink. -/
def top (s : Fin 256 → EReal) (sink : EReal) : EReal :=
  max ((Finset.univ : Finset (Fin 256)).fold max (Ideal.ofBits .f32 0xFF800000#32) s) sink

/-- The values, weighted by the scores' exponentials. -/
def weighted (s v : Fin 256 → EReal) (sink : EReal) : EReal :=
  Ideal.div (∑ j : Fin 256, Ideal.exp (s j - top s sink) * v j)
    (∑ j : Fin 256, Ideal.exp (s j - top s sink) + Ideal.exp (sink - top s sink))

/-- The score of a pair. -/
def score (q k : Fin 64 → EReal) (b : EReal) : EReal :=
  (∑ d : Fin 64, q d * k d) * Ideal.ofBits .f32 0x3E000000#32 + b

/-- A token's row in the array. -/
def token (n r : Fin 128) : Fin 16384 := ⟨n.val * 128 + r.val, by omega⟩

/-- Row `j` of what block `n` attends to: the block before, zero before the first, then the block. -/
def band (k : Fin 16384 → EReal) (n : Fin 128) (j : Fin 256) : EReal :=
  if h : j.val < 128 then (if 1 ≤ n.val then k (token ⟨n.val - 1, by omega⟩ ⟨j.val, h⟩) else 0) else k (token n ⟨j.val - 128, by omega⟩)

/-- The copy of keys and values that a head reads. -/
def copyOf (h : Fin 8) : Fin 4 := ⟨h.val / 4 * 2 + h.val % 2, by omega⟩

/-- A column of a head. -/
def colOf (h : Fin 8) (d : Fin 64) : Fin 512 := ⟨h.val * 64 + d.val, by omega⟩

/-- A column of a copy. -/
def copyCol (h : Fin 8) (d : Fin 64) : Fin 256 := ⟨(copyOf h).val * 64 + d.val, by have := (copyOf h).isLt; omega⟩

variable (q : FVec Ideal ⟨2, ![16384, 512]⟩ .bf16) (k v : FVec Ideal ⟨2, ![16384, 256]⟩ .bf16) (b : FVec Ideal ⟨3, ![4, 256, 256]⟩ .f32)
  (s : FVec Ideal ⟨1, ![8]⟩ .f32)

/-- The scores of a token in a head. -/
def scores (n : Fin 128) (h : Fin 8) (r : Fin 128) (j : Fin 256) : EReal :=
  if n.val % 32 = 0 ∧ j.val < 128 then ⊥ else
    score (fun d => q (ix2 (token n r) (colOf h d))) (fun d => band (fun i => k (ix2 i (copyCol h d))) n j)
      (b (ix3 ⟨h.val / 2, by omega⟩ ⟨h.val % 2 * 128 + r.val, by omega⟩ j))

/-- A token's column of a head. -/
def head (n : Fin 128) (h : Fin 8) (r : Fin 128) (d : Fin 64) : EReal :=
  weighted (scores q k b n h r) (fun j => band (fun i => v (ix2 i (copyCol h d))) n j) (s (ix1 h))

/-- The attention. -/
def result : FVec Ideal ⟨2, ![16384, 512]⟩ .bf16 := fun y =>
  head q k v b s ⟨(y 0).val / 128, by have h : (y 0).val < 16384 := (y 0).isLt; omega⟩ ⟨(y 1).val / 64, by have h : (y 1).val < 512 := (y 1).isLt; omega⟩
    ⟨(y 0).val % 128, by omega⟩ ⟨(y 1).val % 64, by omega⟩

end Cert.Attend
-- ==== Proof.Kernel3Ideal.Value.lean ====
/-
  One pair of heads over the extended reals. The kernel puts the two heads' queries one above the other, each over zeros
  in the other head's 64 lanes, so that one product over 128 lanes gives both heads' scores.
-/
module

public import proofs.«01_k».proof.Proof.Gen.Kernel3Ideal.Skeleton
public import proofs.«01_k».proof.Proof.Attend
public import Idealize.ShloMosaic.Lib.Pointwise
public import Idealize.ShloMosaic.PureOps.Ideal
public import Idealize.ShloMosaic.PureOps.IdealRules

@[expose] public section

noncomputable section

namespace Cert.Kernel3Ideal.Attend

open Idealize.ShloMosaic Cert.Kernel3Ideal Cert.Kernel3Ideal.Gen Cert.Attend

/-- Row `j` of two blocks of 128 rows. -/
def stack (x y : FVec Ideal S128x128 .bf16) (j : Fin 256) (l : Fin 128) : EReal :=
  if h : j.val < 128 then x (ix2 ⟨j.val, h⟩ l) else y (ix2 ⟨j.val - 128, by omega⟩ l)

/-- A lane of one of the two heads. -/
def lane (a : Fin 2) (d : Fin 64) : Fin 128 := ⟨a.val * 64 + d.val, by omega⟩

/-- A row of one of the two heads. -/
def side (a : Fin 2) (r : Fin 128) : Fin 256 := ⟨a.val * 128 + r.val, by omega⟩

theorem low_apply (r l : Fin 128) : k0_pay4 (ix2 r l) = if l.val < 64 then 1#1 else 0#1 := by
  pointwise [k0_pay4]
  revert l
  decide +kernel

theorem dead_apply (i : grid0.Coords) (r l : Fin 256) : k0_pay5 i (ix2 r l) = if (i 0).val % 16 = 0 ∧ l.val < 128 then 1#1 else 0#1 := by
  pointwise [k0_pay5]
  have e1 : ∀ a : Fin 64, (Scalar.cmpi CmpIPredicate.eq
        (Scalar.select
          (Scalar.andi
            (Scalar.xori
              (Scalar.cmpi CmpIPredicate.slt
                (Scalar.remsi (BitVec.ofNat 32 a.val)
                  (Scalar.select (Scalar.cmpi CmpIPredicate.eq 16#32 0#32) 1#32 16#32))
                0#32)
              (Scalar.cmpi CmpIPredicate.slt (Scalar.select (Scalar.cmpi CmpIPredicate.eq 16#32 0#32) 1#32 16#32) 0#32))
            (Scalar.cmpi CmpIPredicate.ne
              (Scalar.remsi (BitVec.ofNat 32 a.val)
                (Scalar.select (Scalar.cmpi CmpIPredicate.eq 16#32 0#32) 1#32 16#32))
              0#32))
          (Scalar.addi
            (Scalar.remsi (BitVec.ofNat 32 a.val) (Scalar.select (Scalar.cmpi CmpIPredicate.eq 16#32 0#32) 1#32 16#32))
            (Scalar.select (Scalar.cmpi CmpIPredicate.eq 16#32 0#32) 1#32 16#32))
          (Scalar.remsi (BitVec.ofNat 32 a.val) (Scalar.select (Scalar.cmpi CmpIPredicate.eq 16#32 0#32) 1#32 16#32)))
        0#32) = if a.val % 16 = 0 then 1#1 else 0#1 := by decide +kernel
  have e2 : ∀ l : Fin 256, IntOp.cmpi CmpIPredicate.slt (BitVec.ofNat 32 l.val) 128#32 = if l.val < 128 then 1#1 else 0#1 := by decide +kernel
  rw [e2]
  refine (congrArg (IntOp.andi · _) (e1 (i 0))).trans ?_
  by_cases h1 : (i 0).val % 16 = 0 <;> by_cases h2 : l.val < 128 <;> simp [h1, h2] <;> decide

/-- The queries of a pair of heads, one head above the other. -/
theorem pair_apply (q : FVec Ideal S128x128 .bf16) (r : Fin 256) (l : Fin 128) :
    k0_pay6 k0_pay4 q (ix2 r l) = if h : r.val < 128 then (if l.val < 64 then q (ix2 ⟨r.val, h⟩ l) else 0) else (if l.val < 64 then 0 else q (ix2 ⟨r.val - 128, by omega⟩ l)) := by
  pointwise [k0_pay6]
  simp only [low_apply]
  by_cases h2 : l.val < 64 <;> simp only [h2, if_true, if_false] <;> rfl

theorem stack_apply (x y : FVec Ideal S128x128 .bf16) (j : Fin 256) (l : Fin 128) : k0_pay14 (F := Ideal) x y (ix2 j l) = stack x y j l := by
  pointwise [k0_pay14]
  rfl

/-- The scores of a pair of heads. -/
def plain (q kp kc : FVec Ideal S128x128 .bf16) (b : FVec Ideal S1x256x256 .f32) : FVec Ideal S256x256 .f32 :=
  k0_pay38 (k0_pay30 (k0_pay6 k0_pay4 q) (k0_pay14 kp kc)) b

theorem plain_apply (q kp kc : FVec Ideal S128x128 .bf16) (b : FVec Ideal S1x256x256 .f32) (a : Fin 2) (r : Fin 128) (j : Fin 256) :
    plain q kp kc b (ix2 (side a r) j) = score (fun d => q (ix2 r (lane a d))) (fun d => stack kp kc j (lane a d)) (b (ix3 0 (side a r) j)) := by
  pointwise [plain, k0_pay38, k0_pay30]
  simp only [pair_apply, stack_apply, score]
  congr 2
  refine (Fin.sum_univ_add (a := 64) (b := 64) (fun l : Fin 128 => (if h : (side a r).val < 128 then (if l.val < 64 then q (ix2 ⟨(side a r).val, h⟩ l) else 0)
    else (if l.val < 64 then 0 else q (ix2 ⟨(side a r).val - 128, by omega⟩ l))) * stack kp kc j l)).trans ?_
  have h64 : ∀ d : Fin 64, (Fin.castAdd 64 d).val < 64 := fun d => d.isLt
  have h64' : ∀ d : Fin 64, ¬ (Fin.natAdd 64 d).val < 64 := fun d => by show ¬ 64 + d.val < 64; omega
  rcases (by omega : a.val = 0 ∨ a.val = 1) with ha | ha
  · obtain rfl : a = 0 := Fin.ext ha
    have hs : (side 0 r).val < 128 := by show 0 * 128 + r.val < 128; omega
    have e0 : ∀ h, (⟨(side 0 r).val, h⟩ : Fin 128) = r := fun h => Fin.ext (by show 0 * 128 + r.val = r.val; omega)
    have el : ∀ d : Fin 64, Fin.castAdd 64 d = lane 0 d := fun d => Fin.ext (by show d.val = 0 * 64 + d.val; omega)
    simp only [dif_pos hs, e0, if_pos (h64 _), if_neg (h64' _), zero_mul, Finset.sum_const_zero, add_zero]
    simp only [el]
  · obtain rfl : a = 1 := Fin.ext ha
    have hs : ¬ (side 1 r).val < 128 := by show ¬ 1 * 128 + r.val < 128; omega
    have e0 : ∀ h, (⟨(side 1 r).val - 128, h⟩ : Fin 128) = r := fun h => Fin.ext (by show 1 * 128 + r.val - 128 = r.val; omega)
    have el : ∀ d : Fin 64, Fin.natAdd 64 d = lane 1 d := fun d => Fin.ext (by show 64 + d.val = 1 * 64 + d.val; omega)
    simp only [dif_neg hs, e0, if_pos (h64 _), if_neg (h64' _), zero_mul, Finset.sum_const_zero, zero_add]
    simp only [el]

theorem mask_apply (i : grid0.Coords) (x : FVec Ideal S256x256 .f32) (r j : Fin 256) :
    k0_pay47 (k0_pay5 i) x (ix2 r j) = if (i 0).val % 16 = 0 ∧ j.val < 128 then ⊥ else x (ix2 r j) := by
  pointwise [k0_pay47]
  rw [dead_apply]
  have e : (Named.named κ "mask" 0xF149F2CA#32 : Ideal .f32) = ⊥ := IdealRules.named_const.ideal_named_scalar _ _ _ _ rfl
  split
  · exact (if_pos rfl).trans e
  · exact if_neg (by decide)

/-- The sinks of a pair of heads, one head's rows above the other's. -/
def sinkCol (s t : EReal) : FVec Ideal S256x1 .f32 := k0_pay51 (F := Ideal) (iota .tc S256x1 32 [0] iota_S256x1_d0_w32) s t

theorem sinkCol_apply (s t : EReal) (a : Fin 2) (r : Fin 128) : sinkCol s t (ix2 (side a r) 0) = if a.val = 0 then s else t := by
  pointwise [sinkCol, k0_pay51]
  have e : ∀ l : Fin 256, IntOp.cmpi CmpIPredicate.slt (BitVec.ofNat 32 l.val) 128#32 = if l.val < 128 then 1#1 else 0#1 := by decide +kernel
  rw [e]
  by_cases h : a.val = 0
  · have h1 : (side a r).val < 128 := by show a.val * 128 + r.val < 128; omega
    rw [if_pos h1, if_pos h]
    rfl
  · have h1 : ¬ (side a r).val < 128 := by show ¬ a.val * 128 + r.val < 128; omega
    rw [if_neg h1, if_neg h]
    rfl

theorem top_apply (x : FVec Ideal S256x256 .f32) (k : FVec Ideal S256x1 .f32) (r : Fin 256) : k0_pay60 x k (ix2 r 0) = top (fun j => x (ix2 r j)) (k (ix2 r 0)) := by
  pointwise [k0_pay60]
  rfl

/-- The weighted values of a pair of heads. -/
def unit (x : FVec Ideal S256x256 .f32) (k : FVec Ideal S256x1 .f32) (vp vc : FVec Ideal S128x128 .bf16) : FVec Ideal S256x128 .f32 :=
  k0_pay83 (k0_pay14 vp vc) (k0_pay68 x (k0_pay60 x k)) (k0_pay76 x k (k0_pay60 x k))

theorem unit_apply (x : FVec Ideal S256x256 .f32) (k : FVec Ideal S256x1 .f32) (vp vc : FVec Ideal S128x128 .bf16) (r : Fin 256) (l : Fin 128) :
    unit x k vp vc (ix2 r l) = weighted (fun j => x (ix2 r j)) (fun j => stack vp vc j l) (k (ix2 r 0)) := by
  pointwise [unit, k0_pay83, k0_pay68, k0_pay76]
  simp only [top_apply, stack_apply, weighted]

/-- The four pairs side by side: each head's columns from its rows. -/
theorem join_apply (u : Fin 4 → FVec Ideal S256x128 .f32) (p : Fin 4) (a : Fin 2) (d : Fin 64) (r : Fin 128) :
    k0_pay89 k0_pay4 (u 0) (u 1) (u 2) (u 3) (ix2 r ⟨p.val * 128 + a.val * 64 + d.val, by omega⟩) = u p (ix2 (side a r) (lane a d)) := by
  pointwise [k0_pay89]
  simp only [low_apply]
  have hp := p.isLt
  have ha := a.isLt
  have hd := d.isLt
  have key : ∀ (f : FVec Ideal S256x128 .f32) (l : ℕ) (hl : l < 128) (h1 : r.val < 256) (h2 : 128 + r.val < 256), l = a.val * 64 + d.val →
      Scalar.select (if l < 64 then 1#1 else 0#1) (f (ix2 ⟨r.val, h1⟩ ⟨l, hl⟩)) (f (ix2 ⟨128 + r.val, h2⟩ ⟨l, hl⟩)) = f (ix2 (side a r) (lane a d)) := by
    intro f l hl h1 h2 e
    subst e
    rcases (by omega : a.val = 0 ∨ a.val = 1) with h | h
    · rw [if_pos (by omega)]
      refine (if_pos rfl).trans (congrArg f ?_)
      exact congrArg₂ ix2 (Fin.ext (by show r.val = a.val * 128 + r.val; omega)) rfl
    · rw [if_neg (by omega)]
      refine (if_neg (by decide)).trans (congrArg f ?_)
      exact congrArg₂ ix2 (Fin.ext (by show 128 + r.val = a.val * 128 + r.val; omega)) rfl
  rcases (by omega : p.val = 0 ∨ p.val = 1 ∨ p.val = 2 ∨ p.val = 3) with h | h | h | h
  · obtain rfl : p = 0 := Fin.ext h
    rw [dif_pos (by omega)]
    exact key _ _ _ _ _ (by omega)
  · obtain rfl : p = 1 := Fin.ext h
    rw [dif_neg (by omega), dif_pos (by omega)]
    exact key _ _ _ _ _ (by omega)
  · obtain rfl : p = 2 := Fin.ext h
    rw [dif_neg (by omega), dif_neg (by omega), dif_pos (by omega)]
    exact key _ _ _ _ _ (by omega)
  · obtain rfl : p = 3 := Fin.ext h
    rw [dif_neg (by omega), dif_neg (by omega), dif_neg (by omega)]
    exact key _ _ _ _ _ (by omega)

end Cert.Kernel3Ideal.Attend
-- ==== Proof.Kernel3Ideal.Tile.lean ====
/-
  What the kernel writes at a point of its grid, over the extended reals: the first half of the tile is the point's first
  block, which attends to the block that the point before kept, and the second half its second block.
-/
module

public import proofs.«01_k».proof.Proof.Gen.Kernel3Ideal.Frame
public import proofs.«01_k».proof.Proof.Kernel3Ideal.Value
public import Idealize.ShloMosaic.Lib.Pipeline.ReadBack

@[expose] public section

noncomputable section

namespace Cert.Kernel3Ideal.Attend

open Idealize.ShloMosaic Idealize.ShloMosaic.TcCoe Cert.Kernel3Ideal Cert.Kernel3Ideal.Gen Cert.Attend

/-- A head's column of the queries. -/
def qCol (p : Fin 4) (a : Fin 2) (d : Fin 64) : Fin 512 := ⟨p.val * 128 + a.val * 64 + d.val, by omega⟩

/-- A head's column of the keys and values. -/
def kCol (p : Fin 4) (a : Fin 2) (d : Fin 64) : Fin 256 := ⟨p.val / 2 * 128 + a.val * 64 + d.val, by omega⟩

/-- Row `j` of two blocks, in a column. -/
def rows (x y : Fin 128 → Fin 256 → EReal) (j : Fin 256) (c : Fin 256) : EReal :=
  if h : j.val < 128 then x ⟨j.val, h⟩ c else y ⟨j.val - 128, by omega⟩ c

/-- A row's column of a head: `e` is the block. -/
def half (e : ℕ) (q : Fin 128 → Fin 512 → EReal) (kp kc vp vc : Fin 128 → Fin 256 → EReal) (b : S4x256x256.Idx → EReal) (s : S8.Idx → EReal)
    (r : Fin 128) (p : Fin 4) (a : Fin 2) (d : Fin 64) : EReal :=
  weighted (fun j => if e % 32 = 0 ∧ j.val < 128 then ⊥ else score (fun d => q r (qCol p a d)) (fun d => rows kp kc j (kCol p a d)) (b (ix3 p (side a r) j)))
    (fun j => rows vp vc j (kCol p a d)) (s (ix1 ⟨p.val * 2 + a.val, by omega⟩))

section
variable (i : grid0.Coords) (Q KP KC VP VC : Fin 4 → FVec Ideal S128x128 .bf16) (B : Fin 4 → FVec Ideal S1x256x256 .f32) (S T : Fin 4 → EReal)
  (q : Fin 128 → Fin 512 → EReal) (kp kc vp vc : Fin 128 → Fin 256 → EReal) (b : S4x256x256.Idx → EReal) (s : S8.Idx → EReal)
  (hQ : ∀ (p : Fin 4) (r l : Fin 128), Q p (ix2 r l) = q r ⟨p.val * 128 + l.val, by omega⟩)
  (hKP : ∀ (p : Fin 4) (r l : Fin 128), KP p (ix2 r l) = kp r ⟨p.val / 2 * 128 + l.val, by omega⟩)
  (hKC : ∀ (p : Fin 4) (r l : Fin 128), KC p (ix2 r l) = kc r ⟨p.val / 2 * 128 + l.val, by omega⟩)
  (hVP : ∀ (p : Fin 4) (r l : Fin 128), VP p (ix2 r l) = vp r ⟨p.val / 2 * 128 + l.val, by omega⟩)
  (hVC : ∀ (p : Fin 4) (r l : Fin 128), VC p (ix2 r l) = vc r ⟨p.val / 2 * 128 + l.val, by omega⟩)
  (hB : ∀ (p : Fin 4) (r j : Fin 256), B p (ix3 0 r j) = b (ix3 p r j))
  (hS : ∀ p : Fin 4, S p = s (ix1 ⟨p.val * 2, by omega⟩)) (hT : ∀ p : Fin 4, T p = s (ix1 ⟨p.val * 2 + 1, by omega⟩))

include hKP hKC in
theorem stack_keys (p : Fin 4) (a : Fin 2) (j : Fin 256) (d : Fin 64) : stack (KP p) (KC p) j (lane a d) = rows kp kc j (kCol p a d) := by
  have e : (⟨p.val / 2 * 128 + (lane a d).val, by omega⟩ : Fin 256) = kCol p a d := Fin.ext (by show p.val / 2 * 128 + (a.val * 64 + d.val) = p.val / 2 * 128 + a.val * 64 + d.val; omega)
  unfold stack rows
  split
  · rw [hKP, e]
  · rw [hKC, e]

include hQ in
theorem queries (p : Fin 4) (a : Fin 2) (r : Fin 128) (d : Fin 64) : Q p (ix2 r (lane a d)) = q r (qCol p a d) := by
  have e : (⟨p.val * 128 + (lane a d).val, by omega⟩ : Fin 512) = qCol p a d := Fin.ext (by show p.val * 128 + (a.val * 64 + d.val) = p.val * 128 + a.val * 64 + d.val; omega)
  rw [hQ, e]

include hS hT in
theorem sinks (p : Fin 4) (a : Fin 2) : (if a.val = 0 then S p else T p) = s (ix1 ⟨p.val * 2 + a.val, by omega⟩) := by
  rcases (by omega : a.val = 0 ∨ a.val = 1) with h | h
  · rw [if_pos h, hS]
    exact congrArg (fun x => s (ix1 x)) (Fin.ext (by show p.val * 2 = p.val * 2 + a.val; omega))
  · rw [if_neg (by omega), hT]
    exact congrArg (fun x => s (ix1 x)) (Fin.ext (by show p.val * 2 + 1 = p.val * 2 + a.val; omega))

/-- A pair of the first block. -/
def pairM (p : Fin 4) : FVec Ideal S256x128 .f32 := unit (k0_pay47 (k0_pay5 i) (plain (Q p) (KP p) (KC p) (B p))) (sinkCol (S p) (T p)) (VP p) (VC p)

/-- A pair of the second block. -/
def pairU (p : Fin 4) : FVec Ideal S256x128 .f32 := unit (plain (Q p) (KP p) (KC p) (B p)) (sinkCol (S p) (T p)) (VP p) (VC p)

include hQ hKP hKC hVP hVC hB hS hT in
theorem first_apply (r : Fin 128) (p : Fin 4) (a : Fin 2) (d : Fin 64) :
    k0_pay89 k0_pay4 (pairM i Q KP KC VP VC B S T 0) (pairM i Q KP KC VP VC B S T 1) (pairM i Q KP KC VP VC B S T 2) (pairM i Q KP KC VP VC B S T 3) (ix2 r (qCol p a d))
      = half (2 * (i 0).val) q kp kc vp vc b s r p a d := by
  refine (join_apply (pairM i Q KP KC VP VC B S T) p a d r).trans ?_
  unfold pairM half
  rw [unit_apply, sinkCol_apply, sinks S T s hS hT]
  simp only [mask_apply, plain_apply, queries Q q hQ, stack_keys KP KC kp kc hKP hKC, stack_keys VP VC vp vc hVP hVC, hB]
  have e : (i 0).val % 16 = 0 ↔ 2 * (i 0).val % 32 = 0 := by omega
  simp only [e]

include hQ hKP hKC hVP hVC hB hS hT in
theorem second_apply (n : ℕ) (r : Fin 128) (p : Fin 4) (a : Fin 2) (d : Fin 64) :
    k0_pay89 k0_pay4 (pairU Q KP KC VP VC B S T 0) (pairU Q KP KC VP VC B S T 1) (pairU Q KP KC VP VC B S T 2) (pairU Q KP KC VP VC B S T 3) (ix2 r (qCol p a d))
      = half (2 * n + 1) q kp kc vp vc b s r p a d := by
  refine (join_apply (pairU Q KP KC VP VC B S T) p a d r).trans ?_
  unfold pairU half
  rw [unit_apply, sinkCol_apply, sinks S T s hS hT]
  simp only [plain_apply, queries Q q hQ, stack_keys KP KC kp kc hKP hKC, stack_keys VP VC vp vc hVP hVC, hB]
  have e : ¬ (2 * n + 1) % 32 = 0 := by omega
  simp only [e, false_and, if_false]

end

/-! The loads of a point. -/

section
variable {sp : Space}

/-- A load of queries. -/
def loadQ (g : Memref sig .tc sp S256x512 .bf16) (hg : g.IsWhole) (x : Vec Ideal S256x512 .bf16) (o : Fin 2) (p : Fin 4) : FVec Ideal S128x128 .bf16 :=
  View.readAt (Elt Ideal) g.view (Rect.unit (s := S256x512) ![o.val * 128, p.val * 128] S128x128.size (fun a => by
    fin_cases a
    · show o.val * 128 + 128 ≤ 256; omega
    · show p.val * 128 + 128 ≤ 512; omega)).toLoadRect (hg.unread x)

theorem loadQ_apply (g : Memref sig .tc sp S256x512 .bf16) (hg : g.IsWhole) (x : Vec Ideal S256x512 .bf16) (o : Fin 2) (p : Fin 4) (r l : Fin 128) :
    loadQ g hg x o p (ix2 r l) = x (ix2 (side o r) ⟨p.val * 128 + l.val, by omega⟩) := by
  unfold loadQ
  rw [View.readAt_apply, hg.read_unread]
  refine congrArg x (funext fun a => ?_)
  fin_cases a
  · exact Fin.ext (by show o.val * 128 + 1 * r.val = o.val * 128 + r.val; omega)
  · exact Fin.ext (by show p.val * 128 + 1 * l.val = p.val * 128 + l.val; omega)

/-- A load of keys or values. -/
def loadK (g : Memref sig .tc sp S256x256 .bf16) (hg : g.IsWhole) (x : Vec Ideal S256x256 .bf16) (o : Fin 2) (p : Fin 4) : FVec Ideal S128x128 .bf16 :=
  View.readAt (Elt Ideal) g.view (Rect.unit (s := S256x256) ![o.val * 128, p.val / 2 * 128] S128x128.size (fun a => by
    fin_cases a
    · show o.val * 128 + 128 ≤ 256; omega
    · show p.val / 2 * 128 + 128 ≤ 256; omega)).toLoadRect (hg.unread x)

theorem loadK_apply (g : Memref sig .tc sp S256x256 .bf16) (hg : g.IsWhole) (x : Vec Ideal S256x256 .bf16) (o : Fin 2) (p : Fin 4) (r l : Fin 128) :
    loadK g hg x o p (ix2 r l) = x (ix2 (side o r) ⟨p.val / 2 * 128 + l.val, by omega⟩) := by
  unfold loadK
  rw [View.readAt_apply, hg.read_unread]
  refine congrArg x (funext fun a => ?_)
  fin_cases a
  · exact Fin.ext (by show o.val * 128 + 1 * r.val = o.val * 128 + r.val; omega)
  · exact Fin.ext (by show p.val / 2 * 128 + 1 * l.val = p.val / 2 * 128 + l.val; omega)

theorem inP (p : Fin 4) : ∀ a, (![0, p.val / 2 * 128] : Fin 2 → ℕ) a + S128x128.size a ≤ S128x256.size a := fun a => by
  fin_cases a
  · show 0 + 128 ≤ 128; omega
  · show p.val / 2 * 128 + 128 ≤ 256; omega

/-- A load of what the point before kept. -/
def loadP (g : Memref sig .tc sp S128x256 .bf16) (hg : g.IsWhole) (x : Vec Ideal S128x256 .bf16) (p : Fin 4) : FVec Ideal S128x128 .bf16 :=
  View.readAt (Elt Ideal) g.view (Rect.unit (s := S128x256) ![0, p.val / 2 * 128] S128x128.size (inP p)).toLoadRect (hg.unread x)

theorem loadP_apply (g : Memref sig .tc sp S128x256 .bf16) (hg : g.IsWhole) (x : Vec Ideal S128x256 .bf16) (p : Fin 4) (r l : Fin 128) :
    loadP g hg x p (ix2 r l) = x (ix2 r ⟨p.val / 2 * 128 + l.val, by omega⟩) := by
  unfold loadP
  rw [View.readAt_apply, hg.read_unread]
  refine congrArg x (funext fun a => ?_)
  fin_cases a
  · exact Fin.ext (by show 0 + 1 * r.val = r.val; omega)
  · exact Fin.ext (by show p.val / 2 * 128 + 1 * l.val = p.val / 2 * 128 + l.val; omega)

/-- A load of what the first point starts with. -/
def loadZ (g : Memref sig .tc sp S128x256 .bf16) (Z : Vec Ideal S128x256 .bf16) (p : Fin 4) : FVec Ideal S128x128 .bf16 :=
  g.view.readCov [⟨Rect.unit (s := S128x256) ![0, 0] S128x256.size inb_S128x256_S128x256_0_0, Z⟩] (Rect.unit (s := S128x256) ![0, p.val / 2 * 128] S128x128.size (inP p)).toLoadRect

theorem loadZ_apply (g : Memref sig .tc sp S128x256 .bf16) (Z : Vec Ideal S128x256 .bf16) (hZ : ∀ y, Z y = (0 : EReal)) (p : Fin 4) (r l : Fin 128) : loadZ g Z p (ix2 r l) = 0 := by
  unfold loadZ
  rw [View.readCov_fill (h := by intro a; fin_cases a <;> rfl)]
  exact hZ _

/-- A load of a pair's bias. -/
def loadB (g : Memref sig .tc sp S4x256x256 .f32) (hg : g.IsWhole) (x : Vec Ideal S4x256x256 .f32) (p : Fin 4) : FVec Ideal S1x256x256 .f32 :=
  View.readAt (Elt Ideal) g.view (Rect.unit (s := S4x256x256) ![p.val, 0, 0] S1x256x256.size (fun a => by
    fin_cases a
    · show p.val + 1 ≤ 4; omega
    · show 0 + 256 ≤ 256; omega
    · show 0 + 256 ≤ 256; omega)).toLoadRect (hg.unread x)

theorem loadB_apply (g : Memref sig .tc sp S4x256x256 .f32) (hg : g.IsWhole) (x : Vec Ideal S4x256x256 .f32) (p : Fin 4) (r j : Fin 256) :
    loadB g hg x p (ix3 0 r j) = x (ix3 p r j) := by
  unfold loadB
  rw [View.readAt_apply, hg.read_unread]
  refine congrArg x (funext fun a => ?_)
  fin_cases a
  · exact Fin.ext (by show p.val + 1 * 0 = p.val; omega)
  · exact Fin.ext (by show 0 + 1 * r.val = r.val; omega)
  · exact Fin.ext (by show 0 + 1 * j.val = j.val; omega)

/-- A load of a sink. -/
def loadS (g : Memref sig .tc sp S8 .f32) (hg : g.IsWhole) (x : Vec Ideal S8 .f32) (h : Fin 8) : EReal :=
  View.readAt (Elt Ideal) g.view (Rect.unit (s := S8) ![h.val] S1.size (fun a => by
    fin_cases a
    show h.val + 1 ≤ 8; omega)).toLoadRect (hg.unread x) (Shape.Idx.first (s := S1) (by decide))

theorem loadS_apply (g : Memref sig .tc sp S8 .f32) (hg : g.IsWhole) (x : Vec Ideal S8 .f32) (h : Fin 8) : loadS g hg x h = x (ix1 h) := by
  unfold loadS
  rw [View.readAt_apply, hg.read_unread]
  refine congrArg x (funext fun a => ?_)
  fin_cases a
  exact Fin.ext (by show h.val + 1 * 0 = h.val; omega)

end

/-! The pieces of a point. -/

section
variable (c : Dev nD) (i : grid0.Coords) (arg1 : Memref sig .tc .smem S8 .f32) (harg1 : arg1.IsWhole) (arg2 : Memref sig .tc .vmem S256x512 .bf16) (harg2 : arg2.IsWhole) (arg3 : Memref sig .tc .vmem S256x256 .bf16) (harg3 : arg3.IsWhole) (arg4 : Memref sig .tc .vmem S256x256 .bf16) (harg4 : arg4.IsWhole)
    (arg5 : Memref sig .tc .vmem S4x256x256 .f32) (harg5 : arg5.IsWhole) (arg6 : Memref sig .tc .vmem S256x512 .bf16) (harg6 : arg6.IsWhole) (arg7 : Memref sig .tc .vmem S128x256 .bf16) (harg7 : arg7.IsWhole) (arg8 : Memref sig .tc .vmem S128x256 .bf16) (harg8 : arg8.IsWhole)
  (x0 : Vec Ideal S8 .f32) (x1 : Vec Ideal S256x512 .bf16) (x2 x3 : Vec Ideal S256x256 .bf16) (x4 : Vec Ideal S4x256x256 .f32) (xs0 xs1 : Vec Ideal S128x256 .bf16)

theorem same91 (x : FVec Ideal S128x256 .bf16) (y : S128x256.Idx) : k0_pay91 x y = x y := by
  rw [eq_ix2 y]
  pointwise [k0_pay91]

theorem same1 (x : FVec Ideal S128x256 .bf16) (y : S128x256.Idx) : k0_pay1 x y = x y := by
  rw [eq_ix2 y]
  pointwise [k0_pay1]

theorem zero2 (y : S128x256.Idx) : k0_pay2 (F := Ideal) y = 0 := by
  rw [eq_ix2 y]
  pointwise [k0_pay2]

theorem zero3 (y : S128x256.Idx) : k0_pay3 (F := Ideal) y = 0 := by
  rw [eq_ix2 y]
  pointwise [k0_pay3]

theorem outB_first (hc : ¬cond0_0 i) (r : Fin 128) (p : Fin 4) (a : Fin 2) (d : Fin 64) :
    out0_B_5 (F := Ideal) c i arg1 harg1 arg2 harg2 arg3 harg3 arg4 harg4 arg5 harg5 arg6 harg6 arg7 harg7 arg8 harg8 hc x0 x1 x2 x3 x4 xs0 xs1 (ix2 (side 0 r) (qCol p a d))
      = half (2 * (i 0).val) (fun r l => x1 (ix2 (side 0 r) l)) (fun r l => xs0 (ix2 r l)) (fun r l => x2 (ix2 (side 0 r) l)) (fun r l => xs1 (ix2 r l)) (fun r l => x3 (ix2 (side 0 r) l)) x4 x0 r p a d := by
  refine Eq.trans ?_ (first_apply i (loadQ arg2 harg2 x1 0) (loadP arg7 harg7 xs0) (loadK arg3 harg3 x2 0) (loadP arg8 harg8 xs1) (loadK arg4 harg4 x3 0) (loadB arg5 harg5 x4) (fun p => loadS arg1 harg1 x0 ⟨p.val * 2, by omega⟩) (fun p => loadS arg1 harg1 x0 ⟨p.val * 2 + 1, by omega⟩) _ _ _ _ _ x4 x0
    (loadQ_apply arg2 harg2 x1 0) (loadP_apply arg7 harg7 xs0) (loadK_apply arg3 harg3 x2 0) (loadP_apply arg8 harg8 xs1) (loadK_apply arg4 harg4 x3 0) (loadB_apply arg5 harg5 x4) (fun p => loadS_apply arg1 harg1 x0 _) (fun p => loadS_apply arg1 harg1 x0 _) r p a d)
  unfold out0_B_5 kernelRun0_B
  dsimp only
  rw [View.read_writes_cons_miss_of_axis _ _ _ _ _ (0 : Fin 2) 128 128 rfl rfl rfl (Or.inl (by show 0 * 128 + r.val < 128; omega))]
  rw [View.read_writes_cons_hit_of_coords _ _ _ _ _ (ix2 r (qCol p a d)) _ (fun a' => by
    fin_cases a'
    · show 0 * 128 + r.val = 0 + 1 * r.val; omega
    · show (qCol p a d).val = 0 + 1 * (qCol p a d).val; omega)]
  rfl

theorem outB_second (hc : ¬cond0_0 i) (n : ℕ) (r : Fin 128) (p : Fin 4) (a : Fin 2) (d : Fin 64) :
    out0_B_5 (F := Ideal) c i arg1 harg1 arg2 harg2 arg3 harg3 arg4 harg4 arg5 harg5 arg6 harg6 arg7 harg7 arg8 harg8 hc x0 x1 x2 x3 x4 xs0 xs1 (ix2 (side 1 r) (qCol p a d))
      = half (2 * n + 1) (fun r l => x1 (ix2 (side 1 r) l)) (fun r l => x2 (ix2 (side 0 r) l)) (fun r l => x2 (ix2 (side 1 r) l)) (fun r l => x3 (ix2 (side 0 r) l)) (fun r l => x3 (ix2 (side 1 r) l)) x4 x0 r p a d := by
  refine Eq.trans ?_ (second_apply (loadQ arg2 harg2 x1 1) (loadK arg3 harg3 x2 0) (loadK arg3 harg3 x2 1) (loadK arg4 harg4 x3 0) (loadK arg4 harg4 x3 1) (loadB arg5 harg5 x4) (fun p => loadS arg1 harg1 x0 ⟨p.val * 2, by omega⟩) (fun p => loadS arg1 harg1 x0 ⟨p.val * 2 + 1, by omega⟩) _ _ _ _ _ x4 x0
    (loadQ_apply arg2 harg2 x1 1) (loadK_apply arg3 harg3 x2 0) (loadK_apply arg3 harg3 x2 1) (loadK_apply arg4 harg4 x3 0) (loadK_apply arg4 harg4 x3 1) (loadB_apply arg5 harg5 x4) (fun p => loadS_apply arg1 harg1 x0 _) (fun p => loadS_apply arg1 harg1 x0 _) n r p a d)
  unfold out0_B_5 kernelRun0_B
  dsimp only
  rw [View.read_writes_cons_hit_of_coords _ _ _ _ _ (ix2 r (qCol p a d)) _ (fun a' => by
    fin_cases a'
    · show 1 * 128 + r.val = 128 + 1 * r.val; omega
    · show (qCol p a d).val = 0 + 1 * (qCol p a d).val; omega)]
  rfl

theorem keptB_0 (hc : ¬cond0_0 i) (r : Fin 128) (l : Fin 256) :
    sout0_B_0 (F := Ideal) c i arg1 harg1 arg2 harg2 arg3 harg3 arg4 harg4 arg5 harg5 arg6 harg6 arg7 harg7 arg8 harg8 hc x0 x1 x2 x3 x4 xs0 xs1 (ix2 r l) = x2 (ix2 (side 1 r) l) := by
  unfold sout0_B_0 kernelRun0_B
  dsimp only
  rw [View.read_writes_cons_hit_of_coords _ _ _ _ _ (ix2 r l) _ (fun a' => by
    fin_cases a'
    · show r.val = 0 + 1 * r.val; omega
    · show l.val = 0 + 1 * l.val; omega)]
  refine Eq.trans (same91 _ _) ?_
  show View.readAt (Elt Ideal) arg3.view (Rect.unit (s := S256x256) ![128, 0] S128x256.size inb_S256x256_S128x256_128_0).toLoadRect (harg3.unread x2) (ix2 r l) = _
  rw [View.readAt_apply, harg3.read_unread]
  refine congrArg x2 (funext fun a => ?_)
  fin_cases a
  · exact Fin.ext (by show 128 + 1 * r.val = 1 * 128 + r.val; omega)
  · exact Fin.ext (by show 0 + 1 * l.val = l.val; omega)

theorem keptB_1 (hc : ¬cond0_0 i) (r : Fin 128) (l : Fin 256) :
    sout0_B_1 (F := Ideal) c i arg1 harg1 arg2 harg2 arg3 harg3 arg4 harg4 arg5 harg5 arg6 harg6 arg7 harg7 arg8 harg8 hc x0 x1 x2 x3 x4 xs0 xs1 (ix2 r l) = x3 (ix2 (side 1 r) l) := by
  unfold sout0_B_1 kernelRun0_B
  dsimp only
  rw [View.read_writes_cons_hit_of_coords _ _ _ _ _ (ix2 r l) _ (fun a' => by
    fin_cases a'
    · show r.val = 0 + 1 * r.val; omega
    · show l.val = 0 + 1 * l.val; omega)]
  refine Eq.trans (same1 _ _) ?_
  show View.readAt (Elt Ideal) arg4.view (Rect.unit (s := S256x256) ![128, 0] S128x256.size inb_S256x256_S128x256_128_0).toLoadRect (harg4.unread x3) (ix2 r l) = _
  rw [View.readAt_apply, harg4.read_unread]
  refine congrArg x3 (funext fun a => ?_)
  fin_cases a
  · exact Fin.ext (by show 128 + 1 * r.val = 1 * 128 + r.val; omega)
  · exact Fin.ext (by show 0 + 1 * l.val = l.val; omega)

theorem outA_first (hc : cond0_0 i) (r : Fin 128) (p : Fin 4) (a : Fin 2) (d : Fin 64) :
    out0_A_5 (F := Ideal) c i arg1 harg1 arg2 harg2 arg3 harg3 arg4 harg4 arg5 harg5 arg6 harg6 arg7 harg7 arg8 harg8 hc x0 x1 x2 x3 x4 (ix2 (side 0 r) (qCol p a d))
      = half (2 * (i 0).val) (fun r l => x1 (ix2 (side 0 r) l)) (fun _ _ => 0) (fun r l => x2 (ix2 (side 0 r) l)) (fun _ _ => 0) (fun r l => x3 (ix2 (side 0 r) l)) x4 x0 r p a d := by
  refine Eq.trans ?_ (first_apply i (loadQ arg2 harg2 x1 0) (loadZ arg7 (k0_pay2 (F := Ideal))) (loadK arg3 harg3 x2 0) (loadZ arg8 (k0_pay3 (F := Ideal))) (loadK arg4 harg4 x3 0) (loadB arg5 harg5 x4) (fun p => loadS arg1 harg1 x0 ⟨p.val * 2, by omega⟩) (fun p => loadS arg1 harg1 x0 ⟨p.val * 2 + 1, by omega⟩) _ _ _ _ _ x4 x0
    (loadQ_apply arg2 harg2 x1 0) (loadZ_apply arg7 _ zero2) (loadK_apply arg3 harg3 x2 0) (loadZ_apply arg8 _ zero3) (loadK_apply arg4 harg4 x3 0) (loadB_apply arg5 harg5 x4) (fun p => loadS_apply arg1 harg1 x0 _) (fun p => loadS_apply arg1 harg1 x0 _) r p a d)
  unfold out0_A_5 kernelRun0_A
  dsimp only
  rw [View.read_writes_cons_miss_of_axis _ _ _ _ _ (0 : Fin 2) 128 128 rfl rfl rfl (Or.inl (by show 0 * 128 + r.val < 128; omega))]
  rw [View.read_writes_cons_hit_of_coords _ _ _ _ _ (ix2 r (qCol p a d)) _ (fun a' => by
    fin_cases a'
    · show 0 * 128 + r.val = 0 + 1 * r.val; omega
    · show (qCol p a d).val = 0 + 1 * (qCol p a d).val; omega)]
  rfl

theorem outA_second (hc : cond0_0 i) (n : ℕ) (r : Fin 128) (p : Fin 4) (a : Fin 2) (d : Fin 64) :
    out0_A_5 (F := Ideal) c i arg1 harg1 arg2 harg2 arg3 harg3 arg4 harg4 arg5 harg5 arg6 harg6 arg7 harg7 arg8 harg8 hc x0 x1 x2 x3 x4 (ix2 (side 1 r) (qCol p a d))
      = half (2 * n + 1) (fun r l => x1 (ix2 (side 1 r) l)) (fun r l => x2 (ix2 (side 0 r) l)) (fun r l => x2 (ix2 (side 1 r) l)) (fun r l => x3 (ix2 (side 0 r) l)) (fun r l => x3 (ix2 (side 1 r) l)) x4 x0 r p a d := by
  refine Eq.trans ?_ (second_apply (loadQ arg2 harg2 x1 1) (loadK arg3 harg3 x2 0) (loadK arg3 harg3 x2 1) (loadK arg4 harg4 x3 0) (loadK arg4 harg4 x3 1) (loadB arg5 harg5 x4) (fun p => loadS arg1 harg1 x0 ⟨p.val * 2, by omega⟩) (fun p => loadS arg1 harg1 x0 ⟨p.val * 2 + 1, by omega⟩) _ _ _ _ _ x4 x0
    (loadQ_apply arg2 harg2 x1 1) (loadK_apply arg3 harg3 x2 0) (loadK_apply arg3 harg3 x2 1) (loadK_apply arg4 harg4 x3 0) (loadK_apply arg4 harg4 x3 1) (loadB_apply arg5 harg5 x4) (fun p => loadS_apply arg1 harg1 x0 _) (fun p => loadS_apply arg1 harg1 x0 _) n r p a d)
  unfold out0_A_5 kernelRun0_A
  dsimp only
  rw [View.read_writes_cons_hit_of_coords _ _ _ _ _ (ix2 r (qCol p a d)) _ (fun a' => by
    fin_cases a'
    · show 1 * 128 + r.val = 128 + 1 * r.val; omega
    · show (qCol p a d).val = 0 + 1 * (qCol p a d).val; omega)]
  rfl

theorem keptA_0 (hc : cond0_0 i) (r : Fin 128) (l : Fin 256) :
    sout0_A_0 (F := Ideal) c i arg1 harg1 arg2 harg2 arg3 harg3 arg4 harg4 arg5 harg5 arg6 harg6 arg7 harg7 arg8 harg8 hc x0 x1 x2 x3 x4 (ix2 r l) = x2 (ix2 (side 1 r) l) := by
  unfold sout0_A_0 kernelRun0_A
  dsimp only
  rw [View.read_writes_cons_hit_of_coords _ _ _ _ _ (ix2 r l) _ (fun a' => by
    fin_cases a'
    · show r.val = 0 + 1 * r.val; omega
    · show l.val = 0 + 1 * l.val; omega)]
  refine Eq.trans (same91 _ _) ?_
  show View.readAt (Elt Ideal) arg3.view (Rect.unit (s := S256x256) ![128, 0] S128x256.size inb_S256x256_S128x256_128_0).toLoadRect (harg3.unread x2) (ix2 r l) = _
  rw [View.readAt_apply, harg3.read_unread]
  refine congrArg x2 (funext fun a => ?_)
  fin_cases a
  · exact Fin.ext (by show 128 + 1 * r.val = 1 * 128 + r.val; omega)
  · exact Fin.ext (by show 0 + 1 * l.val = l.val; omega)

theorem keptA_1 (hc : cond0_0 i) (r : Fin 128) (l : Fin 256) :
    sout0_A_1 (F := Ideal) c i arg1 harg1 arg2 harg2 arg3 harg3 arg4 harg4 arg5 harg5 arg6 harg6 arg7 harg7 arg8 harg8 hc x0 x1 x2 x3 x4 (ix2 r l) = x3 (ix2 (side 1 r) l) := by
  unfold sout0_A_1 kernelRun0_A
  dsimp only
  rw [View.read_writes_cons_hit_of_coords _ _ _ _ _ (ix2 r l) _ (fun a' => by
    fin_cases a'
    · show r.val = 0 + 1 * r.val; omega
    · show l.val = 0 + 1 * l.val; omega)]
  refine Eq.trans (same1 _ _) ?_
  show View.readAt (Elt Ideal) arg4.view (Rect.unit (s := S256x256) ![128, 0] S128x256.size inb_S256x256_S128x256_128_0).toLoadRect (harg4.unread x3) (ix2 r l) = _
  rw [View.readAt_apply, harg4.read_unread]
  refine congrArg x3 (funext fun a => ?_)
  fin_cases a
  · exact Fin.ext (by show 128 + 1 * r.val = 1 * 128 + r.val; omega)
  · exact Fin.ext (by show 0 + 1 * l.val = l.val; omega)

end

end Cert.Kernel3Ideal.Attend
-- ==== Proof.Kernel3Ideal.Blocks.lean ====
/-
  The attention's operands at a point, over the extended reals: point `t` has the 256 tokens from row `256 t` on, which
  are the blocks `2 t` and `2 t + 1`, and finds the block `2 t - 1` kept by the point before.
-/
module

public import proofs.«01_k».proof.Proof.Gen.Kernel3Ideal.Value
public import proofs.«01_k».proof.Proof.Kernel3Ideal.Tile
public import Idealize.ShloMosaic.Lib.Pipeline.Covers
public import Idealize.ShloMosaic.Lib.Pipeline.ValueKit

@[expose] public section

set_option maxRecDepth 16384

noncomputable section

namespace Cert.Kernel3Ideal.Attend

open Idealize.ShloMosaic Idealize.ShloMosaic.TcCoe Cert.Kernel3Ideal Cert.Kernel3Ideal.Gen Cert.Attend
open Idealize.SL.Sem
open Idealize.ShloMosaic.Pipeline (Dat Cfg Window)

variable (m : (ℓ : Loc nD τ sig) → Buf (Elt Ideal) ℓ) (c : Dev nD)

/-- The queries, keys, values, bias and sinks that the call starts with. -/
abbrev qs : S16384x512.Idx → EReal := m ((c : Thread nD τ).loc main_arg0)
abbrev ks : S16384x256.Idx → EReal := m ((c : Thread nD τ).loc main_arg1)
abbrev vs : S16384x256.Idx → EReal := m ((c : Thread nD τ).loc main_arg2)
abbrev bias : S4x256x256.Idx → EReal := m ((c : Thread nD τ).loc main_arg3)
abbrev sink : S8.Idx → EReal := m ((c : Thread nD τ).loc main_arg4)

theorem index_0 : ∀ t : Fin cfg0.N, win0_0.index t = ![0] := (by decide +kernel : ∀ t : Fin grid0.N, win0_0.index t = ![0])
theorem index_1 : ∀ t : Fin cfg0.N, win0_1.index t = ![t.val, 0] := (by decide +kernel : ∀ t : Fin grid0.N, win0_1.index t = ![t.val, 0])
theorem index_2 : ∀ t : Fin cfg0.N, win0_2.index t = ![t.val, 0] := (by decide +kernel : ∀ t : Fin grid0.N, win0_2.index t = ![t.val, 0])
theorem index_3 : ∀ t : Fin cfg0.N, win0_3.index t = ![t.val, 0] := (by decide +kernel : ∀ t : Fin grid0.N, win0_3.index t = ![t.val, 0])
theorem index_4 : ∀ t : Fin cfg0.N, win0_4.index t = ![0, 0, 0] := (by decide +kernel : ∀ t : Fin grid0.N, win0_4.index t = ![0, 0, 0])
theorem index_5 : ∀ t : Fin cfg0.N, win0_5.index t = ![t.val, 0] := (by decide +kernel : ∀ t : Fin grid0.N, win0_5.index t = ![t.val, 0])

theorem coord : ∀ t : Fin cfg0.N, (grid0.coords t 0).val = t.val := (by decide +kernel : ∀ t : Fin grid0.N, (grid0.coords t 0).val = t.val)

/-- Block `o` of point `t`. -/
def blockOf (t : Fin cfg0.N) (o : Fin 2) : Fin 128 := ⟨2 * t.val + o.val, by have : t.val < 64 := t.isLt; omega⟩

/-- Row `r` of point `t`'s tile. -/
def rowOf (t : Fin cfg0.N) (r : Fin 256) : Fin 16384 := ⟨t.val * 256 + r.val, by have : t.val < 64 := t.isLt; omega⟩

theorem rowOf_side (t : Fin cfg0.N) (o : Fin 2) (r : Fin 128) : rowOf t (side o r) = token (blockOf t o) r :=
  Fin.ext (by show t.val * 256 + (o.val * 128 + r.val) = (2 * t.val + o.val) * 128 + r.val; omega)

theorem iblk_1 (t : Fin cfg0.N) (r : Fin 256) (k : Fin 512) : (iblk m c 1 t : S256x512.Idx → EReal) (ix2 r k) = qs m c (ix2 (rowOf t r) k) := by
  show V m c main_arg0 _ = _
  rw [V_main_arg0]
  unfold rowOf
  blk_ext [index_1 t]

theorem iblk_2 (t : Fin cfg0.N) (r k : Fin 256) : (iblk m c 2 t : S256x256.Idx → EReal) (ix2 r k) = ks m c (ix2 (rowOf t r) k) := by
  show V m c main_arg1 _ = _
  rw [V_main_arg1]
  unfold rowOf
  blk_ext [index_2 t]

theorem iblk_3 (t : Fin cfg0.N) (r k : Fin 256) : (iblk m c 3 t : S256x256.Idx → EReal) (ix2 r k) = vs m c (ix2 (rowOf t r) k) := by
  show V m c main_arg2 _ = _
  rw [V_main_arg2]
  unfold rowOf
  blk_ext [index_3 t]

theorem iblk_4 (t : Fin cfg0.N) : (iblk m c 4 t : S4x256x256.Idx → EReal) = bias m c := by
  funext y
  show V m c main_arg3 _ = _
  rw [V_main_arg3]
  blk_ext [index_4 t]

theorem iblk_0 (t : Fin cfg0.N) : (iblk m c 0 t : S8.Idx → EReal) = sink m c := by
  funext y
  show V m c main_arg4 _ = _
  rw [V_main_arg4]
  blk_ext [index_0 t]

/-! What a point keeps for the next. -/

theorem kept_0 (t : Fin cfg0.N) (r : Fin 128) (l : Fin 256) :
    ((outsAt0 m c t.val t.isLt).2.1 : S128x256.Idx → EReal) (ix2 r l) = ks m c (ix2 (token (blockOf t 1) r) l) := by
  rw [← rowOf_side, ← iblk_2]
  by_cases h0 : t.val % 64 = 0
  · rw [outsAt0_A m c t h0]
    dsimp only
    rw [keptA_0]
  · rw [outsAt0_B m c t h0]
    dsimp only
    rw [keptB_0]

theorem kept_1 (t : Fin cfg0.N) (r : Fin 128) (l : Fin 256) :
    ((outsAt0 m c t.val t.isLt).2.2 : S128x256.Idx → EReal) (ix2 r l) = vs m c (ix2 (token (blockOf t 1) r) l) := by
  rw [← rowOf_side, ← iblk_3]
  by_cases h0 : t.val % 64 = 0
  · rw [outsAt0_A m c t h0]
    dsimp only
    rw [keptA_1]
  · rw [outsAt0_B m c t h0]
    dsimp only
    rw [keptB_1]

end Cert.Kernel3Ideal.Attend
-- ==== Proof.Kernel3Ideal.Result.lean ====
/-
  The array that the attention leaves over the extended reals: every token's heads. A point writes its tile of tokens, and
  the tiles cover the array.
-/
module

public import proofs.«01_k».proof.Proof.Kernel3Ideal.Blocks

@[expose] public section

set_option maxRecDepth 16384

noncomputable section

namespace Cert.Kernel3Ideal.Attend

open Idealize.ShloMosaic Idealize.ShloMosaic.TcCoe Cert.Kernel3Ideal Cert.Kernel3Ideal.Gen Cert.Attend
open Idealize.SL.Sem
open Idealize.ShloMosaic.Pipeline (Dat Cfg Window)

variable (m : (ℓ : Loc nD τ sig) → Buf (Elt Ideal) ℓ) (ρ : Dev nD → PrngReg) (c : Dev nD)

/-- The result over the arguments. -/
abbrev resultOf : S16384x512.Idx → EReal := result (qs m c) (ks m c) (vs m c) (bias m c) (sink m c)

/-- The result at a block's row and a head's column. -/
theorem result_apply (q : FVec Ideal S16384x512 .bf16) (k v : FVec Ideal S16384x256 .bf16) (b : FVec Ideal S4x256x256 .f32) (s : FVec Ideal S8 .f32)
    (n r : Fin 128) (p : Fin 4) (a : Fin 2) (d : Fin 64) :
    result q k v b s (ix2 (token n r) (qCol p a d)) = head q k v b s n ⟨p.val * 2 + a.val, by omega⟩ r d := by
  show head q k v b s ⟨(n.val * 128 + r.val) / 128, _⟩ ⟨(p.val * 128 + a.val * 64 + d.val) / 64, _⟩ ⟨(n.val * 128 + r.val) % 128, _⟩ ⟨(p.val * 128 + a.val * 64 + d.val) % 64, _⟩ = _
  congr 1
  · exact Fin.ext (by show (n.val * 128 + r.val) / 128 = n.val; omega)
  · exact Fin.ext (by show (p.val * 128 + a.val * 64 + d.val) / 64 = p.val * 2 + a.val; omega)
  · exact Fin.ext (by show (n.val * 128 + r.val) % 128 = r.val; omega)
  · exact Fin.ext (by show (p.val * 128 + a.val * 64 + d.val) % 64 = d.val; omega)

/-- The kernel's row of a head is the head's: what a row of the two blocks holds is the band's row. -/
theorem half_eq (q : FVec Ideal S16384x512 .bf16) (k v : FVec Ideal S16384x256 .bf16) (b : FVec Ideal S4x256x256 .f32) (s : FVec Ideal S8 .f32)
    (n r : Fin 128) (p : Fin 4) (a : Fin 2) (d : Fin 64) (q' : Fin 128 → Fin 512 → EReal) (kp kc vp vc : Fin 128 → Fin 256 → EReal)
    (hq : ∀ r l, q' r l = q (ix2 (token n r) l))
    (hkp : ∀ r l, kp r l = if 1 ≤ n.val then k (ix2 (token ⟨n.val - 1, by omega⟩ r) l) else 0) (hkc : ∀ r l, kc r l = k (ix2 (token n r) l))
    (hvp : ∀ r l, vp r l = if 1 ≤ n.val then v (ix2 (token ⟨n.val - 1, by omega⟩ r) l) else 0) (hvc : ∀ r l, vc r l = v (ix2 (token n r) l)) :
    half n.val q' kp kc vp vc b s r p a d = result q k v b s (ix2 (token n r) (qCol p a d)) := by
  have hp := p.isLt
  have ha := a.isLt
  have e1 : ∀ h d, copyCol (⟨p.val * 2 + a.val, h⟩ : Fin 8) d = kCol p a d := fun h d =>
    Fin.ext (by show ((p.val * 2 + a.val) / 4 * 2 + (p.val * 2 + a.val) % 2) * 64 + d.val = p.val / 2 * 128 + a.val * 64 + d.val; omega)
  have e2 : ∀ h d, colOf (⟨p.val * 2 + a.val, h⟩ : Fin 8) d = qCol p a d := fun h d =>
    Fin.ext (by show (p.val * 2 + a.val) * 64 + d.val = p.val * 128 + a.val * 64 + d.val; omega)
  have e3 : ∀ h, (⟨(p.val * 2 + a.val) / 2, h⟩ : Fin 4) = p := fun h => Fin.ext (by show (p.val * 2 + a.val) / 2 = p.val; omega)
  have e4 : ∀ h, (⟨(p.val * 2 + a.val) % 2 * 128 + r.val, h⟩ : Fin 256) = side a r := fun h =>
    Fin.ext (by show (p.val * 2 + a.val) % 2 * 128 + r.val = a.val * 128 + r.val; omega)
  rw [result_apply]
  unfold half head scores rows band
  simp only [hq, hkp, hkc, hvp, hvc, e1, e2, e3, e4]

/-- A point's tile of the result. -/
theorem tile_apply (t : Fin cfg0.N) (o : Fin 2) (r : Fin 128) (p : Fin 4) (a : Fin 2) (d : Fin 64) :
    ((outsAt0 m c t.val t.isLt).1 : S256x512.Idx → EReal) (ix2 (side o r) (qCol p a d)) = resultOf m c (ix2 (token (blockOf t o) r) (qCol p a d)) := by
  have ht : t.val < 64 := t.isLt
  have q1 : ∀ o r l, (iblk m c 1 t : S256x512.Idx → EReal) (ix2 (side o r) l) = qs m c (ix2 (token (blockOf t o) r) l) := fun o r l => by rw [iblk_1, rowOf_side]
  have k1 : ∀ o r l, (iblk m c 2 t : S256x256.Idx → EReal) (ix2 (side o r) l) = ks m c (ix2 (token (blockOf t o) r) l) := fun o r l => by rw [iblk_2, rowOf_side]
  have v1 : ∀ o r l, (iblk m c 3 t : S256x256.Idx → EReal) (ix2 (side o r) l) = vs m c (ix2 (token (blockOf t o) r) l) := fun o r l => by rw [iblk_3, rowOf_side]
  have before : ∀ (x : S16384x256.Idx → EReal) (r : Fin 128) (l : Fin 256), x (ix2 (token (blockOf t 0) r) l)
      = if 1 ≤ (blockOf t 1).val then x (ix2 (token ⟨(blockOf t 1).val - 1, by omega⟩ r) l) else 0 := fun x r l => by
    rw [if_pos (by show 1 ≤ 2 * t.val + 1; omega)]
    exact congrArg (fun n => x (ix2 (token n r) l)) (Fin.ext (by show 2 * t.val + 0 = 2 * t.val + 1 - 1; omega))
  rcases (by omega : o.val = 0 ∨ o.val = 1) with ho | ho
  · obtain rfl : o = 0 := Fin.ext ho
    by_cases h0 : t.val % 64 = 0
    · have hn : ¬ 1 ≤ (blockOf t 0).val := by show ¬ 1 ≤ 2 * t.val + 0; omega
      rw [outsAt0_A m c t h0]
      dsimp only
      rw [outA_first, coord, iblk_4, iblk_0]
      exact half_eq (qs m c) (ks m c) (vs m c) (bias m c) (sink m c) (blockOf t 0) r p a d _ _ _ _ _ (q1 0)
        (fun r l => (if_neg hn).symm) (k1 0) (fun r l => (if_neg hn).symm) (v1 0)
    · have hn : 1 ≤ (blockOf t 0).val := by show 1 ≤ 2 * t.val + 0; omega
      have hp : ∀ h, (blockOf ⟨t.val - 1, h⟩ 1) = ⟨(blockOf t 0).val - 1, by omega⟩ := fun h => Fin.ext (by show 2 * (t.val - 1) + 1 = 2 * t.val + 0 - 1; omega)
      rw [outsAt0_B m c t h0]
      dsimp only
      rw [outB_first, coord, iblk_4, iblk_0]
      exact half_eq (qs m c) (ks m c) (vs m c) (bias m c) (sink m c) (blockOf t 0) r p a d _ _ _ _ _ (q1 0)
        (fun r l => by rw [if_pos hn, ← hp (by omega)]; exact kept_0 m c ⟨t.val - 1, _⟩ r l) (k1 0)
        (fun r l => by rw [if_pos hn, ← hp (by omega)]; exact kept_1 m c ⟨t.val - 1, _⟩ r l) (v1 0)
  · obtain rfl : o = 1 := Fin.ext ho
    by_cases h0 : t.val % 64 = 0
    · rw [outsAt0_A m c t h0]
      dsimp only
      rw [outA_second (n := t.val), iblk_4, iblk_0]
      exact half_eq (qs m c) (ks m c) (vs m c) (bias m c) (sink m c) (blockOf t 1) r p a d _ _ _ _ _ (q1 1)
        (fun r l => (k1 0 r l).trans (before _ r l)) (k1 1) (fun r l => (v1 0 r l).trans (before _ r l)) (v1 1)
    · rw [outsAt0_B m c t h0]
      dsimp only
      rw [outB_second (n := t.val), iblk_4, iblk_0]
      exact half_eq (qs m c) (ks m c) (vs m c) (bias m c) (sink m c) (blockOf t 1) r p a d _ _ _ _ _ (q1 1)
        (fun r l => (k1 0 r l).trans (before _ r l)) (k1 1) (fun r l => (v1 0 r l).trans (before _ r l)) (v1 1)

theorem covers_5 : ((cfg0).win 5).Covers :=
  Window.covers_of_indexMap_surj _ rfl (fun a => by revert a; show ∀ a : Fin 2, 0 < (![256, 512] : Fin 2 → ℕ) a; decide) fun β => by
    have hb : (β (0 : Fin 2)).val < 64 := Nat.lt_of_lt_of_eq (β (0 : Fin 2)).isLt (by show (16384 + (256 - 1)) / 256 = 64; rfl)
    have h1 : (β (1 : Fin 2)).val < 1 := Nat.lt_of_lt_of_eq (β (1 : Fin 2)).isLt (by show (512 + (512 - 1)) / 512 = 1; rfl)
    let i : grid0.Coords := fun a => match a with | ⟨0, _⟩ => (⟨(β (0 : Fin 2)).val, hb⟩ : Fin 64)
    refine ⟨i, fun a => ?_⟩
    have e : (cfg0.win 5).indexMap i = ![(β (0 : Fin 2)).val, 0] := by
      show ![(BitVec.ofNat 32 (β (0 : Fin 2)).val).toNat, 0] = _
      rw [BitVec.toNat_ofNat, Nat.mod_eq_of_lt (by omega)]
    rw [e]
    have ha : a = (0 : Fin 2) ∨ a = (1 : Fin 2) := by
      revert a; show ∀ a : Fin 2, a = 0 ∨ a = 1; decide
    rcases ha with rfl | rfl
    · rfl
    · exact (Nat.lt_one_iff.1 h1).symm

/-- The output array after the run. -/
theorem arrAt_5 : (dats m 0 c).arrAt 5 cfg0.N = resultOf m c := by
  refine (dats m 0 c).arrAt_eq_of_covers 5 _ covers_5 fun t hf y => ?_
  have e5 := index_5 t
  have ht : t.val < 64 := t.isLt
  have hy0 : (y (0 : Fin 2)).val < 256 := (y (0 : Fin 2)).isLt
  have hy1 : (y (1 : Fin 2)).val < 512 := (y (1 : Fin 2)).isLt
  have hemb : (((cfg0.win 5).blk t).view.emb y : S16384x512.Idx) = ix2 (rowOf t ⟨(y (0 : Fin 2)).val, hy0⟩) ⟨(y (1 : Fin 2)).val, hy1⟩ := by
    unfold rowOf
    blk_ext [e5]
  rw [hemb]
  blk_simp
  rw [after0_5]
  have hy : (y : S256x512.Idx) = ix2 ⟨(y (0 : Fin 2)).val, hy0⟩ ⟨(y (1 : Fin 2)).val, hy1⟩ := by
    funext a; fin_cases a <;> rfl
  have er : (⟨(y (0 : Fin 2)).val, hy0⟩ : Fin 256) = side ⟨(y (0 : Fin 2)).val / 128, by omega⟩ ⟨(y (0 : Fin 2)).val % 128, by omega⟩ :=
    Fin.ext (by show (y (0 : Fin 2)).val = (y (0 : Fin 2)).val / 128 * 128 + (y (0 : Fin 2)).val % 128; omega)
  have ec : (⟨(y (1 : Fin 2)).val, hy1⟩ : Fin 512) = qCol ⟨(y (1 : Fin 2)).val / 128, by omega⟩ ⟨(y (1 : Fin 2)).val / 64 % 2, by omega⟩ ⟨(y (1 : Fin 2)).val % 64, by omega⟩ :=
    Fin.ext (by show (y (1 : Fin 2)).val = (y (1 : Fin 2)).val / 128 * 128 + (y (1 : Fin 2)).val / 64 % 2 * 64 + (y (1 : Fin 2)).val % 64; omega)
  refine (congrArg _ hy).trans ?_
  rw [er, ec, rowOf_side]
  exact tile_apply m c t _ _ _ _ _

/-- The run: it ends with the result in its array. -/
theorem run_result : θ_run (defs (F := Ideal)) (onTc (τ := τ) (main (F := Ideal))) ⟨m, fun _ => 0, ρ⟩ (fun r => ∀ c : Dev nD,
      r.2.mem ((c.tc : Thread nD τ).loc main_v0) = resultOf m c) :=
  (θ_run defs _ _).mono (fun _ hr c => (hr c).1.trans (arrAt_5 m c)) (Value.run_blocks m ρ)

end Cert.Kernel3Ideal.Attend
-- ==== Proof.Reference3.lean ====
/-
  What the third call's reference computes over the extended reals: the attention, token by token.
-/
module

public import proofs.«01_k».proof.Proof.Gen.Reference3Ideal
public import proofs.«01_k».proof.Proof.Attend
public import Idealize.ShloMosaic.Lib.Pointwise
public import Idealize.ShloMosaic.PureOps.Ideal

@[expose] public section

noncomputable section

namespace Cert.Reference3Ideal.Attend

open Idealize.ShloMosaic Cert.Reference3Ideal Cert.Reference3Ideal.Gen Cert.Attend

/-- The queries by block and head. -/
def heads (q : FVec Ideal S16384x512 .bf16) : FVec Ideal S128x128x8x64 .f32 :=
  shapeCast _ (extf .f32 q bitsLt_bf16_f32) shapeCasts_S16384x512_S128x128x8x64

theorem heads_apply (q : FVec Ideal S16384x512 .bf16) (n r : Fin 128) (h : Fin 8) (d : Fin 64) :
    heads q (ix4 n r h d) = q (ix2 (token n r) (colOf h d)) := by
  pointwise [heads]
  rfl

/-- Each head's copy of the keys or values, by block and head. -/
def copies (k : FVec Ideal S16384x256 .f32) : FVec Ideal S128x128x8x64 .f32 :=
  shapeCast _ (concatenate S16384x512 1 [⟨S16384x64, extractStridedSlice S16384x64 ![0, 0] k slices_S16384x256_S16384x64_0_0⟩,
    ⟨S16384x64, extractStridedSlice S16384x64 ![0, 64] k slices_S16384x256_S16384x64_0_64⟩,
    ⟨S16384x64, extractStridedSlice S16384x64 ![0, 0] k slices_S16384x256_S16384x64_0_0⟩,
    ⟨S16384x64, extractStridedSlice S16384x64 ![0, 64] k slices_S16384x256_S16384x64_0_64⟩,
    ⟨S16384x64, extractStridedSlice S16384x64 ![0, 128] k slices_S16384x256_S16384x64_0_128⟩,
    ⟨S16384x64, extractStridedSlice S16384x64 ![0, 192] k slices_S16384x256_S16384x64_0_192⟩,
    ⟨S16384x64, extractStridedSlice S16384x64 ![0, 128] k slices_S16384x256_S16384x64_0_128⟩,
    ⟨S16384x64, extractStridedSlice S16384x64 ![0, 192] k slices_S16384x256_S16384x64_0_192⟩] concatenates_S16384x64_S16384x64_S16384x64_S16384x64_S16384x64_S16384x64_S16384x64_S16384x64_S16384x512_d1) shapeCasts_S16384x512_S128x128x8x64

theorem copies_apply (k : FVec Ideal S16384x256 .f32) (n r : Fin 128) (h : Fin 8) (d : Fin 64) :
    copies k (ix4 n r h d) = k (ix2 (token n r) (copyCol h d)) := by
  have hd := d.isLt
  have hh := h.isLt
  pointwise [copies]
  unfold copyCol copyOf token
  repeat' split
  all_goals
    refine congrArg (fun c => k (ix2 _ c)) (Fin.ext ?_)
    dsimp only
    omega

/-- The block before each block and the block. -/
def bands (k : FVec Ideal S128x128x8x64 .f32) : FVec Ideal S128x256x8x64 .f32 :=
  concatenate S128x256x8x64 1 [⟨S128x128x8x64, pad S128x128x8x64 ![1, 0, 0, 0] ![0, 0, 0, 0] ![0, 0, 0, 0]
    (extractStridedSlice S127x128x8x64 ![0, 0, 0, 0] k slices_S128x128x8x64_S127x128x8x64_0_0_0_0) (sitofp .f32 (constantI S_ 32 0#32)) pads_S127x128x8x64_S128x128x8x64_100_000_000_000 h_S_⟩,
    ⟨S128x128x8x64, k⟩] concatenates_S128x128x8x64_S128x128x8x64_S128x256x8x64_d1

theorem bands_apply (k : FVec Ideal S16384x256 .f32) (n : Fin 128) (j : Fin 256) (h : Fin 8) (d : Fin 64) :
    bands (copies k) (ix4 n j h d) = band (fun i => k (ix2 i (copyCol h d))) n j := by
  pointwise [bands]
  simp only [copies_apply, band]
  have hz : (FloatOps.sitofp FTy.f32 (0#32) : Ideal .f32) = 0 := by
    show (((0#32 : BitVec 32).toInt : ℝ) : EReal) = 0
    simp
  rw [hz]
  have hn := n.isLt
  split
  · next h1 =>
    by_cases h2 : 1 ≤ n.val
    · rw [dif_pos ⟨⟨h2, by omega⟩, h1⟩, if_pos h2]
    · rw [dif_neg (fun c => h2 c.1.1), if_neg h2]
  · rfl

/-- The scores before the start of a sequence is looked at. -/
def plain (q : FVec Ideal S128x128x8x64 .f32) (k : FVec Ideal S128x256x8x64 .f32) (b : FVec Ideal S4x256x256 .f32) : FVec Ideal S128x8x128x256 .f32 :=
  addf (mulf (Host.dotGeneral dot_S128x128x8x64_S128x256x8x64_S128x8x128x256_3_3_1_1_02_02 none q k) (broadcastInDim S128x8x128x256 ![] bcast_S_S128x8x128x256 (constant S_ .f32 0x3E000000#32)))
    (broadcastInDim S128x8x128x256 ![0, 1, 2, 3] bcast_S1x8x128x256_S128x8x128x256_0_1_2_3 (broadcastInDim S1x8x128x256 ![1, 2, 3] bcast_S8x128x256_S1x8x128x256_1_2_3 (shapeCast _ b shapeCasts_S4x256x256_S8x128x256)))

theorem plain_apply (q : FVec Ideal S128x128x8x64 .f32) (k : FVec Ideal S128x256x8x64 .f32) (b : FVec Ideal S4x256x256 .f32) (n : Fin 128) (h : Fin 8) (r : Fin 128) (j : Fin 256) :
    plain q k b (ix4 n h r j) = score (fun d => q (ix4 n r h d)) (fun d => k (ix4 n j h d)) (b (ix3 ⟨h.val / 2, by omega⟩ ⟨h.val % 2 * 128 + r.val, by omega⟩ j)) := by
  pointwise [plain]
  rfl

/-- The word 32, from which the program guards its division. -/
def modulus : IVec S_ 32 := select (cmpi .eq (id (constantI S_ 32 32#32)) (constantI S_ 32 0#32)) (constantI S_ 32 1#32) (id (constantI S_ 32 32#32))

/-- A block's place in its sequence, before the sign is looked at. -/
def rest : IVec S128x8x128x256 32 := Host.remsi (iotaInDim S128x8x128x256 32 0) (broadcastInDim S128x8x128x256 ![] bcast_S_S128x8x128x256 modulus)

/-- A block's place in its sequence. -/
def place : IVec S128x8x128x256 32 :=
  select (andi (cmpi .ne (cmpi .slt rest (broadcastInDim S128x8x128x256 ![] bcast_S_S128x8x128x256 (constantI S_ 32 0#32)))
      (broadcastInDim S128x8x128x256 ![] bcast_S_S128x8x128x256 (cmpi .slt modulus (constantI S_ 32 0#32))))
    (cmpi .ne rest (broadcastInDim S128x8x128x256 ![] bcast_S_S128x8x128x256 (constantI S_ 32 0#32))))
    (addi rest (broadcastInDim S128x8x128x256 ![] bcast_S_S128x8x128x256 modulus)) rest

/-- Whether a pair's key lies in the sequence. -/
def live : IVec S128x8x128x256 1 :=
  cmpi .sge (addi (subi (muli place (broadcastInDim S128x8x128x256 ![] bcast_S_S128x8x128x256 (constantI S_ 32 128#32)))
    (broadcastInDim S128x8x128x256 ![] bcast_S_S128x8x128x256 (constantI S_ 32 128#32))) (iotaInDim S128x8x128x256 32 3))
    (broadcastInDim S128x8x128x256 ![] bcast_S_S128x8x128x256 (constantI S_ 32 0#32))

theorem place_apply (n : Fin 128) (h : Fin 8) (r : Fin 128) (j : Fin 256) : place (ix4 n h r j) = BitVec.ofNat 32 (n.val % 32) := by
  pointwise [place, rest, modulus]
  revert n
  decide +kernel

theorem live_apply (n : Fin 128) (h : Fin 8) (r : Fin 128) (j : Fin 256) :
    live (ix4 n h r j) = if n.val % 32 = 0 ∧ j.val < 128 then 0#1 else 1#1 := by
  pointwise [live]
  rw [place_apply]
  have e : ∀ (a : Fin 32) (j : Fin 256), IntOp.cmpi .sge (IntOp.addi (IntOp.subi (IntOp.muli (BitVec.ofNat 32 a.val) 128#32) 128#32) (BitVec.ofNat 32 j.val)) 0#32
      = if a.val = 0 ∧ j.val < 128 then 0#1 else 1#1 := by decide +kernel
  exact e ⟨n.val % 32, by omega⟩ j

theorem ofBits_bot : constant (F := Ideal) S_ .f32 0xFF800000#32 ix0 = ⊥ := by
  show Ideal.ofBits .f32 0xFF800000#32 = ⊥
  simp [Ideal.ofBits, Ideal.ieee]

/-- The scores. -/
def logits (l : FVec Ideal S128x8x128x256 .f32) : FVec Ideal S128x8x128x256 .f32 :=
  select live l (broadcastInDim S128x8x128x256 ![] bcast_S_S128x8x128x256 (id (constant S_ .f32 0xFF800000#32)))

theorem logits_apply (l : FVec Ideal S128x8x128x256 .f32) (n : Fin 128) (h : Fin 8) (r : Fin 128) (j : Fin 256) :
    logits l (ix4 n h r j) = if n.val % 32 = 0 ∧ j.val < 128 then ⊥ else l (ix4 n h r j) := by
  pointwise [logits]
  rw [live_apply]
  split
  · exact (if_neg (by decide)).trans ofBits_bot
  · exact if_pos rfl

/-- The largest score of each row. -/
def rowMax (l : FVec Ideal S128x8x128x256 .f32) : FVec Ideal S128x8x128 .f32 :=
  Host.reduce FloatOps.maximumf l (constant S_ .f32 0xFF800000#32) reducesTo_S128x8x128x256_S128x8x128_d3 h_S_

theorem rowMax_apply (l : FVec Ideal S128x8x128x256 .f32) (n : Fin 128) (h : Fin 8) (r : Fin 128) :
    rowMax l (ix3 n h r) = (Finset.univ : Finset (Fin 256)).fold max (Ideal.ofBits .f32 0xFF800000#32) (fun x => l (ix4 n h r x)) := by
  pointwise [rowMax]

/-- The sum of each row. -/
def rowSum (l : FVec Ideal S128x8x128x256 .f32) : FVec Ideal S128x8x128 .f32 :=
  Host.reduceAdd l (constant S_ .f32 0x00000000#32) reducesTo_S128x8x128x256_S128x8x128_d3 h_S_

theorem rowSum_apply (l : FVec Ideal S128x8x128x256 .f32) (n : Fin 128) (h : Fin 8) (r : Fin 128) :
    rowSum l (ix3 n h r) = ∑ x : Fin 256, l (ix4 n h r x) := by
  pointwise [rowSum]

/-- A value for each row, as a column. -/
def column (l : FVec Ideal S128x8x128 .f32) : FVec Ideal S128x8x128x1 .f32 := broadcastInDim S128x8x128x1 ![0, 1, 2] bcast_S128x8x128_S128x8x128x1_0_1_2 l

theorem column_apply (l : FVec Ideal S128x8x128 .f32) (n : Fin 128) (h : Fin 8) (r : Fin 128) : column l (ix4 n h r 0) = l (ix3 n h r) := by
  pointwise [column]

/-- The sinks, as a column. -/
def sinkCol (s : FVec Ideal S8 .f32) : FVec Ideal S128x8x128x1 .f32 :=
  broadcastInDim S128x8x128x1 ![0, 1, 2, 3] bcast_S1x8x1x1_S128x8x128x1_0_1_2_3 (broadcastInDim S1x8x1x1 ![1, 2, 3] bcast_S8x1x1_S1x8x1x1_1_2_3 (shapeCast _ s shapeCasts_S8_S8x1x1))

theorem sinkCol_apply (s : FVec Ideal S8 .f32) (n : Fin 128) (h : Fin 8) (r : Fin 128) : sinkCol s (ix4 n h r 0) = s (ix1 h) := by
  pointwise [sinkCol]

theorem max_at (x y : FVec Ideal S128x8x128x1 .f32) (i : S128x8x128x1.Idx) : maximumf x y i = max (x i) (y i) := rfl

theorem add_exp_at (x y z : FVec Ideal S128x8x128x1 .f32) (i : S128x8x128x1.Idx) : addf x (Host.exp (subf y z)) i = x i + Ideal.exp (y i - z i) := rfl

/-- The largest score of each row or the sink. -/
def tops (l : FVec Ideal S128x8x128x256 .f32) (s : FVec Ideal S8 .f32) : FVec Ideal S128x8x128x1 .f32 := maximumf (column (rowMax l)) (sinkCol s)

theorem tops_apply (l : FVec Ideal S128x8x128x256 .f32) (s : FVec Ideal S8 .f32) (n : Fin 128) (h : Fin 8) (r : Fin 128) :
    tops l s (ix4 n h r 0) = top (fun j => l (ix4 n h r j)) (s (ix1 h)) := by
  unfold tops top
  rw [max_at, column_apply, rowMax_apply, sinkCol_apply]

/-- The exponentials of the scores. -/
def exps (l : FVec Ideal S128x8x128x256 .f32) (m : FVec Ideal S128x8x128x1 .f32) : FVec Ideal S128x8x128x256 .f32 :=
  Host.exp (subf l (broadcastInDim S128x8x128x256 ![0, 1, 2, 3] bcast_S128x8x128x1_S128x8x128x256_0_1_2_3 m))

theorem exps_apply (l : FVec Ideal S128x8x128x256 .f32) (m : FVec Ideal S128x8x128x1 .f32) (n : Fin 128) (h : Fin 8) (r : Fin 128) (j : Fin 256) :
    exps l m (ix4 n h r j) = Ideal.exp (l (ix4 n h r j) - m (ix4 n h r 0)) := by
  pointwise [exps]

/-- What the weights are divided by. -/
def denoms (l : FVec Ideal S128x8x128x256 .f32) (s : FVec Ideal S8 .f32) : FVec Ideal S128x8x128x1 .f32 :=
  addf (column (rowSum (exps l (tops l s)))) (Host.exp (subf (sinkCol s) (tops l s)))

theorem denoms_apply (l : FVec Ideal S128x8x128x256 .f32) (s : FVec Ideal S8 .f32) (n : Fin 128) (h : Fin 8) (r : Fin 128) :
    denoms l s (ix4 n h r 0) = ∑ j : Fin 256, Ideal.exp (l (ix4 n h r j) - top (fun j => l (ix4 n h r j)) (s (ix1 h)))
      + Ideal.exp (s (ix1 h) - top (fun j => l (ix4 n h r j)) (s (ix1 h))) := by
  unfold denoms
  rw [add_exp_at, column_apply, rowSum_apply, sinkCol_apply, tops_apply]
  simp only [exps_apply, tops_apply]

/-- The weighted values over the weights' sums, back in the array's order. -/
def gathered (p : FVec Ideal S128x8x128x256 .f32) (v : FVec Ideal S128x256x8x64 .f32) (d : FVec Ideal S128x8x128x1 .f32) : FVec Ideal S16384x512 .bf16 :=
  truncf .bf16 (shapeCast _ (transpose S128x128x8x64 [0, 2, 1, 3] (Host.divf (Host.dotGeneral dot_S128x8x128x256_S128x256x8x64_S128x8x128x64_3_1_2_3_01_02 none p v)
    (broadcastInDim S128x8x128x64 ![0, 1, 2, 3] bcast_S128x8x128x1_S128x8x128x64_0_1_2_3 d)) transposes_S128x8x128x64_S128x128x8x64_0_2_1_3) shapeCasts_S128x128x8x64_S16384x512) bitsLt_bf16_f32

theorem gathered_apply (p : FVec Ideal S128x8x128x256 .f32) (v : FVec Ideal S128x256x8x64 .f32) (d : FVec Ideal S128x8x128x1 .f32) (i : Fin 16384) (c : Fin 512) :
    gathered p v d (ix2 i c) = Ideal.div (∑ j : Fin 256, p (ix4 ⟨i.val / 128, by omega⟩ ⟨c.val / 64, by omega⟩ ⟨i.val % 128, by omega⟩ j)
        * v (ix4 ⟨i.val / 128, by omega⟩ j ⟨c.val / 64, by omega⟩ ⟨c.val % 64, by omega⟩))
      (d (ix4 ⟨i.val / 128, by omega⟩ ⟨c.val / 64, by omega⟩ ⟨i.val % 128, by omega⟩ 0)) := by
  pointwise [gathered]

variable (q : FVec Ideal S16384x512 .bf16) (k v : FVec Ideal S16384x256 .bf16) (b : FVec Ideal S4x256x256 .f32) (s : FVec Ideal S8 .f32)

/-- All scores. -/
def allScores : FVec Ideal S128x8x128x256 .f32 := logits (plain (heads q) (bands (copies (extf .f32 k bitsLt_bf16_f32))) b)

theorem allScores_apply (n : Fin 128) (h : Fin 8) (r : Fin 128) (j : Fin 256) : allScores q k b (ix4 n h r j) = scores q k b n h r j := by
  unfold allScores scores
  rw [logits_apply, plain_apply]
  simp only [heads_apply, bands_apply]
  rfl

/-- The reference's array. -/
def total : FVec Ideal S16384x512 .bf16 :=
  gathered (exps (allScores q k b) (tops (allScores q k b) s)) (bands (copies (extf .f32 v bitsLt_bf16_f32))) (denoms (allScores q k b) s)

/-- The reference's array is the attention. -/
theorem total_eq : total q k v b s = result q k v b s := by
  funext y
  obtain ⟨r, d, rfl⟩ : ∃ (r : Fin 16384) (d : Fin 512), y = ix2 r d := ⟨y 0, y 1, eq_ix2 y⟩
  unfold total
  rw [gathered_apply, denoms_apply]
  simp only [exps_apply, tops_apply, bands_apply, allScores_apply]
  rfl

end Cert.Reference3Ideal.Attend
-- ==== Proof.Reference3Run.lean ====
/-
  The run of the third call's reference over the extended reals: it ends with the attention in its array, its arguments
  unchanged and every counter zero.
-/
module

public import proofs.«01_k».proof.Proof.Gen.Reference3Ideal.Run
public import proofs.«01_k».proof.Proof.Reference3
public import Idealize.ShloMosaic.Lib.Quiescent

@[expose] public section

set_option maxRecDepth 16384

noncomputable section

namespace Cert.Reference3Ideal.Attend

open Idealize.ShloMosaic Idealize.ShloMosaic.TcCoe Idealize.SL.Sem Cert.Reference3Ideal Cert.Reference3Ideal.Gen Cert.Attend

variable (m : (ℓ : Loc nD τ sig) → Buf (Elt Ideal) ℓ) (ρ : Dev nD → PrngReg)

/-- The arguments end unchanged. -/
abbrev Kept (r : MemSt nD τ sig (Elt Ideal)) (c : Dev nD) : Prop :=
  r.mem ((c.tc : Thread nD τ).loc main_arg0) = m ((c.tc : Thread nD τ).loc main_arg0)
  ∧ r.mem ((c.tc : Thread nD τ).loc main_arg1) = m ((c.tc : Thread nD τ).loc main_arg1)
  ∧ r.mem ((c.tc : Thread nD τ).loc main_arg2) = m ((c.tc : Thread nD τ).loc main_arg2)
  ∧ r.mem ((c.tc : Thread nD τ).loc main_arg3) = m ((c.tc : Thread nD τ).loc main_arg3)
  ∧ r.mem ((c.tc : Thread nD τ).loc main_arg4) = m ((c.tc : Thread nD τ).loc main_arg4)

/-- The reference's array over the arguments. -/
abbrev totalOf (c : Dev nD) : FVec Ideal S16384x512 .bf16 :=
  total (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

theorem run_total : θ_run (defs (F := Ideal)) (onTc (τ := τ) (main (F := Ideal))) ⟨m, fun _ => 0, ρ⟩ fun r => ∀ c : Dev nD,
    r.2.mem ((c.tc : Thread nD τ).loc main_v69) = totalOf m c ∧ Kept m r.2 c := Value.run m ρ

theorem frame_main : θ_run (defs (F := Ideal)) (onTc (τ := τ) (main (F := Ideal))) ⟨m, fun _ => 0, ρ⟩ fun r =>
    (∀ c : Dev nD, Kept m r.2 c) ∧ r.2.sem = fun _ => 0 :=
  (θ_run _ _ _).mono (fun r h => ⟨fun c => (h c).2, sem_eq_zero_of_no_sems rfl _⟩) (run_total m ρ)

end Cert.Reference3Ideal.Attend
-- ==== Proof.Token.lean ====
/-
  The mathematics of the second layer's output projection, over the extended reals, one token at a time: the token plus
  its gated projection, and the norm of that with its scale and shift.
-/
module

public import proofs.«01_k».proof.Proof.Dense

@[expose] public section

noncomputable section

namespace Cert.Token

open Idealize.ShloMosaic Cert.Dense

/-- The token `x` plus `g` times the projection of its mixers' outputs `a`. -/
def moved (a : Fin 1536 → EReal) (w : (⟨2, ![1536, 1024]⟩ : Shape).Idx → EReal) (x g : Fin 1024 → EReal) (d : Fin 1024) : EReal :=
  x d + g d * ∑ k : Fin 1536, a k * w (ix2 k d)

variable (a : (⟨2, ![16384, 1536]⟩ : Shape).Idx → EReal) (x : (⟨2, ![16384, 1024]⟩ : Shape).Idx → EReal) (w : (⟨2, ![1536, 1024]⟩ : Shape).Idx → EReal)
  (g : (⟨3, ![4, 1, 1024]⟩ : Shape).Idx → EReal) (n : (⟨1, ![1024]⟩ : Shape).Idx → EReal) (sc sh : (⟨3, ![4, 1, 1024]⟩ : Shape).Idx → EReal)

/-- Row `r` after the projection. -/
def movedRow (r : Fin 16384) : Fin 1024 → EReal :=
  moved (fun k => a (ix2 r k)) w (fun k => x (ix2 r k)) (fun k => g (ix3 (batchOf r) 0 k))

/-- The first result: every token after the projection. -/
def tokens : (⟨2, ![16384, 1024]⟩ : Shape).Idx → EReal := fun y => movedRow a x w g (y 0) (y 1)

/-- The second result: the norm of every token, with its batch's modulation. -/
def norms : (⟨2, ![16384, 1024]⟩ : Shape).Idx → EReal := fun y =>
  normed (movedRow a x w g (y 0)) (fun k => n (ix1 k)) (fun k => sc (ix3 (batchOf (y 0)) 0 k)) (fun k => sh (ix3 (batchOf (y 0)) 0 k)) (y 1)

end Cert.Token
-- ==== Proof.Kernel4Ideal.Value.lean ====
/-
  One grid point of the second layer's output projection over the extended reals: what it computes of its tile of 512
  tokens, token by token.
-/
module

public import proofs.«01_k».proof.Proof.Gen.Kernel4Ideal.Skeleton
public import proofs.«01_k».proof.Proof.Token
public import Idealize.ShloMosaic.Lib.Pointwise
public import Idealize.ShloMosaic.PureOps.Ideal

@[expose] public section

noncomputable section

namespace Cert.Kernel4Ideal.Token

open Idealize.ShloMosaic Cert.Kernel4Ideal Cert.Kernel4Ideal.Gen Cert.Dense Cert.Token

variable (a : Vec Ideal S512x1536 .bf16) (x : Vec Ideal S512x1024 .f32) (g : Vec Ideal S1x1x1024 .f32) (w : Vec Ideal S1536x1024 .bf16)
  (n : Vec Ideal S1x1024 .f32) (sc sh : Vec Ideal S1x1x1024 .f32)

/-- A token after the projection. -/
theorem moved_apply (r : Fin 512) (d : Fin 1024) :
    k0_pay5 a x g w (ix2 r d) = moved (fun k => a (ix2 r k)) w (fun k => x (ix2 r k)) (fun k => g (ix3 0 0 k)) d := by
  pointwise [k0_pay5]
  simp only [moved]

theorem shift_apply (d : Fin 1024) : k0_pay4 sh (ix2 0 d) = sh (ix3 0 0 d) := by pointwise [k0_pay4]

theorem scale_apply (r : Fin 512) (d : Fin 1024) : k0_pay7 sc (ix2 r d) = 1 + sc (ix3 0 0 d) := by pointwise [k0_pay7]

theorem scaled_apply (r : Fin 512) (d : Fin 1024) :
    k0_pay6 a x g n w (ix2 r d)
      = scaled (moved (fun k => a (ix2 r k)) w (fun k => x (ix2 r k)) (fun k => g (ix3 0 0 k))) (fun k => n (ix2 0 k)) d := by
  pointwise [k0_pay6]
  simp only [moved_apply, scaled]

/-- A token's norm with its scale and shift. -/
theorem norms_apply (r : Fin 512) (d : Fin 1024) :
    k0_pay8 (k0_pay4 sh) (k0_pay6 a x g n w) (k0_pay7 sc) (ix2 r d)
      = normed (moved (fun k => a (ix2 r k)) w (fun k => x (ix2 r k)) (fun k => g (ix3 0 0 k)))
          (fun k => n (ix2 0 k)) (fun k => sc (ix3 0 0 k)) (fun k => sh (ix3 0 0 k)) d := by
  pointwise [k0_pay8]
  simp only [scaled_apply, shift_apply, scale_apply, normed]

end Cert.Kernel4Ideal.Token
-- ==== Proof.Kernel4Ideal.Blocks.lean ====
/-
  The second layer's output projection's operands and their blocks at a point, over the extended reals: point `t` has the
  512 tokens from row `512 t` on; they lie in batch `t / 8`.
-/
module

public import proofs.«01_k».proof.Proof.Gen.Kernel4Ideal.Frame.Runs
public import proofs.«01_k».proof.Proof.Kernel4Ideal.Value
public import Idealize.ShloMosaic.Lib.Pipeline.Covers
public import Idealize.ShloMosaic.Lib.Pipeline.ValueKit

@[expose] public section

set_option maxRecDepth 16384

noncomputable section

namespace Cert.Kernel4Ideal.Token

open Idealize.ShloMosaic Idealize.ShloMosaic.TcCoe Cert.Kernel4Ideal Cert.Kernel4Ideal.Gen Cert.Dense Cert.Token
open Idealize.SL.Sem
open Idealize.ShloMosaic.Pipeline (Dat Cfg Window)

variable (m : (ℓ : Loc nD τ sig) → Buf (Elt Ideal) ℓ) (c : Dev nD)

/-! The operands that the call prepares: over the extended reals the rounded weights are the weights. -/

theorem V_v13 : V m c main_v13 = (m ((c : Thread nD τ).loc main_arg2) : S1536x1024.Idx → EReal) := by
  show StableHlo.after hostOps0 _ _ = _
  unfold hostOps0
  after_results_simp
  rfl

theorem V_v14 : V m c main_v14 = shapeCast S1x1024 (m ((c : Thread nD τ).loc main_arg4) : S1024.Idx → EReal) shapeCasts_S1024_S1x1024 := by
  show StableHlo.after hostOps0 _ _ = _
  unfold hostOps0
  after_results_simp
  rfl

theorem V_v14_apply (k : Fin 1024) : (V m c main_v14 : S1x1024.Idx → EReal) (ix2 0 k) = (m ((c : Thread nD τ).loc main_arg4) : S1024.Idx → EReal) (ix1 k) := by
  rw [V_v14]
  pointwise []

/-! The blocks of a point. -/

theorem index_0 : ∀ t : Fin cfg0.N, win0_0.index t = ![t.val, 0] := (by decide +kernel : ∀ t : Fin grid0.N, win0_0.index t = ![t.val, 0])
theorem index_1 : ∀ t : Fin cfg0.N, win0_1.index t = ![t.val, 0] := (by decide +kernel : ∀ t : Fin grid0.N, win0_1.index t = ![t.val, 0])
theorem index_2 : ∀ t : Fin cfg0.N, win0_2.index t = ![0, 0] := (by decide +kernel : ∀ t : Fin grid0.N, win0_2.index t = ![0, 0])
theorem index_3 : ∀ t : Fin cfg0.N, win0_3.index t = ![t.val / 8, 0, 0] := (by decide +kernel : ∀ t : Fin grid0.N, win0_3.index t = ![t.val / 8, 0, 0])
theorem index_4 : ∀ t : Fin cfg0.N, win0_4.index t = ![0, 0] := (by decide +kernel : ∀ t : Fin grid0.N, win0_4.index t = ![0, 0])
theorem index_5 : ∀ t : Fin cfg0.N, win0_5.index t = ![t.val / 8, 0, 0] := (by decide +kernel : ∀ t : Fin grid0.N, win0_5.index t = ![t.val / 8, 0, 0])
theorem index_6 : ∀ t : Fin cfg0.N, win0_6.index t = ![t.val / 8, 0, 0] := (by decide +kernel : ∀ t : Fin grid0.N, win0_6.index t = ![t.val / 8, 0, 0])
theorem index_9 : ∀ t : Fin cfg0.N, win0_9.index t = ![t.val, 0] := (by decide +kernel : ∀ t : Fin grid0.N, win0_9.index t = ![t.val, 0])
theorem index_10 : ∀ t : Fin cfg0.N, win0_10.index t = ![t.val, 0] := (by decide +kernel : ∀ t : Fin grid0.N, win0_10.index t = ![t.val, 0])

/-- Row `r` of point `t`'s tile. -/
def rowOf (t : Fin cfg0.N) (r : Fin 512) : Fin 16384 := ⟨t.val * 512 + r.val, by have : t.val < 32 := t.isLt; omega⟩

theorem iblk_0 (t : Fin cfg0.N) (r : Fin 512) (k : Fin 1536) :
    (iblk m c 0 t : S512x1536.Idx → EReal) (ix2 r k) = (m ((c : Thread nD τ).loc main_arg0) : S16384x1536.Idx → EReal) (ix2 (rowOf t r) k) := by
  show V m c main_arg0 _ = _
  rw [V_main_arg0]
  unfold rowOf
  blk_ext [index_0 t]

theorem iblk_1 (t : Fin cfg0.N) (r : Fin 512) (k : Fin 1024) :
    (iblk m c 1 t : S512x1024.Idx → EReal) (ix2 r k) = (m ((c : Thread nD τ).loc main_arg1) : S16384x1024.Idx → EReal) (ix2 (rowOf t r) k) := by
  show V m c main_arg1 _ = _
  rw [V_main_arg1]
  unfold rowOf
  blk_ext [index_1 t]

theorem iblk_3 (t : Fin cfg0.N) (r : Fin 512) (k : Fin 1024) :
    (iblk m c 3 t : S1x1x1024.Idx → EReal) (ix3 0 0 k) = (m ((c : Thread nD τ).loc main_arg3) : S4x1x1024.Idx → EReal) (ix3 (batchOf (rowOf t r)) 0 k) := by
  show V m c main_arg3 _ = _
  rw [V_main_arg3]
  unfold batchOf rowOf
  blk_ext [index_3 t]

theorem iblk_5 (t : Fin cfg0.N) (r : Fin 512) (k : Fin 1024) :
    (iblk m c 5 t : S1x1x1024.Idx → EReal) (ix3 0 0 k) = (m ((c : Thread nD τ).loc main_arg5) : S4x1x1024.Idx → EReal) (ix3 (batchOf (rowOf t r)) 0 k) := by
  show V m c main_arg5 _ = _
  rw [V_main_arg5]
  unfold batchOf rowOf
  blk_ext [index_5 t]

theorem iblk_6 (t : Fin cfg0.N) (r : Fin 512) (k : Fin 1024) :
    (iblk m c 6 t : S1x1x1024.Idx → EReal) (ix3 0 0 k) = (m ((c : Thread nD τ).loc main_arg6) : S4x1x1024.Idx → EReal) (ix3 (batchOf (rowOf t r)) 0 k) := by
  show V m c main_arg6 _ = _
  rw [V_main_arg6]
  unfold batchOf rowOf
  blk_ext [index_6 t]

theorem iblk_2 (t : Fin cfg0.N) : (iblk m c 2 t : S1536x1024.Idx → EReal) = m ((c : Thread nD τ).loc main_arg2) := by
  funext y
  show V m c main_v13 _ = _
  rw [V_v13]
  blk_ext [index_2 t]

theorem iblk_4 (t : Fin cfg0.N) (k : Fin 1024) :
    (iblk m c 4 t : S1x1024.Idx → EReal) (ix2 0 k) = (m ((c : Thread nD τ).loc main_arg4) : S1024.Idx → EReal) (ix1 k) := by
  refine Eq.trans ?_ (V_v14_apply m c k)
  show V m c main_v14 _ = _
  blk_ext [index_4 t]

end Cert.Kernel4Ideal.Token
-- ==== Proof.Kernel4Ideal.Tile.lean ====
/-
  What the second layer's output projection writes at a point of its grid, over the extended reals: its tile of tokens
  and of their norms, of its blocks. Both are whole-block stores, at the first point and at a later one alike.
-/
module

public import proofs.«01_k».proof.Proof.Gen.Kernel4Ideal.Frame
public import proofs.«01_k».proof.Proof.Kernel4Ideal.Value
public import Idealize.ShloMosaic.Lib.Pipeline.ReadBack

@[expose] public section

noncomputable section

namespace Cert.Kernel4Ideal.Token

open Idealize.ShloMosaic Idealize.ShloMosaic.TcCoe Cert.Kernel4Ideal Cert.Kernel4Ideal.Gen Cert.Token

/-- A load of a whole block gives the block. -/
theorem load_all {sp : Space} {s : Shape} {e : EltTy} {g : Memref sig .tc sp s e} (hg : g.IsWhole) (x : s.Idx → Elt Ideal e) (off : Fin s.rank → ℕ) (inb)
    (h0 : ∀ a, off a = 0) : View.readAt (Elt Ideal) g.view (Rect.unit (s := s) off s.size inb).toLoadRect (hg.unread x) = x := by
  funext y
  rw [View.readAt_apply, hg.read_unread]
  refine congrArg x (funext fun a => Fin.ext ?_)
  show off a + 1 * (y a).val = (y a).val
  rw [h0 a]
  omega

private theorem h2 : ∀ a, (![0, 0] : Fin 2 → ℕ) a = 0 := by decide

private theorem h3 : ∀ a, (![0, 0, 0] : Fin 3 → ℕ) a = 0 := by decide

variable (c : Dev nD) (i : grid0.Coords) (arg1 : Memref sig .tc .vmem S512x1536 .bf16) (harg1 : arg1.IsWhole) (arg2 : Memref sig .tc .vmem S512x1024 .f32) (harg2 : arg2.IsWhole) (arg3 : Memref sig .tc .vmem S1536x1024 .bf16) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1024x256 .bf16) (harg8 : arg8.IsWhole) (arg9 : Memref sig .tc .vmem S1x128 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S8x512 .i32) (harg12 : arg12.IsWhole) (arg13 : Memref sig .tc .vmem S512x128 .i32) (harg13 : arg13.IsWhole) (arg14 : Memref sig .tc .vmem S512x128 .f32) (harg14 : arg14.IsWhole) (arg15 : Memref sig .tc .vmem S1x8x128 .i32) (harg15 : arg15.IsWhole) (arg16 : Memref sig .tc .vmem S8x128 .i32) (harg16 : arg16.IsWhole) (arg17 : Memref sig .tc .vmem S8x128 .f32) (harg17 : arg17.IsWhole)
  (x0 : Vec Ideal S512x1536 .bf16) (x1 : Vec Ideal S512x1024 .f32) (x2 : Vec Ideal S1536x1024 .bf16) (x3 : Vec Ideal S1x1x1024 .f32) (x4 : Vec Ideal S1x1024 .f32) (x5 : Vec Ideal S1x1x1024 .f32) (x6 : Vec Ideal S1x1x1024 .f32) (x7 : Vec Ideal S1024x256 .bf16) (x8 : Vec Ideal S1x128 .f32)

theorem tokensA (hc : cond0_0 i) (r : Fin 512) (d : Fin 1024) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 (ix2 r d) = k0_pay5 x0 x1 x3 x2 (ix2 r d) := by
  unfold out0_A_9 kernelRun0_A
  dsimp only
  rw [View.read_writes_cons_hit_of_coords _ _ _ _ _ (ix2 r d) _ (fun a' => by
    fin_cases a'
    · show r.val = 0 + 1 * r.val; omega
    · show d.val = 0 + 1 * d.val; omega)]
  show k0_pay5 (F := Ideal) _ _ _ _ _ = _
  rw [load_all harg1 x0 _ _ h2, load_all harg2 x1 _ _ h2, load_all harg4 x3 _ _ h3, load_all harg3 x2 _ _ h2]

theorem normsA (hc : cond0_0 i) (r : Fin 512) (d : Fin 1024) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 (ix2 r d) = k0_pay8 (k0_pay4 x6) (k0_pay6 x0 x1 x3 x4 x2) (k0_pay7 x5) (ix2 r d) := by
  unfold out0_A_10 kernelRun0_A
  dsimp only
  rw [View.read_writes_cons_hit_of_coords _ _ _ _ _ (ix2 r d) _ (fun a' => by
    fin_cases a'
    · show r.val = 0 + 1 * r.val; omega
    · show d.val = 0 + 1 * d.val; omega)]
  show k0_pay8 (F := Ideal) (k0_pay4 _) (k0_pay6 _ _ _ _ _) (k0_pay7 _) _ = _
  rw [load_all harg7 x6 _ _ h3, load_all harg1 x0 _ _ h2, load_all harg2 x1 _ _ h2, load_all harg4 x3 _ _ h3, load_all harg5 x4 _ _ h2, load_all harg3 x2 _ _ h2, load_all harg6 x5 _ _ h3]

theorem tokensB (hc : ¬cond0_0 i) (xs0 : Vec Ideal S8x128 .f32) (r : Fin 512) (d : Fin 1024) :
    out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 xs0 (ix2 r d) = k0_pay5 x0 x1 x3 x2 (ix2 r d) := by
  unfold out0_B_9 kernelRun0_B
  dsimp only
  rw [View.read_writes_cons_hit_of_coords _ _ _ _ _ (ix2 r d) _ (fun a' => by
    fin_cases a'
    · show r.val = 0 + 1 * r.val; omega
    · show d.val = 0 + 1 * d.val; omega)]
  show k0_pay5 (F := Ideal) _ _ _ _ _ = _
  rw [load_all harg1 x0 _ _ h2, load_all harg2 x1 _ _ h2, load_all harg4 x3 _ _ h3, load_all harg3 x2 _ _ h2]

theorem normsB (hc : ¬cond0_0 i) (xs0 : Vec Ideal S8x128 .f32) (r : Fin 512) (d : Fin 1024) :
    out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 xs0 (ix2 r d) = k0_pay8 (k0_pay4 x6) (k0_pay6 x0 x1 x3 x4 x2) (k0_pay7 x5) (ix2 r d) := by
  unfold out0_B_10 kernelRun0_B
  dsimp only
  rw [View.read_writes_cons_hit_of_coords _ _ _ _ _ (ix2 r d) _ (fun a' => by
    fin_cases a'
    · show r.val = 0 + 1 * r.val; omega
    · show d.val = 0 + 1 * d.val; omega)]
  show k0_pay8 (F := Ideal) (k0_pay4 _) (k0_pay6 _ _ _ _ _) (k0_pay7 _) _ = _
  rw [load_all harg7 x6 _ _ h3, load_all harg1 x0 _ _ h2, load_all harg2 x1 _ _ h2, load_all harg4 x3 _ _ h3, load_all harg5 x4 _ _ h2, load_all harg3 x2 _ _ h2, load_all harg6 x5 _ _ h3]

end Cert.Kernel4Ideal.Token
-- ==== Proof.Kernel4Ideal.Result.lean ====
/-
  The arrays that the second layer's output projection leaves over the extended reals: every token, and its norm. A point
  writes its tile of both, and the tiles cover the arrays.
-/
module

public import proofs.«01_k».proof.Proof.Kernel4Ideal.Blocks
public import proofs.«01_k».proof.Proof.Kernel4Ideal.Tile
public import proofs.«01_k».proof.Proof.Gen.Kernel4Ideal.Value

@[expose] public section

set_option maxRecDepth 16384

noncomputable section

namespace Cert.Kernel4Ideal.Token

open Idealize.ShloMosaic Idealize.ShloMosaic.TcCoe Cert.Kernel4Ideal Cert.Kernel4Ideal.Gen Cert.Dense Cert.Token
open Idealize.SL.Sem
open Idealize.ShloMosaic.Pipeline (Dat Cfg Window)

variable (m : (ℓ : Loc nD τ sig) → Buf (Elt Ideal) ℓ) (ρ : Dev nD → PrngReg) (c : Dev nD)

/-- The tokens over the arguments. -/
abbrev tokensOf : S16384x1024.Idx → EReal :=
  tokens (m ((c : Thread nD τ).loc main_arg0)) (m ((c : Thread nD τ).loc main_arg1)) (m ((c : Thread nD τ).loc main_arg2)) (m ((c : Thread nD τ).loc main_arg3))

/-- Their norms over the arguments. -/
abbrev normsOf : S16384x1024.Idx → EReal :=
  norms (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-- A point's tile of the tokens. -/
theorem tokens_tile (t : Fin cfg0.N) (r : Fin 512) (d : Fin 1024) :
    k0_pay5 (iblk m c 0 t) (iblk m c 1 t) (iblk m c 3 t) (iblk m c 2 t) (ix2 r d) = tokensOf m c (ix2 (rowOf t r) d) := by
  refine (moved_apply ..).trans ?_
  rw [iblk_2]
  simp only [iblk_0, iblk_1, iblk_3 m c t r]
  rfl

/-- A point's tile of the norms. -/
theorem norms_tile (t : Fin cfg0.N) (r : Fin 512) (d : Fin 1024) :
    k0_pay8 (k0_pay4 (iblk m c 6 t)) (k0_pay6 (iblk m c 0 t) (iblk m c 1 t) (iblk m c 3 t) (iblk m c 4 t) (iblk m c 2 t)) (k0_pay7 (iblk m c 5 t)) (ix2 r d)
      = normsOf m c (ix2 (rowOf t r) d) := by
  refine (norms_apply ..).trans ?_
  rw [iblk_2]
  simp only [iblk_0, iblk_1, iblk_3 m c t r, iblk_4, iblk_5 m c t r, iblk_6 m c t r]
  rfl

/-- What a point leaves in its block of the tokens. -/
theorem tokens_left (t : Fin cfg0.N) (r : Fin 512) (d : Fin 1024) :
    ((outsAt0 m c t.val t.isLt).1 : S512x1024.Idx → EReal) (ix2 r d) = tokensOf m c (ix2 (rowOf t r) d) := by
  by_cases h0 : t.val % 32 = 0
  · rw [outsAt0_A m c t h0]
    dsimp only
    rw [tokensA]
    exact tokens_tile m c t r d
  · rw [outsAt0_B m c t h0]
    dsimp only
    rw [tokensB]
    exact tokens_tile m c t r d

theorem covers_9 : ((cfg0).win 9).Covers :=
  Window.covers_of_indexMap_surj _ rfl (fun a => by revert a; show ∀ a : Fin 2, 0 < (![512, 1024] : Fin 2 → ℕ) a; decide) fun β => by
    have hb : (β (0 : Fin 2)).val < 32 := Nat.lt_of_lt_of_eq (β (0 : Fin 2)).isLt (by show (16384 + (512 - 1)) / 512 = 32; rfl)
    have h1 : (β (1 : Fin 2)).val < 1 := Nat.lt_of_lt_of_eq (β (1 : Fin 2)).isLt (by show (1024 + (1024 - 1)) / 1024 = 1; rfl)
    let i : grid0.Coords := fun a => match a with | ⟨0, _⟩ => (⟨(β (0 : Fin 2)).val, hb⟩ : Fin 32)
    refine ⟨i, fun a => ?_⟩
    have e : (cfg0.win 9).indexMap i = ![(β (0 : Fin 2)).val, 0] := by
      show ![(BitVec.ofNat 32 (β (0 : Fin 2)).val).toNat, 0] = _
      rw [BitVec.toNat_ofNat, Nat.mod_eq_of_lt (by omega)]
    rw [e]
    have ha : a = (0 : Fin 2) ∨ a = (1 : Fin 2) := by
      revert a; show ∀ a : Fin 2, a = 0 ∨ a = 1; decide
    rcases ha with rfl | rfl
    · rfl
    · exact (Nat.lt_one_iff.1 h1).symm

/-- The array of the tokens after the run. -/
theorem arrAt_9 : (dats m 0 c).arrAt 9 cfg0.N = tokensOf m c := by
  refine (dats m 0 c).arrAt_eq_of_covers 9 _ covers_9 fun t hf y => ?_
  have ei := index_9 t
  have ht : t.val < 32 := t.isLt
  have hy0 : (y (0 : Fin 2)).val < 512 := (y (0 : Fin 2)).isLt
  have hy1 : (y (1 : Fin 2)).val < 1024 := (y (1 : Fin 2)).isLt
  have hemb : (((cfg0.win 9).blk t).view.emb y : S16384x1024.Idx) = ix2 (rowOf t ⟨(y (0 : Fin 2)).val, hy0⟩) ⟨(y (1 : Fin 2)).val, hy1⟩ := by
    unfold rowOf
    blk_ext [ei]
  rw [hemb]
  blk_simp
  rw [after0_9]
  have hy : (y : S512x1024.Idx) = ix2 ⟨(y (0 : Fin 2)).val, hy0⟩ ⟨(y (1 : Fin 2)).val, hy1⟩ := by
    funext a; fin_cases a <;> rfl
  exact (congrArg _ hy).trans (tokens_left m c t _ _)

/-- What a point leaves in its block of the norms. -/
theorem norms_left (t : Fin cfg0.N) (r : Fin 512) (d : Fin 1024) :
    ((outsAt0 m c t.val t.isLt).2.1 : S512x1024.Idx → EReal) (ix2 r d) = normsOf m c (ix2 (rowOf t r) d) := by
  by_cases h0 : t.val % 32 = 0
  · rw [outsAt0_A m c t h0]
    dsimp only
    rw [normsA]
    exact norms_tile m c t r d
  · rw [outsAt0_B m c t h0]
    dsimp only
    rw [normsB]
    exact norms_tile m c t r d

theorem covers_10 : ((cfg0).win 10).Covers :=
  Window.covers_of_indexMap_surj _ rfl (fun a => by revert a; show ∀ a : Fin 2, 0 < (![512, 1024] : Fin 2 → ℕ) a; decide) fun β => by
    have hb : (β (0 : Fin 2)).val < 32 := Nat.lt_of_lt_of_eq (β (0 : Fin 2)).isLt (by show (16384 + (512 - 1)) / 512 = 32; rfl)
    have h1 : (β (1 : Fin 2)).val < 1 := Nat.lt_of_lt_of_eq (β (1 : Fin 2)).isLt (by show (1024 + (1024 - 1)) / 1024 = 1; rfl)
    let i : grid0.Coords := fun a => match a with | ⟨0, _⟩ => (⟨(β (0 : Fin 2)).val, hb⟩ : Fin 32)
    refine ⟨i, fun a => ?_⟩
    have e : (cfg0.win 10).indexMap i = ![(β (0 : Fin 2)).val, 0] := by
      show ![(BitVec.ofNat 32 (β (0 : Fin 2)).val).toNat, 0] = _
      rw [BitVec.toNat_ofNat, Nat.mod_eq_of_lt (by omega)]
    rw [e]
    have ha : a = (0 : Fin 2) ∨ a = (1 : Fin 2) := by
      revert a; show ∀ a : Fin 2, a = 0 ∨ a = 1; decide
    rcases ha with rfl | rfl
    · rfl
    · exact (Nat.lt_one_iff.1 h1).symm

/-- The array of the norms after the run. -/
theorem arrAt_10 : (dats m 0 c).arrAt 10 cfg0.N = normsOf m c := by
  refine (dats m 0 c).arrAt_eq_of_covers 10 _ covers_10 fun t hf y => ?_
  have ei := index_10 t
  have ht : t.val < 32 := t.isLt
  have hy0 : (y (0 : Fin 2)).val < 512 := (y (0 : Fin 2)).isLt
  have hy1 : (y (1 : Fin 2)).val < 1024 := (y (1 : Fin 2)).isLt
  have hemb : (((cfg0.win 10).blk t).view.emb y : S16384x1024.Idx) = ix2 (rowOf t ⟨(y (0 : Fin 2)).val, hy0⟩) ⟨(y (1 : Fin 2)).val, hy1⟩ := by
    unfold rowOf
    blk_ext [ei]
  rw [hemb]
  blk_simp
  rw [after0_10]
  have hy : (y : S512x1024.Idx) = ix2 ⟨(y (0 : Fin 2)).val, hy0⟩ ⟨(y (1 : Fin 2)).val, hy1⟩ := by
    funext a; fin_cases a <;> rfl
  exact (congrArg _ hy).trans (norms_left m c t _ _)

/-- The run: it ends with the results in their arrays. -/
theorem run_result : θ_run (defs (F := Ideal)) (onTc (τ := τ) (main (F := Ideal))) ⟨m, fun _ => 0, ρ⟩ (fun r => ∀ c : Dev nD,
      r.2.mem ((c.tc : Thread nD τ).loc main_v15_0) = tokensOf m c ∧ r.2.mem ((c.tc : Thread nD τ).loc main_v15_1) = normsOf m c) :=
  (θ_run defs _ _).mono (fun _ hr c => ⟨(hr c).1.trans (arrAt_9 m c), (hr c).2.1.trans (arrAt_10 m c)⟩) (Value.run_blocks m ρ)

end Cert.Kernel4Ideal.Token
-- ==== Proof.Reference4.lean ====
/-
  What the second layer's output projection's reference computes over the extended reals: the same, token by token.
-/
module

public import proofs.«01_k».proof.Proof.Gen.Reference4Ideal
public import proofs.«01_k».proof.Proof.Token
public import Idealize.ShloMosaic.Lib.Pointwise
public import Idealize.ShloMosaic.PureOps.Ideal

@[expose] public section

noncomputable section

namespace Cert.Reference4Ideal.Token

open Idealize.ShloMosaic Cert.Reference4Ideal Cert.Reference4Ideal.Gen Cert.Dense Cert.Token

variable (a : FVec Ideal S16384x1536 .bf16) (x : FVec Ideal S16384x1024 .f32) (w : FVec Ideal S1536x1024 .f32) (g : FVec Ideal S4x1x1024 .f32)
  (n : FVec Ideal S1024 .f32) (sc sh : FVec Ideal S4x1x1024 .f32)

/-- A batch's row for each of its tokens. -/
def perToken (b : FVec Ideal S4x1x1024 .f32) : FVec Ideal S16384x1024 .f32 :=
  shapeCast _ (broadcastInDim S4x4096x1024 ![0, 1, 2] bcast_S4x1x1024_S4x4096x1024_0_1_2 b) shapeCasts_S4x4096x1024_S16384x1024

theorem perToken_apply (b : FVec Ideal S4x1x1024 .f32) (r : Fin 16384) (d : Fin 1024) : perToken b (ix2 r d) = b (ix3 (batchOf r) 0 d) := by
  pointwise [perToken]
  rfl

/-- The tokens after the projection. -/
def refTokens : FVec Ideal S16384x1024 .f32 :=
  addf x (mulf (perToken g) (Host.dotGeneral dot_S16384x1536_S1536x1024_S16384x1024_1_0_0_1_n_n none (extf .f32 a bitsLt_bf16_f32) w))

theorem refTokens_apply (r : Fin 16384) (d : Fin 1024) : refTokens a x w g (ix2 r d) = movedRow a x w g r d := by
  pointwise [refTokens]
  simp only [perToken_apply, movedRow, moved]

variable (v : FVec Ideal S16384x1024 .f32)

/-- The tokens over the roots of their mean squares, times the norm's weights. -/
def rms : FVec Ideal S16384x1024 .f32 :=
  mulf (mulf v (broadcastInDim S16384x1024 ![0, 1] bcast_S16384x1_S16384x1024_0_1 (Host.rsqrt (addf
    (Host.divf (broadcastInDim S16384x1 ![0] bcast_S16384_S16384x1_0 (Host.reduceAdd (mulf v v) (constant S_ .f32 0x00000000#32) reducesTo_S16384x1024_S16384_d1 h_S_))
      (broadcastInDim S16384x1 ![] bcast_S_S16384x1 (constant S_ .f32 0x44800000#32)))
    (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 n))

theorem rms_apply (r : Fin 16384) (d : Fin 1024) : rms n v (ix2 r d) = scaled (fun k => v (ix2 r k)) (fun k => n (ix1 k)) d := by
  pointwise [rms]
  simp only [scaled]

/-- The norm with its scale and shift. -/
def modulated : FVec Ideal S16384x1024 .f32 :=
  addf (mulf (rms n v) (addf (broadcastInDim S16384x1024 ![] bcast_S_S16384x1024 (constant S_ .f32 0x3F800000#32)) (perToken sc))) (perToken sh)

theorem modulated_apply (r : Fin 16384) (d : Fin 1024) :
    modulated n sc sh v (ix2 r d)
      = normed (fun k => v (ix2 r k)) (fun k => n (ix1 k)) (fun k => sc (ix3 (batchOf r) 0 k)) (fun k => sh (ix3 (batchOf r) 0 k)) d := by
  pointwise [modulated]
  simp only [rms_apply, perToken_apply, normed]

/-- The first result. -/
theorem refTokens_eq : refTokens a x w g = tokens a x w g := by
  funext y
  obtain ⟨r, d, rfl⟩ : ∃ (r : Fin 16384) (d : Fin 1024), y = ix2 r d := ⟨y 0, y 1, eq_ix2 y⟩
  exact refTokens_apply ..

/-- The second result. -/
theorem refNorms_eq : modulated n sc sh (refTokens a x w g) = norms a x w g n sc sh := by
  funext y
  obtain ⟨r, d, rfl⟩ : ∃ (r : Fin 16384) (d : Fin 1024), y = ix2 r d := ⟨y 0, y 1, eq_ix2 y⟩
  rw [modulated_apply]
  simp only [refTokens_apply, norms, ix2_0, ix2_1]

end Cert.Reference4Ideal.Token
-- ==== Proof.Reference4Run.lean ====
/-
  The run of the second layer's output projection's reference over the extended reals: it ends with the two results in
  their arrays, its arguments unchanged and every counter zero.
-/
module

public import proofs.«01_k».proof.Proof.Gen.Reference4Ideal.Run
public import proofs.«01_k».proof.Proof.Reference4
public import Idealize.ShloMosaic.Lib.Quiescent

@[expose] public section

noncomputable section

namespace Cert.Reference4Ideal.Token

open Idealize.ShloMosaic Idealize.ShloMosaic.TcCoe Idealize.SL.Sem Cert.Reference4Ideal Cert.Reference4Ideal.Gen Cert.Token

variable (m : (ℓ : Loc nD τ sig) → Buf (Elt Ideal) ℓ) (ρ : Dev nD → PrngReg)

/-- The arguments end unchanged. -/
abbrev Kept (r : MemSt nD τ sig (Elt Ideal)) (c : Dev nD) : Prop :=
  r.mem ((c.tc : Thread nD τ).loc main_arg0) = m ((c.tc : Thread nD τ).loc main_arg0)
  ∧ r.mem ((c.tc : Thread nD τ).loc main_arg1) = m ((c.tc : Thread nD τ).loc main_arg1)
  ∧ r.mem ((c.tc : Thread nD τ).loc main_arg2) = m ((c.tc : Thread nD τ).loc main_arg2)
  ∧ r.mem ((c.tc : Thread nD τ).loc main_arg3) = m ((c.tc : Thread nD τ).loc main_arg3)
  ∧ r.mem ((c.tc : Thread nD τ).loc main_arg4) = m ((c.tc : Thread nD τ).loc main_arg4)
  ∧ r.mem ((c.tc : Thread nD τ).loc main_arg5) = m ((c.tc : Thread nD τ).loc main_arg5)
  ∧ r.mem ((c.tc : Thread nD τ).loc main_arg6) = m ((c.tc : Thread nD τ).loc main_arg6)
  ∧ r.mem ((c.tc : Thread nD τ).loc main_arg7) = m ((c.tc : Thread nD τ).loc main_arg7)
  ∧ r.mem ((c.tc : Thread nD τ).loc main_arg8) = m ((c.tc : Thread nD τ).loc main_arg8)

/-- The tokens after the projection, over the arguments. -/
abbrev refTokensOf (c : Dev nD) : FVec Ideal S16384x1024 .f32 := refTokens (m ((c.tc : Thread nD τ).loc main_arg0)) (m ((c.tc : Thread nD τ).loc main_arg1)) (m ((c.tc : Thread nD τ).loc main_arg2)) (m ((c.tc : Thread nD τ).loc main_arg3))

theorem run_total : θ_run (defs (F := Ideal)) (onTc (τ := τ) (main (F := Ideal))) ⟨m, fun _ => 0, ρ⟩ fun r => ∀ c : Dev nD,
    r.2.mem ((c.tc : Thread nD τ).loc main_v5) = refTokensOf m c
    ∧ r.2.mem ((c.tc : Thread nD τ).loc main_v26) = modulated (m ((c.tc : Thread nD τ).loc main_arg4)) (m ((c.tc : Thread nD τ).loc main_arg5)) (m ((c.tc : Thread nD τ).loc main_arg6)) (refTokensOf m c)
    ∧ Kept m r.2 c := Value.run m ρ

theorem frame_main : θ_run (defs (F := Ideal)) (onTc (τ := τ) (main (F := Ideal))) ⟨m, fun _ => 0, ρ⟩ fun r =>
    (∀ c : Dev nD, Kept m r.2 c) ∧ r.2.sem = fun _ => 0 :=
  (θ_run _ _ _).mono (fun r h => ⟨fun c => (h c).2.2, sem_eq_zero_of_no_sems rfl _⟩) (run_total m ρ)

end Cert.Reference4Ideal.Token
-- ==== Proof.lean ====
/-
  The certificate. First call: the frames of the kernel and of its ideal reading (Kernel/Run, KernelIdeal/Run), the frame of
  the reference (ReferenceRun), and the equality of the two results: both programs leave `Expert.result`
  (KernelIdeal/Result, Reference). Second call: likewise, with `Dense.result` (Kernel2Ideal/Result, Reference2). Third call: with
  `Attend.result` (Kernel3Ideal/Result, Reference3). Fourth call: with `Token.tokens` and `Token.norms` (Kernel4Ideal/Result, Reference4).
-/
module

public import proofs.«01_k».proof.Defs
public import proofs.«01_k».proof.Proof.Range
public import proofs.«01_k».proof.Proof.Kernel.Run
public import proofs.«01_k».proof.Proof.KernelIdeal.Result
public import proofs.«01_k».proof.Proof.ReferenceRun
public import proofs.«01_k».proof.Proof.Gen.Kernel2.Frame
public import proofs.«01_k».proof.Proof.Gen.Kernel2Ideal.Value
public import proofs.«01_k».proof.Proof.Kernel2Ideal.Result
public import proofs.«01_k».proof.Proof.Gen.Reference2Ideal.Run
public import proofs.«01_k».proof.Proof.Reference2Run
public import proofs.«01_k».proof.Proof.Gen.Kernel3.Frame
public import proofs.«01_k».proof.Proof.Gen.Kernel3Ideal.Value
public import proofs.«01_k».proof.Proof.Kernel3Ideal.Result
public import proofs.«01_k».proof.Proof.Gen.Reference3Ideal.Run
public import proofs.«01_k».proof.Proof.Reference3Run
public import proofs.«01_k».proof.Proof.Gen.Kernel4.Frame
public import proofs.«01_k».proof.Proof.Gen.Kernel4Ideal.Value
public import proofs.«01_k».proof.Proof.Kernel4Ideal.Result
public import proofs.«01_k».proof.Proof.Gen.Reference4Ideal.Run
public import proofs.«01_k».proof.Proof.Reference4Run
public import Idealize.ShloMosaic.Lib.Claim

@[expose] public section

noncomputable section

namespace Cert.Proof

open Idealize.ShloMosaic Idealize.SL.Sem

theorem algebraic : Cert.algebraic_KernelIdeal_ReferenceIdeal := by
  intro m g m' g' hp hm
  have hr := Range.in_range _ _ _ _ _ _ (hp 0)
  have h : KernelIdeal.Moe.InRange (m ((0 : Dev KernelIdeal.nD).tc.loc KernelIdeal.main_arg0)) (m ((0 : Dev KernelIdeal.nD).tc.loc KernelIdeal.main_arg1)) := ⟨hr.1, hr.2⟩
  refine ⟨fun c => ReferenceIdeal.Moe.total (m ((0 : Dev KernelIdeal.nD).tc.loc KernelIdeal.main_arg0)) (m ((0 : Dev KernelIdeal.nD).tc.loc KernelIdeal.main_arg1))
    (m ((c.tc : Thread KernelIdeal.nD KernelIdeal.τ).loc KernelIdeal.main_arg2)) (m ((c.tc : Thread KernelIdeal.nD KernelIdeal.τ).loc KernelIdeal.main_arg3))
    (m ((c.tc : Thread KernelIdeal.nD KernelIdeal.τ).loc KernelIdeal.main_arg4)) (m ((c.tc : Thread KernelIdeal.nD KernelIdeal.τ).loc KernelIdeal.main_arg5)), ?_, ?_⟩
  · exact (θ_run _ _ _).mono (fun _ r c => ⟨(r.1 c).trans (ReferenceIdeal.Moe.total_eq _ _ _ _ _ _ h.expert).symm, r.2.1 c⟩)
      (θ_run_and (KernelIdeal.Moe.run_result m g h) (KernelIdeal.Moe.frame_main m g h))
  · refine (θ_run _ _ _).mono (fun _ r c => ⟨(r c).1.trans ?_, (r c).2⟩) (ReferenceIdeal.Moe.run_total m' g')
    obtain rfl : c = 0 := Subsingleton.elim (α := Fin 1) _ _
    obtain ⟨h0, h1, h2, h3, h4, h5⟩ := hm 0
    exact h0 ▸ h1 ▸ h2 ▸ h3 ▸ h4 ▸ h5 ▸ rfl

theorem algebraic2 : Cert.algebraic_Kernel2Ideal_Reference2Ideal := by
  intro m g m' g' _ hm
  refine ⟨fun c => Kernel2Ideal.Dense.resultOf m c, ?_, ?_⟩
  · exact (θ_run _ _ _).mono (fun _ r c => ⟨r.1 c, r.2.1 c⟩) (θ_run_and (Kernel2Ideal.Dense.run_result m g) (Kernel2Ideal.Gen.frame m g))
  · refine (θ_run _ _ _).mono (fun _ r c => ⟨((r c).1.trans (Reference2Ideal.Dense.total_eq ..)).trans ?_, (r c).2⟩) (Reference2Ideal.Dense.run_total m' g')
    obtain ⟨h0, h1, h2, h3, h4, h5, h6, h7, h8, h9, h10, h11⟩ := hm c
    rw [h0, h1, h2, h3, h4, h5, h6, h7, h8, h9, h10, h11]

theorem preserves3 : Cert.preserves_Kernel3_Kernel3Ideal := IdealRules.named_const.statement Cert.Kernel3Ideal.κ "mask" .f32 0xF149F2CA#32 ⊥ rfl

theorem algebraic3 : Cert.algebraic_Kernel3Ideal_Reference3Ideal := by
  intro m g m' g' _ hm
  refine ⟨fun c => Kernel3Ideal.Attend.resultOf m c, ?_, ?_⟩
  · exact (θ_run _ _ _).mono (fun _ r c => ⟨r.1 c, r.2.1 c⟩) (θ_run_and (Kernel3Ideal.Attend.run_result m g) (Kernel3Ideal.Gen.frame m g))
  · refine (θ_run _ _ _).mono (fun _ r c => ⟨((r c).1.trans (Reference3Ideal.Attend.total_eq ..)).trans ?_, (r c).2⟩) (Reference3Ideal.Attend.run_total m' g')
    obtain ⟨h0, h1, h2, h3, h4⟩ := hm c
    rw [h0, h1, h2, h3, h4]

theorem algebraic4 : Cert.algebraic_Kernel4Ideal_Reference4Ideal := by
  intro m g m' g' _ hm
  refine ⟨fun c => Kernel4Ideal.Token.tokensOf m c, fun c => Kernel4Ideal.Token.normsOf m c, ?_, ?_⟩
  · exact (θ_run _ _ _).mono (fun _ r c => ⟨(r.1 c).1, (r.1 c).2, r.2.1 c⟩) (θ_run_and (Kernel4Ideal.Token.run_result m g) (Kernel4Ideal.Gen.frame m g))
  · refine (θ_run _ _ _).mono (fun _ r c => ⟨((r c).1.trans (Reference4Ideal.Token.refTokens_eq ..)).trans ?_,
      ((r c).2.1.trans (Reference4Ideal.Token.refNorms_eq ..)).trans ?_, (r c).2.2⟩) (Reference4Ideal.Token.run_total m' g')
    · obtain ⟨h0, h1, h2, h3, h4, h5, h6, h7, h8⟩ := hm c
      rw [h0, h1, h2, h3]
    · obtain ⟨h0, h1, h2, h3, h4, h5, h6, h7, h8⟩ := hm c
      rw [h0, h1, h2, h3, h4, h5, h6]

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_in_range.Gen.facts,
  fun m g hp => Kernel.Moe.frame_main m g (let hr := Range.in_range _ _ _ _ _ _ (hp 0); ⟨hr.1, hr.2⟩),
  fun m g hp => KernelIdeal.Moe.frame_main m g (let hr := Range.in_range _ _ _ _ _ _ (hp 0); ⟨hr.1, hr.2⟩),
  fun m g _ => ReferenceIdeal.Moe.frame_main m g,
  fun m g _ => ReferenceIdeal.Moe.frame_main m g,
  fun m g _ => Cert.Kernel2.Gen.frame m g,
  fun m g _ => Cert.Kernel2Ideal.Gen.frame m g,
  fun m g _ => Reference2Ideal.Dense.frame_main m g,
  fun m g _ => Cert.Kernel3.Gen.frame m g,
  fun m g _ => Cert.Kernel3Ideal.Gen.frame m g,
  fun m g _ => Reference3Ideal.Attend.frame_main m g,
  fun m g _ => Cert.Kernel4.Gen.frame m g,
  fun m g _ => Cert.Kernel4Ideal.Gen.frame m g,
  fun m g _ => Reference4Ideal.Token.frame_main m g,
  trivial, algebraic, trivial, algebraic2, preserves3, algebraic3, trivial, algebraic4⟩

end Cert.Proof

end
